-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15)
      ∧ r.2.mem ((c.tc : Thread Cert.Post.nD Cert.Post.τ).loc Cert.Post.main_arg16) = m ((c.tc : Thread Cert.Post.nD Cert.Post.τ).loc Cert.Post.main_arg16))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
      ∧ r.2.mem ((c.tc : Thread Cert.PostIdeal.nD Cert.PostIdeal.τ).loc Cert.PostIdeal.main_arg16) = m ((c.tc : Thread Cert.PostIdeal.nD Cert.PostIdeal.τ).loc Cert.PostIdeal.main_arg16))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14)
      ∧ r.2.mem ((c.tc : Thread Cert.PostReferenceIdeal.nD Cert.PostReferenceIdeal.τ).loc Cert.PostReferenceIdeal.main_arg15) = m ((c.tc : Thread Cert.PostReferenceIdeal.nD Cert.PostReferenceIdeal.τ).loc Cert.PostReferenceIdeal.main_arg15)
      ∧ r.2.mem ((c.tc : Thread Cert.PostReferenceIdeal.nD Cert.PostReferenceIdeal.τ).loc Cert.PostReferenceIdeal.main_arg16) = m ((c.tc : Thread Cert.PostReferenceIdeal.nD Cert.PostReferenceIdeal.τ).loc Cert.PostReferenceIdeal.main_arg16))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Post_PostIdeal : Prop :=
  IdealRules.bf16_pair.PackStatement Cert.PostIdeal.S512x512
  ∧ IdealRules.bf16_pair.Statement Cert.PostIdeal.S1024x512 Cert.PostIdeal.S512x512

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)
      ∧ m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12)
      ∧ m' ((c.tc : Thread Cert.PostReferenceIdeal.nD Cert.PostReferenceIdeal.τ).loc Cert.PostReferenceIdeal.main_arg13) = m ((c.tc : Thread Cert.PostIdeal.nD Cert.PostIdeal.τ).loc Cert.PostIdeal.main_arg13)
      ∧ m' ((c.tc : Thread Cert.PostReferenceIdeal.nD Cert.PostReferenceIdeal.τ).loc Cert.PostReferenceIdeal.main_arg14) = m ((c.tc : Thread Cert.PostIdeal.nD Cert.PostIdeal.τ).loc Cert.PostIdeal.main_arg14)
      ∧ m' ((c.tc : Thread Cert.PostReferenceIdeal.nD Cert.PostReferenceIdeal.τ).loc Cert.PostReferenceIdeal.main_arg15) = m ((c.tc : Thread Cert.PostIdeal.nD Cert.PostIdeal.τ).loc Cert.PostIdeal.main_arg15)
      ∧ m' ((c.tc : Thread Cert.PostReferenceIdeal.nD Cert.PostReferenceIdeal.τ).loc Cert.PostReferenceIdeal.main_arg16) = m ((c.tc : Thread Cert.PostIdeal.nD Cert.PostIdeal.τ).loc Cert.PostIdeal.main_arg16)) →
    ∃ (v0 : (c : Dev Cert.PostIdeal.nD) → Buf (Elt Ideal) ((c.tc : Thread Cert.PostIdeal.nD Cert.PostIdeal.τ).loc Cert.PostIdeal.main_v28_0)) (v1 : (c : Dev Cert.PostIdeal.nD) → Buf (Elt Ideal) ((c.tc : Thread Cert.PostIdeal.nD Cert.PostIdeal.τ).loc Cert.PostIdeal.main_v28_1)) (v2 : (c : Dev Cert.PostIdeal.nD) → Buf (Elt Ideal) ((c.tc : Thread Cert.PostIdeal.nD Cert.PostIdeal.τ).loc Cert.PostIdeal.main_v28_2)) (v3 : (c : Dev Cert.PostIdeal.nD) → Buf (Elt Ideal) ((c.tc : Thread Cert.PostIdeal.nD Cert.PostIdeal.τ).loc Cert.PostIdeal.main_v28_3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v28_0) = v0 c
          ∧ r.2.mem ((c.tc : Thread Cert.PostIdeal.nD Cert.PostIdeal.τ).loc Cert.PostIdeal.main_v28_1) = v1 c
          ∧ r.2.mem ((c.tc : Thread Cert.PostIdeal.nD Cert.PostIdeal.τ).loc Cert.PostIdeal.main_v28_2) = v2 c
          ∧ r.2.mem ((c.tc : Thread Cert.PostIdeal.nD Cert.PostIdeal.τ).loc Cert.PostIdeal.main_v28_3) = v3 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
          ∧ r.2.mem ((c.tc : Thread Cert.PostIdeal.nD Cert.PostIdeal.τ).loc Cert.PostIdeal.main_arg16) = m ((c.tc : Thread Cert.PostIdeal.nD Cert.PostIdeal.τ).loc Cert.PostIdeal.main_arg16))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v66) = v0 c
          ∧ r.2.mem ((c.tc : Thread Cert.PostReferenceIdeal.nD Cert.PostReferenceIdeal.τ).loc Cert.PostReferenceIdeal.main_v155) = v1 c
          ∧ r.2.mem ((c.tc : Thread Cert.PostReferenceIdeal.nD Cert.PostReferenceIdeal.τ).loc Cert.PostReferenceIdeal.main_v153) = v2 c
          ∧ r.2.mem ((c.tc : Thread Cert.PostReferenceIdeal.nD Cert.PostReferenceIdeal.τ).loc Cert.PostReferenceIdeal.main_v156) = v3 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12)
          ∧ r.2.mem ((c.tc : Thread Cert.PostReferenceIdeal.nD Cert.PostReferenceIdeal.τ).loc Cert.PostReferenceIdeal.main_arg13) = m' ((c.tc : Thread Cert.PostReferenceIdeal.nD Cert.PostReferenceIdeal.τ).loc Cert.PostReferenceIdeal.main_arg13)
          ∧ r.2.mem ((c.tc : Thread Cert.PostReferenceIdeal.nD Cert.PostReferenceIdeal.τ).loc Cert.PostReferenceIdeal.main_arg14) = m' ((c.tc : Thread Cert.PostReferenceIdeal.nD Cert.PostReferenceIdeal.τ).loc Cert.PostReferenceIdeal.main_arg14)
          ∧ r.2.mem ((c.tc : Thread Cert.PostReferenceIdeal.nD Cert.PostReferenceIdeal.τ).loc Cert.PostReferenceIdeal.main_arg15) = m' ((c.tc : Thread Cert.PostReferenceIdeal.nD Cert.PostReferenceIdeal.τ).loc Cert.PostReferenceIdeal.main_arg15)
          ∧ r.2.mem ((c.tc : Thread Cert.PostReferenceIdeal.nD Cert.PostReferenceIdeal.τ).loc Cert.PostReferenceIdeal.main_arg16) = m' ((c.tc : Thread Cert.PostReferenceIdeal.nD Cert.PostReferenceIdeal.τ).loc Cert.PostReferenceIdeal.main_arg16))

def preserves_Inproj_InprojIdeal : Prop :=
  True

def algebraic_InprojIdeal_InprojReferenceIdeal_on_inproj_claimed [hInprojIdeal : Cert.InprojIdeal.Facts] [hInprojReferenceIdeal : Cert.InprojReferenceIdeal.Facts] [hOn_inproj_claimed : Cert.On_inproj_claimed.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)
      ∧ m' ((c.tc : Thread Cert.InprojReferenceIdeal.nD Cert.InprojReferenceIdeal.τ).loc Cert.InprojReferenceIdeal.main_arg9) = m ((c.tc : Thread Cert.InprojIdeal.nD Cert.InprojIdeal.τ).loc Cert.InprojIdeal.main_arg9)) →
    ∃ (v0 : (c : Dev Cert.InprojIdeal.nD) → Buf (Elt Ideal) ((c.tc : Thread Cert.InprojIdeal.nD Cert.InprojIdeal.τ).loc Cert.InprojIdeal.main_v35_0)) (v1 : (c : Dev Cert.InprojIdeal.nD) → Buf (Elt Ideal) ((c.tc : Thread Cert.InprojIdeal.nD Cert.InprojIdeal.τ).loc Cert.InprojIdeal.main_v35_1)) (v2 : (c : Dev Cert.InprojIdeal.nD) → Buf (Elt Ideal) ((c.tc : Thread Cert.InprojIdeal.nD Cert.InprojIdeal.τ).loc Cert.InprojIdeal.main_v35_2)) (v3 : (c : Dev Cert.InprojIdeal.nD) → Buf (Elt Ideal) ((c.tc : Thread Cert.InprojIdeal.nD Cert.InprojIdeal.τ).loc Cert.InprojIdeal.main_v35_3)) (v4 : (c : Dev Cert.InprojIdeal.nD) → Buf (Elt Ideal) ((c.tc : Thread Cert.InprojIdeal.nD Cert.InprojIdeal.τ).loc Cert.InprojIdeal.main_v35_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          (∀ i : (⟨5, ![16, 3, 1, 4096, 256]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).1 i = 1#1 → r.2.mem ((c.tc : Thread Cert.InprojIdeal.nD Cert.InprojIdeal.τ).loc Cert.InprojIdeal.main_v35_0) i = v0 c i)
          ∧ (∀ i : (⟨5, ![16, 3, 4, 1024, 256]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.1 i = 1#1 → r.2.mem ((c.tc : Thread Cert.InprojIdeal.nD Cert.InprojIdeal.τ).loc Cert.InprojIdeal.main_v35_1) i = v1 c i)
          ∧ (∀ i : (⟨5, ![16, 3, 16, 256, 256]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.2.1 i = 1#1 → r.2.mem ((c.tc : Thread Cert.InprojIdeal.nD Cert.InprojIdeal.τ).loc Cert.InprojIdeal.main_v35_2) i = v2 c i)
          ∧ (∀ i : (⟨2, ![65536, 1024]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.2.2.1 i = 1#1 → r.2.mem ((c.tc : Thread Cert.InprojIdeal.nD Cert.InprojIdeal.τ).loc Cert.InprojIdeal.main_v35_3) i = v3 c i)
          ∧ (∀ i : (⟨2, ![65536, 1024]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.2.2.2 i = 1#1 → r.2.mem ((c.tc : Thread Cert.InprojIdeal.nD Cert.InprojIdeal.τ).loc Cert.InprojIdeal.main_v35_4) i = v4 c i)
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          (∀ i : (⟨5, ![16, 3, 1, 4096, 256]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).1 i = 1#1 → r.2.mem ((c.tc : Thread Cert.InprojReferenceIdeal.nD Cert.InprojReferenceIdeal.τ).loc Cert.InprojReferenceIdeal.main_v82) i = v0 c i)
          ∧ (∀ i : (⟨5, ![16, 3, 4, 1024, 256]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.1 i = 1#1 → r.2.mem ((c.tc : Thread Cert.InprojReferenceIdeal.nD Cert.InprojReferenceIdeal.τ).loc Cert.InprojReferenceIdeal.main_v98) i = v1 c i)
          ∧ (∀ i : (⟨5, ![16, 3, 16, 256, 256]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.2.1 i = 1#1 → r.2.mem ((c.tc : Thread Cert.InprojReferenceIdeal.nD Cert.InprojReferenceIdeal.τ).loc Cert.InprojReferenceIdeal.main_v114) i = v2 c i)
          ∧ (∀ i : (⟨2, ![65536, 1024]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.2.2.1 i = 1#1 → r.2.mem ((c.tc : Thread Cert.InprojReferenceIdeal.nD Cert.InprojReferenceIdeal.τ).loc Cert.InprojReferenceIdeal.main_v201) i = v3 c i)
          ∧ (∀ i : (⟨2, ![65536, 1024]⟩ : Shape).Idx, (Cert.On_inproj_claimed.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.2.2.2 i = 1#1 → r.2.mem ((c.tc : Thread Cert.InprojReferenceIdeal.nD Cert.InprojReferenceIdeal.τ).loc Cert.InprojReferenceIdeal.main_v205) i = v4 c i)
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hInproj : Cert.Inproj.Facts) (hInprojIdeal : Cert.InprojIdeal.Facts) (hInprojReferenceIdeal : Cert.InprojReferenceIdeal.Facts) (hOn_inproj_claimed : Cert.On_inproj_claimed.Facts),
    quiescent_Kernel (hKernel := hKernel)
    ∧ quiescent_KernelIdeal (hKernelIdeal := hKernelIdeal)
    ∧ quiescent_ReferenceIdeal (hReferenceIdeal := hReferenceIdeal)
    ∧ quiescent_Post (hPost := hPost)
    ∧ quiescent_PostIdeal (hPostIdeal := hPostIdeal)
    ∧ quiescent_PostReferenceIdeal (hPostReferenceIdeal := hPostReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal (hKernelIdeal := hKernelIdeal) (hReferenceIdeal := hReferenceIdeal)
    ∧ preserves_Post_PostIdeal
    ∧ algebraic_PostIdeal_PostReferenceIdeal (hPostIdeal := hPostIdeal) (hPostReferenceIdeal := hPostReferenceIdeal)
    ∧ preserves_Inproj_InprojIdeal
    ∧ algebraic_InprojIdeal_InprojReferenceIdeal_on_inproj_claimed (hInprojIdeal := hInprojIdeal) (hInprojReferenceIdeal := hInprojReferenceIdeal) (hOn_inproj_claimed := hOn_inproj_claimed)
-- ==== On_inproj_claimed.lean ====
abbrev S16x4096x1024 : Shape := ⟨3, ![16, 4096, 1024]⟩
abbrev S16x4096 : Shape := ⟨2, ![16, 4096]⟩
abbrev S1x1024 : Shape := ⟨2, ![1, 1024]⟩
abbrev S1x1024x5376 : Shape := ⟨3, ![1, 1024, 5376]⟩
abbrev S1x2048 : Shape := ⟨2, ![1, 2048]⟩
abbrev S1x4x128x128 : Shape := ⟨4, ![1, 4, 128, 128]⟩
abbrev S1x4x128 : Shape := ⟨3, ![1, 4, 128]⟩
abbrev S1x512 : Shape := ⟨2, ![1, 512]⟩
abbrev S1x512x1024 : Shape := ⟨3, ![1, 512, 1024]⟩
abbrev S16x3x1x4096x256 : Shape := ⟨5, ![16, 3, 1, 4096, 256]⟩
abbrev S_ : Shape := ⟨0, ![]⟩
abbrev S16x3x4x1024x256 : Shape := ⟨5, ![16, 3, 4, 1024, 256]⟩
abbrev S16x3x16x256x256 : Shape := ⟨5, ![16, 3, 16, 256, 256]⟩
abbrev S65536x1024 : Shape := ⟨2, ![65536, 1024]⟩

class Facts : Prop where
  bcast_S_S16x3x1x4096x256 : S_.BroadcastsInDim S16x3x1x4096x256 (![] : Fin 0 → Fin S16x3x1x4096x256.rank)
  bcast_S_S16x3x4x1024x256 : S_.BroadcastsInDim S16x3x4x1024x256 (![] : Fin 0 → Fin S16x3x4x1024x256.rank)
  bcast_S_S16x3x16x256x256 : S_.BroadcastsInDim S16x3x16x256x256 (![] : Fin 0 → Fin S16x3x16x256x256.rank)
  bcast_S_S65536x1024 : S_.BroadcastsInDim S65536x1024 (![] : Fin 0 → Fin S65536x1024.rank)

variable [Facts]

def fn {F : FTy → Type} [FloatOps F] (main_arg0 : FVec F S16x4096x1024 .f32) (main_arg1 : IVec S16x4096 32) (main_arg2 : FVec F S1x1024 .f32) (main_arg3 : FVec F S1x1024x5376 .f32) (main_arg4 : FVec F S1x2048 .f32) (main_arg5 : FVec F S1x4x128x128 .f32) (main_arg6 : FVec F S1x4x128 .f32) (main_arg7 : FVec F S1x512 .f32) (main_arg8 : FVec F S1x512 .f32) (main_arg9 : FVec F S1x512x1024 .f32) : IVec S16x3x1x4096x256 1 × IVec S16x3x4x1024x256 1 × IVec S16x3x16x256x256 1 × IVec S65536x1024 1 × IVec S65536x1024 1 :=
  let main_v0 : IVec S16x3x1x4096x256 32 := iotaInDim S16x3x1x4096x256 32 1
  let main_c : IVec S_ 32 := constantI S_ 32 2#32
  let main_v1 : IVec S16x3x1x4096x256 32 := broadcastInDim S16x3x1x4096x256 ![] bcast_S_S16x3x1x4096x256 main_c
  let main_v2 : IVec S16x3x1x4096x256 1 := cmpi .eq main_v0 main_v1
  let main_v3 : IVec S16x3x4x1024x256 32 := iotaInDim S16x3x4x1024x256 32 1
  let main_c_0 : IVec S_ 32 := constantI S_ 32 2#32
  let main_v4 : IVec S16x3x4x1024x256 32 := broadcastInDim S16x3x4x1024x256 ![] bcast_S_S16x3x4x1024x256 main_c_0
  let main_v5 : IVec S16x3x4x1024x256 1 := cmpi .eq main_v3 main_v4
  let main_v6 : IVec S16x3x16x256x256 32 := iotaInDim S16x3x16x256x256 32 1
  let main_c_1 : IVec S_ 32 := constantI S_ 32 2#32
  let main_v7 : IVec S16x3x16x256x256 32 := broadcastInDim S16x3x16x256x256 ![] bcast_S_S16x3x16x256x256 main_c_1
  let main_v8 : IVec S16x3x16x256x256 1 := cmpi .eq main_v6 main_v7
  let main_c_2 : IVec S_ 1 := constantI S_ 1 1#1
  let main_v9 : IVec S65536x1024 1 := broadcastInDim S65536x1024 ![] bcast_S_S65536x1024 main_c_2
  let main_c_3 : IVec S_ 1 := constantI S_ 1 1#1
  let main_v10 : IVec S65536x1024 1 := broadcastInDim S65536x1024 ![] bcast_S_S65536x1024 main_c_3
  (main_v2, main_v5, main_v8, main_v9, main_v10)
-- ==== Kernel.lean ====
abbrev S65536x8 : Shape := ⟨2, ![65536, 8]⟩
abbrev S65536x1024 : Shape := ⟨2, ![65536, 1024]⟩
abbrev S1024 : Shape := ⟨1, ![1024]⟩
abbrev S8192x512 : Shape := ⟨2, ![8192, 512]⟩
abbrev S24576x512 : Shape := ⟨2, ![24576, 512]⟩
abbrev S32768x512 : Shape := ⟨2, ![32768, 512]⟩
abbrev S1x1024 : Shape := ⟨2, ![1, 1024]⟩
abbrev S1024x8 : Shape := ⟨2, ![1024, 8]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 15
  | .vmem => 33
  | .smem => 0
  | _ => 0

abbrev bufTy : (tb : Table) → Fin (tcTables nBuf tb) → BufTy
  | .hbm, ⟨0, _⟩ => ⟨S65536x8, .f32⟩
  | .hbm, ⟨1, _⟩ => ⟨S65536x1024, .f32⟩
  | .hbm, ⟨2, _⟩ => ⟨S1024, .f32⟩
  | .hbm, ⟨3, _⟩ => ⟨S8192x512, .i32⟩
  | .hbm, ⟨4, _⟩ => ⟨S8192x512, .i32⟩
  | .hbm, ⟨5, _⟩ => ⟨S24576x512, .i32⟩
  | .hbm, ⟨6, _⟩ => ⟨S24576x512, .i32⟩
  | .hbm, ⟨7, _⟩ => ⟨S32768x512, .i32⟩
  | .hbm, ⟨8, _⟩ => ⟨S32768x512, .i32⟩
  | .hbm, ⟨9, _⟩ => ⟨S1x1024, .f32⟩
  | .hbm, ⟨10, _⟩ => ⟨S65536x1024, .f32⟩
  | .hbm, ⟨11, _⟩ => ⟨S1x1024, .f32⟩
  | .hbm, ⟨12, _⟩ => ⟨S65536x1024, .f32⟩
  | .hbm, ⟨13, _⟩ => ⟨S1x1024, .f32⟩
  | .hbm, ⟨14, _⟩ => ⟨S65536x1024, .f32⟩
  | .local _ .vmem, ⟨0, _⟩ => ⟨S1024x8, .f32⟩
  | .local _ .vmem, ⟨1, _⟩ => ⟨S1024x8, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x512, .i32⟩
  | .local _ .vmem, ⟨6, _⟩ => ⟨S1024x512, .i32⟩
  | .local _ .vmem, ⟨7, _⟩ => ⟨S1024x512, .i32⟩
  | .local _ .vmem, ⟨8, _⟩ => ⟨S1024x512, .i32⟩
  | .local _ .vmem, ⟨9, _⟩ => ⟨S1024x1024, .f32⟩
  | .local _ .vmem, ⟨10, _⟩ => ⟨S1024x1024, .f32⟩
  | .local _ .vmem, ⟨11, _⟩ => ⟨S1024x8, .f32⟩
  | .local _ .vmem, ⟨12, _⟩ => ⟨S1024x8, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x512, .i32⟩
  | .local _ .vmem, ⟨17, _⟩ => ⟨S1024x512, .i32⟩
  | .local _ .vmem, ⟨18, _⟩ => ⟨S1024x512, .i32⟩
  | .local _ .vmem, ⟨19, _⟩ => ⟨S1024x512, .i32⟩
  | .local _ .vmem, ⟨20, _⟩ => ⟨S1024x1024, .f32⟩
  | .local _ .vmem, ⟨21, _⟩ => ⟨S1024x1024, .f32⟩
  | .local _ .vmem, ⟨22, _⟩ => ⟨S1024x8, .f32⟩
  | .local _ .vmem, ⟨23, _⟩ => ⟨S1024x8, .f32⟩
  | .local _ .vmem, ⟨24, _⟩ => ⟨S1024x1024, .f32⟩
  | .local _ .vmem, ⟨25, _⟩ => ⟨S1024x1024, .f32⟩
  | .local _ .vmem, ⟨26, _⟩ => ⟨S1x1024, .f32⟩
  | .local _ .vmem, ⟨27, _⟩ => ⟨S1024x512, .i32⟩
  | .local _ .vmem, ⟨28, _⟩ => ⟨S1024x512, .i32⟩
  | .local _ .vmem, ⟨29, _⟩ => ⟨S1024x512, .i32⟩
  | .local _ .vmem, ⟨30, _⟩ => ⟨S1024x512, .i32⟩
  | .local _ .vmem, ⟨31, _⟩ => ⟨S1024x1024, .f32⟩
  | .local _ .vmem, ⟨32, _⟩ => ⟨S1024x1024, .f32⟩
  | _, _ => ⟨S65536x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![24], ![false]⟩

def cc1_transform_0 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

abbrev stage1_0 : Fin 2 → Memref sig .tc .vmem S1024x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

abbrev stage2_0 : Fin 2 → Memref sig .tc .vmem S1024x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x512 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S65536x8 : Shape := ⟨2, ![65536, 8]⟩
abbrev S65536x1024 : Shape := ⟨2, ![65536, 1024]⟩
abbrev S1024 : Shape := ⟨1, ![1024]⟩
abbrev S8192x512 : Shape := ⟨2, ![8192, 512]⟩
abbrev S24576x512 : Shape := ⟨2, ![24576, 512]⟩
abbrev S32768x512 : Shape := ⟨2, ![32768, 512]⟩
abbrev S65536x512 : Shape := ⟨2, ![65536, 512]⟩
abbrev S65536x512x2 : Shape := ⟨3, ![65536, 512, 2]⟩
abbrev S65536x2x512 : Shape := ⟨3, ![65536, 2, 512]⟩
abbrev S65536x1 : Shape := ⟨2, ![65536, 1]⟩
abbrev S_ : Shape := ⟨0, ![]⟩
abbrev S65536 : Shape := ⟨1, ![65536]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S65536x8, .f32⟩
  | .hbm, ⟨1, _⟩ => ⟨S65536x1024, .f32⟩
  | .hbm, ⟨2, _⟩ => ⟨S1024, .f32⟩
  | .hbm, ⟨3, _⟩ => ⟨S8192x512, .i32⟩
  | .hbm, ⟨4, _⟩ => ⟨S8192x512, .i32⟩
  | .hbm, ⟨5, _⟩ => ⟨S24576x512, .i32⟩
  | .hbm, ⟨6, _⟩ => ⟨S24576x512, .i32⟩
  | .hbm, ⟨7, _⟩ => ⟨S32768x512, .i32⟩
  | .hbm, ⟨8, _⟩ => ⟨S32768x512, .i32⟩
  | .hbm, ⟨9, _⟩ => ⟨S65536x512, .i32⟩
  | .hbm, ⟨10, _⟩ => ⟨S65536x512, .i32⟩
  | .hbm, ⟨11, _⟩ => ⟨S65536x512x2, .i16⟩
  | .hbm, ⟨12, _⟩ => ⟨S65536x512x2, .bf16⟩
  | .hbm, ⟨13, _⟩ => ⟨S65536x2x512, .bf16⟩
  | .hbm, ⟨14, _⟩ => ⟨S65536x1024, .bf16⟩
  | .hbm, ⟨15, _⟩ => ⟨S65536x1024, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S65536x512x2, .i16⟩
  | .hbm, ⟨20, _⟩ => ⟨S65536x512x2, .bf16⟩
  | .hbm, ⟨21, _⟩ => ⟨S65536x2x512, .bf16⟩
  | .hbm, ⟨22, _⟩ => ⟨S65536x1024, .bf16⟩
  | .hbm, ⟨23, _⟩ => ⟨S65536x1024, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S65536x1024, .f32⟩
  | .hbm, ⟨44, _⟩ => ⟨S65536x1024, .f32⟩
  | _, _ => ⟨S65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Post.lean ====
abbrev S65536x256 : Shape := ⟨2, ![65536, 256]⟩
abbrev S65536x1024 : Shape := ⟨2, ![65536, 1024]⟩
abbrev S16x4096x1024 : Shape := ⟨3, ![16, 4096, 1024]⟩
abbrev S16x256x1024 : Shape := ⟨3, ![16, 256, 1024]⟩
abbrev S1x1024 : Shape := ⟨2, ![1, 1024]⟩
abbrev S1x1024x2048 : Shape := ⟨3, ![1, 1024, 2048]⟩
abbrev S1x256x1024 : Shape := ⟨3, ![1, 256, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x32 : Shape := ⟨2, ![1024, 32]⟩
abbrev S1024x4 : Shape := ⟨2, ![1024, 4]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S4 : Shape := ⟨1, ![4]⟩
abbrev S92 : Shape := ⟨1, ![92]⟩
abbrev S128 : Shape := ⟨1, ![128]⟩
abbrev S1x128 : Shape := ⟨2, ![1, 128]⟩
abbrev S4096x1024 : Shape := ⟨2, ![4096, 1024]⟩
abbrev S1024 : Shape := ⟨1, ![1024]⟩
abbrev S1024x2048 : Shape := ⟨2, ![1024, 2048]⟩
abbrev S256x1024 : Shape := ⟨2, ![256, 1024]⟩
abbrev S1024x1024 : Shape := ⟨2, ![1024, 1024]⟩
abbrev S131072x512 : Shape := ⟨2, ![131072, 512]⟩
abbrev S65536x8 : Shape := ⟨2, ![65536, 8]⟩
abbrev S8x65536 : Shape := ⟨2, ![8, 65536]⟩
abbrev S1024x256 : Shape := ⟨2, ![1024, 256]⟩
abbrev S2048x512 : Shape := ⟨2, ![2048, 512]⟩
abbrev S1024x8 : Shape := ⟨2, ![1024, 8]⟩
abbrev S8x1024 : Shape := ⟨2, ![8, 1024]⟩
abbrev S256x2048 : Shape := ⟨2, ![256, 2048]⟩
abbrev S256 : Shape := ⟨1, ![256]⟩
abbrev S256x1 : Shape := ⟨2, ![256, 1]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S256x256 : Shape := ⟨2, ![256, 256]⟩
abbrev S512x512 : Shape := ⟨2, ![512, 512]⟩
abbrev S1024x512 : Shape := ⟨2, ![1024, 512]⟩
abbrev S512x128 : Shape := ⟨2, ![512, 128]⟩
abbrev S512x8 : Shape := ⟨2, ![512, 8]⟩
abbrev S128x512 : Shape := ⟨2, ![128, 512]⟩
abbrev S8x512 : Shape := ⟨2, ![8, 512]⟩

abbrev nBuf : Space → Nat
  | .hbm => 51
  | .vmem => 30
  | .smem => 0
  | _ => 0

abbrev bufTy : (tb : Table) → Fin (tcTables nBuf tb) → BufTy
  | .hbm, ⟨0, _⟩ => ⟨S65536x256, .bf16⟩
  | .hbm, ⟨1, _⟩ => ⟨S65536x1024, .bf16⟩
  | .hbm, ⟨2, _⟩ => ⟨S65536x1024, .bf16⟩
  | .hbm, ⟨3, _⟩ => ⟨S16x4096x1024, .f32⟩
  | .hbm, ⟨4, _⟩ => ⟨S16x256x1024, .f32⟩
  | .hbm, ⟨5, _⟩ => ⟨S1x1024, .f32⟩
  | .hbm, ⟨6, _⟩ => ⟨S1x1024x2048, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S1x1024x1024, .f32⟩
  | .hbm, ⟨11, _⟩ => ⟨S1x1024x1024, .f32⟩
  | .hbm, ⟨12, _⟩ => ⟨S1x1024, .f32⟩
  | .hbm, ⟨13, _⟩ => ⟨S1x1024x4, .f32⟩
  | .hbm, ⟨14, _⟩ => ⟨S1x4, .f32⟩
  | .hbm, ⟨15, _⟩ => ⟨S1x1024x32, .f32⟩
  | .hbm, ⟨16, _⟩ => ⟨S1x32, .f32⟩
  | .hbm, ⟨17, _⟩ => ⟨S65536x1024, .f32⟩
  | .hbm, ⟨18, _⟩ => ⟨S1024x32, .f32⟩
  | .hbm, ⟨19, _⟩ => ⟨S1024x4, .f32⟩
  | .hbm, ⟨20, _⟩ => ⟨S_, .f32⟩
  | .hbm, ⟨21, _⟩ => ⟨S1024x92, .f32⟩
  | .hbm, ⟨22, _⟩ => ⟨S1024x128, .f32⟩
  | .hbm, ⟨23, _⟩ => ⟨S32, .f32⟩
  | .hbm, ⟨24, _⟩ => ⟨S4, .f32⟩
  | .hbm, ⟨25, _⟩ => ⟨S_, .f32⟩
  | .hbm, ⟨26, _⟩ => ⟨S92, .f32⟩
  | .hbm, ⟨27, _⟩ => ⟨S128, .f32⟩
  | .hbm, ⟨28, _⟩ => ⟨S1x128, .f32⟩
  | .hbm, ⟨29, _⟩ => ⟨S4096x1024, .f32⟩
  | .hbm, ⟨30, _⟩ => ⟨S1024, .f32⟩
  | .hbm, ⟨31, _⟩ => ⟨S1x1024, .f32⟩
  | .hbm, ⟨32, _⟩ => ⟨S1024x2048, .f32⟩
  | .hbm, ⟨33, _⟩ => ⟨S1024x2048, .bf16⟩
  | .hbm, ⟨34, _⟩ => ⟨S256x1024, .f32⟩
  | .hbm, ⟨35, _⟩ => ⟨S256x1024, .bf16⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S1024x1024, .f32⟩
  | .hbm, ⟨41, _⟩ => ⟨S1024x1024, .bf16⟩
  | .hbm, ⟨42, _⟩ => ⟨S1024x1024, .f32⟩
  | .hbm, ⟨43, _⟩ => ⟨S1024x1024, .bf16⟩
  | .hbm, ⟨44, _⟩ => ⟨S1024, .f32⟩
  | .hbm, ⟨45, _⟩ => ⟨S1x1024, .f32⟩
  | .hbm, ⟨46, _⟩ => ⟨S1024x128, .bf16⟩
  | .hbm, ⟨47, _⟩ => ⟨S65536x1024, .f32⟩
  | .hbm, ⟨48, _⟩ => ⟨S131072x512, .bf16⟩
  | .hbm, ⟨49, _⟩ => ⟨S65536x8, .f32⟩
  | .hbm, ⟨50, _⟩ => ⟨S8x65536, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x2048, .bf16⟩
  | .local _ .vmem, ⟨12, _⟩ => ⟨S256x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x128, .bf16⟩
  | .local _ .vmem, ⟨19, _⟩ => ⟨S1x128, .f32⟩
  | .local _ .vmem, ⟨20, _⟩ => ⟨S1024x1024, .f32⟩
  | .local _ .vmem, ⟨21, _⟩ => ⟨S1024x1024, .f32⟩
  | .local _ .vmem, ⟨22, _⟩ => ⟨S2048x512, .bf16⟩
  | .local _ .vmem, ⟨23, _⟩ => ⟨S2048x512, .bf16⟩
  | .local _ .vmem, ⟨24, _⟩ => ⟨S1024x8, .f32⟩
  | .local _ .vmem, ⟨25, _⟩ => ⟨S1024x8, .f32⟩
  | .local _ .vmem, ⟨26, _⟩ => ⟨S8x1024, .f32⟩
  | .local _ .vmem, ⟨27, _⟩ => ⟨S8x1024, .f32⟩
  | .local _ .vmem, ⟨28, _⟩ => ⟨S1024x1024, .bf16⟩
  | .local _ .vmem, ⟨29, _⟩ => ⟨S256x2048, .bf16⟩
  | _, _ => ⟨S65536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v28_2 : Ref sig .tc := ⟨.hbm, 49, rfl⟩
abbrev main_v28_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== PostIdeal.lean ====
variable {F : FTy → Type} [FloatOps F]
-- ==== PostReferenceIdeal.lean ====
abbrev S65536x256 : Shape := ⟨2, ![65536, 256]⟩
abbrev S65536x1024 : Shape := ⟨2, ![65536, 1024]⟩
abbrev S16x4096x1024 : Shape := ⟨3, ![16, 4096, 1024]⟩
abbrev S16x256x1024 : Shape := ⟨3, ![16, 256, 1024]⟩
abbrev S1x1024 : Shape := ⟨2, ![1, 1024]⟩
abbrev S1x1024x2048 : Shape := ⟨3, ![1, 1024, 2048]⟩
abbrev S1x256x1024 : Shape := ⟨3, ![1, 256, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S16x4096x4x256 : Shape := ⟨4, ![16, 4096, 4, 256]⟩
abbrev S16x256 : Shape := ⟨2, ![16, 256]⟩
abbrev S16x256x1 : Shape := ⟨3, ![16, 256, 1]⟩
abbrev S1x1x1024 : Shape := ⟨3, ![1, 1, 1024]⟩
abbrev S1024x2048 : Shape := ⟨2, ![1024, 2048]⟩
abbrev S16x256x2048 : Shape := ⟨3, ![16, 256, 2048]⟩
abbrev S16x256x2x4x256 : Shape := ⟨5, ![16, 256, 2, 4, 256]⟩
abbrev S16x256x1x4x256 : Shape := ⟨5, ![16, 256, 1, 4, 256]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S1024x4 : Shape := ⟨2, ![1024, 4]⟩
abbrev S65536x4 : Shape := ⟨2, ![65536, 4]⟩
abbrev S4 : Shape := ⟨1, ![4]⟩
abbrev S65536x32 : Shape := ⟨2, ![65536, 32]⟩
abbrev S1024x32 : Shape := ⟨2, ![1024, 32]⟩
abbrev S32 : Shape := ⟨1, ![32]⟩
abbrev S65536x8 : Shape := ⟨2, ![65536, 8]⟩
abbrev S131072x512 : Shape := ⟨2, ![131072, 512]⟩
abbrev S8x65536 : Shape := ⟨2, ![8, 65536]⟩

abbrev nBuf : Space → Nat
  | .hbm => 215
  | .vmem => 0
  | .smem => 0
  | _ => 0

abbrev hbmTy0_0 (i : Nat) : BufTy := match i % 128 with
  | 0 => ⟨S65536x256, .bf16⟩
  | 1 => ⟨S65536x1024, .bf16⟩
  | 2 => ⟨S65536x1024, .bf16⟩
  | 3 => ⟨S16x4096x1024, .f32⟩
  | 4 => ⟨S16x256x1024, .f32⟩
  | 5 => ⟨S1x1024, .f32⟩
  | 6 => ⟨S1x1024x2048, .f32⟩
  | 7 => ⟨S1x256x1024, .f32⟩
  | 8 => ⟨S1x1024x1024, .f32⟩
  | 9 => ⟨S1x1024, .f32⟩
  | 10 => ⟨S1x1024x1024, .f32⟩
  | 11 => ⟨S1x1024x1024, .f32⟩
  | 12 => ⟨S1x1024, .f32⟩
  | 13 => ⟨S1x1024x4, .f32⟩
  | 14 => ⟨S1x4, .f32⟩
  | 15 => ⟨S1x1024x32, .f32⟩
  | 16 => ⟨S1x32, .f32⟩
  | 17 => ⟨S65536x1024, .f32⟩
  | 18 => ⟨S65536x1024, .f32⟩
  | 19 => ⟨S65536x256, .f32⟩
  | 20 => ⟨S256x1024, .f32⟩
  | 21 => ⟨S65536x1024, .f32⟩
  | 22 => ⟨S65536x1024, .f32⟩
  | 23 => ⟨S65536x1024, .f32⟩
  | 24 => ⟨S65536x1024, .f32⟩
  | 25 => ⟨S1024x1024, .f32⟩
  | 26 => ⟨S65536x1024, .f32⟩
  | 27 => ⟨S65536x1024, .f32⟩
  | 28 => ⟨S1024, .f32⟩
  | 29 => ⟨S65536x1024, .f32⟩
  | 30 => ⟨S_, .f32⟩
  | 31 => ⟨S65536, .f32⟩
  | 32 => ⟨S65536x1, .f32⟩
  | 33 => ⟨S_, .f32⟩
  | 34 => ⟨S65536x1, .f32⟩
  | 35 => ⟨S65536x1, .f32⟩
  | 36 => ⟨S_, .f32⟩
  | 37 => ⟨S65536x1, .f32⟩
  | 38 => ⟨S65536x1, .f32⟩
  | 39 => ⟨S65536x1, .f32⟩
  | 40 => ⟨S65536x1024, .f32⟩
  | 41 => ⟨S65536x1024, .f32⟩
  | 42 => ⟨S1x1024, .f32⟩
  | 43 => ⟨S65536x1024, .f32⟩
  | 44 => ⟨S65536x1024, .f32⟩
  | 45 => ⟨S1024x1024, .f32⟩
  | 46 => ⟨S65536x1024, .f32⟩
  | 47 => ⟨S16x4096x4x256, .f32⟩
  | 48 => ⟨S1024, .f32⟩
  | 49 => ⟨S16x256x1024, .f32⟩
  | 50 => ⟨S_, .f32⟩
  | 51 => ⟨S16x256, .f32⟩
  | 52 => ⟨S16x256x1, .f32⟩
  | 53 => ⟨S_, .f32⟩
  | 54 => ⟨S16x256x1, .f32⟩
  | 55 => ⟨S16x256x1, .f32⟩
  | 56 => ⟨S_, .f32⟩
  | 57 => ⟨S16x256x1, .f32⟩
  | 58 => ⟨S16x256x1, .f32⟩
  | 59 => ⟨S16x256x1, .f32⟩
  | 60 => ⟨S16x256x1024, .f32⟩
  | 61 => ⟨S16x256x1024, .f32⟩
  | 62 => ⟨S1x1x1024, .f32⟩
  | 63 => ⟨S16x256x1024, .f32⟩
  | 64 => ⟨S16x256x1024, .f32⟩
  | 65 => ⟨S1024x2048, .f32⟩
  | 66 => ⟨S16x256x2048, .f32⟩
  | 67 => ⟨S16x256x2x4x256, .f32⟩
  | 68 => ⟨S16x256x1x4x256, .f32⟩
  | 69 => ⟨S16x256x4x256, .f32⟩
  | 70 => ⟨S16x256x1x4x256, .f32⟩
  | 71 => ⟨S16x256x4x256, .f32⟩
  | 72 => ⟨S16x4x4096x256, .f32⟩
  | 73 => ⟨S_, .f32⟩
  | 74 => ⟨S16x4x4096x256, .f32⟩
  | 75 => ⟨S16x4x4096x256, .f32⟩
  | 76 => ⟨S_, .f32⟩
  | 77 => ⟨S16x4x4096, .f32⟩
  | 78 => ⟨S16x4x4096x1, .f32⟩
  | 79 => ⟨S16x4x4096x256, .f32⟩
  | 80 => ⟨S16x4x4096x256, .f32⟩
  | 81 => ⟨S16x4x4096x256, .f32⟩
  | 82 => ⟨S16x4x4096x256, .f32⟩
  | 83 => ⟨S_, .f32⟩
  | 84 => ⟨S16x4x4096, .f32⟩
  | 85 => ⟨S16x4x4096x1, .f32⟩
  | 86 => ⟨S16x4x4096x256, .f32⟩
  | 87 => ⟨S16x4x4096x256, .f32⟩
  | 88 => ⟨S16x4096x4x256, .f32⟩
  | 89 => ⟨S65536x1024, .f32⟩
  | 90 => ⟨S1024x1024, .f32⟩
  | 91 => ⟨S65536x1024, .f32⟩
  | 92 => ⟨S65536x1024, .f32⟩
  | 93 => ⟨S1024, .f32⟩
  | 94 => ⟨S65536x1024, .f32⟩
  | 95 => ⟨S_, .f32⟩
  | 96 => ⟨S65536, .f32⟩
  | 97 => ⟨S65536x1, .f32⟩
  | 98 => ⟨S_, .f32⟩
  | 99 => ⟨S65536x1, .f32⟩
  | 100 => ⟨S65536x1, .f32⟩
  | 101 => ⟨S_, .f32⟩
  | 102 => ⟨S65536x1, .f32⟩
  | 103 => ⟨S65536x1, .f32⟩
  | 104 => ⟨S65536x1, .f32⟩
  | 105 => ⟨S65536x1024, .f32⟩
  | 106 => ⟨S65536x1024, .f32⟩
  | 107 => ⟨S1x1024, .f32⟩
  | 108 => ⟨S65536x1024, .f32⟩
  | 109 => ⟨S65536x1024, .f32⟩
  | 110 => ⟨S1024x4, .f32⟩
  | 111 => ⟨S65536x4, .f32⟩
  | 112 => ⟨S4, .f32⟩
  | 113 => ⟨S1x4, .f32⟩
  | 114 => ⟨S65536x4, .f32⟩
  | 115 => ⟨S65536x4, .f32⟩
  | 116 => ⟨S_, .f32⟩
  | 117 => ⟨S65536, .f32⟩
  | 118 => ⟨S65536x1, .f32⟩
  | 119 => ⟨S65536x4, .f32⟩
  | 120 => ⟨S65536x4, .i1⟩
  | 121 => ⟨S_, .f32⟩
  | 122 => ⟨S65536x4, .f32⟩
  | 123 => ⟨S65536x4, .i1⟩
  | 124 => ⟨S65536x4, .i1⟩
  | 125 => ⟨S65536x4, .i32⟩
  | 126 => ⟨S65536x4, .f32⟩
  | 127 => ⟨S_, .f32⟩
  | _ => ⟨S65536x256, .bf16⟩

abbrev hbmTy0_1 (i : Nat) : BufTy := match i % 128 with
  | 0 => ⟨S_, .f32⟩
  | 1 => ⟨S65536x4, .f32⟩
  | 2 => ⟨S65536x4, .f32⟩
  | 3 => ⟨S_, .f32⟩
  | 4 => ⟨S65536, .f32⟩
  | 5 => ⟨S65536x1, .f32⟩
  | 6 => ⟨S65536x4, .f32⟩
  | 7 => ⟨S65536x4, .f32⟩
  | 8 => ⟨S65536x4, .f32⟩
  | 9 => ⟨S_, .f32⟩
  | 10 => ⟨S65536, .f32⟩
  | 11 => ⟨S65536x1, .f32⟩
  | 12 => ⟨S_, .f32⟩
  | 13 => ⟨S65536x1, .f32⟩
  | 14 => ⟨S65536x1, .f32⟩
  | 15 => ⟨S65536x32, .i32⟩
  | 16 => ⟨S_, .i32⟩
  | 17 => ⟨S65536x32, .i32⟩
  | 18 => ⟨S65536x32, .i32⟩
  | 19 => ⟨S65536x32, .f32⟩
  | 20 => ⟨S65536x32, .f32⟩
  | 21 => ⟨S65536x32, .i1⟩
  | 22 => ⟨S1024x32, .f32⟩
  | 23 => ⟨S65536x32, .f32⟩
  | 24 => ⟨S32, .f32⟩
  | 25 => ⟨S1x32, .f32⟩
  | 26 => ⟨S65536x32, .f32⟩
  | 27 => ⟨S65536x32, .f32⟩
  | 28 => ⟨S_, .f32⟩
  | 29 => ⟨S_, .f32⟩
  | 30 => ⟨S65536x32, .f32⟩
  | 31 => ⟨S65536x32, .f32⟩
  | 32 => ⟨S_, .f32⟩
  | 33 => ⟨S65536, .f32⟩
  | 34 => ⟨S65536x1, .f32⟩
  | 35 => ⟨S65536x32, .f32⟩
  | 36 => ⟨S65536x32, .i1⟩
  | 37 => ⟨S65536x32, .i32⟩
  | 38 => ⟨S65536x32, .f32⟩
  | 39 => ⟨S_, .f32⟩
  | 40 => ⟨S_, .f32⟩
  | 41 => ⟨S65536x32, .f32⟩
  | 42 => ⟨S65536x32, .f32⟩
  | 43 => ⟨S_, .f32⟩
  | 44 => ⟨S65536, .f32⟩
  | 45 => ⟨S65536x1, .f32⟩
  | 46 => ⟨S65536x32, .f32⟩
  | 47 => ⟨S65536x32, .f32⟩
  | 48 => ⟨S65536x32, .i1⟩
  | 49 => ⟨S_, .f32⟩
  | 50 => ⟨S_, .f32⟩
  | 51 => ⟨S65536x32, .f32⟩
  | 52 => ⟨S65536x32, .f32⟩
  | 53 => ⟨S_, .f32⟩
  | 54 => ⟨S65536, .f32⟩
  | 55 => ⟨S65536x1, .f32⟩
  | 56 => ⟨S65536x32, .f32⟩
  | 57 => ⟨S65536x32, .i1⟩
  | 58 => ⟨S65536x32, .i32⟩
  | 59 => ⟨S65536x32, .f32⟩
  | 60 => ⟨S_, .f32⟩
  | 61 => ⟨S_, .f32⟩
  | 62 => ⟨S65536x32, .f32⟩
  | 63 => ⟨S65536x32, .f32⟩
  | 64 => ⟨S_, .f32⟩
  | 65 => ⟨S65536, .f32⟩
  | 66 => ⟨S65536x1, .f32⟩
  | 67 => ⟨S65536x1, .f32⟩
  | 68 => ⟨S65536x1, .f32⟩
  | 69 => ⟨S_, .f32⟩
  | 70 => ⟨S65536x1, .f32⟩
  | 71 => ⟨S65536x1, .f32⟩
  | 72 => ⟨S_, .f32⟩
  | 73 => ⟨S65536x1, .f32⟩
  | 74 => ⟨S65536x1, .f32⟩
  | 75 => ⟨S65536x1, .f32⟩
  | 76 => ⟨S_, .f32⟩
  | 77 => ⟨S65536x1, .f32⟩
  | 78 => ⟨S65536x1, .f32⟩
  | 79 => ⟨S65536x1, .f32⟩
  | 80 => ⟨S65536x1, .f32⟩
  | 81 => ⟨S_, .f32⟩
  | 82 => ⟨S65536x4, .f32⟩
  | 83 => ⟨S65536x8, .f32⟩
  | 84 => ⟨S65536x1024, .bf16⟩
  | 85 => ⟨S131072x512, .bf16⟩
  | 86 => ⟨S8x65536, .f32⟩
  | _ => ⟨S65536x256, .bf16⟩

abbrev hbmTy (i : Nat) : BufTy := match i / 128 with
  | 0 => hbmTy0_0 i
  | 1 => hbmTy0_1 i
  | _ => ⟨S65536x256, .bf16⟩

abbrev bufTy : (tb : Table) → Fin (tcTables nBuf tb) → BufTy
  | .hbm, ⟨i, _⟩ => hbmTy i
  | _, _ => ⟨S65536x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_8 : Ref sig .tc := ⟨.hbm, 95, rfl⟩
abbrev main_v69 : Ref sig .tc := ⟨.hbm, 96, rfl⟩
abbrev main_v70 : Ref sig .tc := ⟨.hbm, 97, rfl⟩
abbrev main_cst_9 : Ref sig .tc := ⟨.hbm, 98, rfl⟩
abbrev main_v71 : Ref sig .tc := ⟨.hbm, 99, rfl⟩
abbrev main_v72 : Ref sig .tc := ⟨.hbm, 100, rfl⟩
abbrev main_cst_10 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_11 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_12 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_13 : Ref sig .tc := ⟨.hbm, 127, rfl⟩
abbrev main_call0_v0 : Ref sig .tc := ⟨.hbm, 128, rfl⟩
abbrev main_call0_v1 : Ref sig .tc := ⟨.hbm, 129, rfl⟩
abbrev main_v96 : Ref sig .tc := ⟨.hbm, 130, rfl⟩
abbrev main_cst_14 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_15 : Ref sig .tc := ⟨.hbm, 137, rfl⟩
abbrev main_v102 : Ref sig .tc := ⟨.hbm, 138, rfl⟩
abbrev main_v103 : Ref sig .tc := ⟨.hbm, 139, rfl⟩
abbrev main_cst_16 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_17 : Ref sig .tc := ⟨.hbm, 156, rfl⟩
abbrev main_call1_v0 : Ref sig .tc := ⟨.hbm, 157, rfl⟩
abbrev main_call1_v1 : Ref sig .tc := ⟨.hbm, 158, rfl⟩
abbrev main_v118 : Ref sig .tc := ⟨.hbm, 159, rfl⟩
abbrev main_cst_18 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_19 : Ref sig .tc := ⟨.hbm, 167, rfl⟩
abbrev main_call2_v0 : Ref sig .tc := ⟨.hbm, 168, rfl⟩
abbrev main_call2_v1 : Ref sig .tc := ⟨.hbm, 169, rfl⟩
abbrev main_v125 : Ref sig .tc := ⟨.hbm, 170, rfl⟩
abbrev main_cst_20 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_21 : Ref sig .tc := ⟨.hbm, 177, rfl⟩
abbrev main_call3_v0 : Ref sig .tc := ⟨.hbm, 178, rfl⟩
abbrev main_call3_v1 : Ref sig .tc := ⟨.hbm, 179, rfl⟩
abbrev main_v131 : Ref sig .tc := ⟨.hbm, 180, rfl⟩
abbrev main_cst_22 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_23 : Ref sig .tc := ⟨.hbm, 188, rfl⟩
abbrev main_call4_v0 : Ref sig .tc := ⟨.hbm, 189, rfl⟩
abbrev main_call4_v1 : Ref sig .tc := ⟨.hbm, 190, rfl⟩
abbrev main_v138 : Ref sig .tc := ⟨.hbm, 191, rfl⟩
abbrev main_cst_24 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_25 : Ref sig .tc := ⟨.hbm, 197, rfl⟩
abbrev main_v143 : Ref sig .tc := ⟨.hbm, 198, rfl⟩
abbrev main_v144 : Ref sig .tc := ⟨.hbm, 199, rfl⟩
abbrev main_cst_26 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_27 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_28 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩

abbrev nD : Nat := 1
abbrev τ : Topo := Topo.v7x

variable {F : FTy → Type} [FloatOps F]
-- ==== Inproj.lean ====
abbrev S16x4096x1024 : Shape := ⟨3, ![16, 4096, 1024]⟩
abbrev S16x4096 : Shape := ⟨2, ![16, 4096]⟩
abbrev S1x1024 : Shape := ⟨2, ![1, 1024]⟩
abbrev S1x1024x5376 : Shape := ⟨3, ![1, 1024, 5376]⟩
abbrev S1x2048 : Shape := ⟨2, ![1, 2048]⟩
abbrev S1x4x128x128 : Shape := ⟨4, ![1, 4, 128, 128]⟩
abbrev S1x4x128 : Shape := ⟨3, ![1, 4, 128]⟩
abbrev S1x512 : Shape := ⟨2, ![1, 512]⟩
abbrev S1x512x1024 : Shape := ⟨3, ![1, 512, 1024]⟩
abbrev S65536x1024 : Shape := ⟨2, ![65536, 1024]⟩
abbrev S65536x1 : Shape := ⟨2, ![65536, 1]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S1024 : Shape := ⟨1, ![1024]⟩
abbrev S1024x5376 : Shape := ⟨2, ![1024, 5376]⟩
abbrev S2048 : Shape := ⟨1, ![2048]⟩
abbrev S4x128x128 : Shape := ⟨3, ![4, 128, 128]⟩
abbrev S4x128 : Shape := ⟨2, ![4, 128]⟩
abbrev S128x4 : Shape := ⟨2, ![128, 4]⟩
abbrev S512 : Shape := ⟨1, ![512]⟩
abbrev S512x1024 : Shape := ⟨2, ![512, 1024]⟩
abbrev S16x3x1x4096x256 : Shape := ⟨5, ![16, 3, 1, 4096, 256]⟩
abbrev S16x3x4x1024x256 : Shape := ⟨5, ![16, 3, 4, 1024, 256]⟩
abbrev S16x3x16x256x256 : Shape := ⟨5, ![16, 3, 16, 256, 256]⟩
abbrev S1024x1024 : Shape := ⟨2, ![1024, 1024]⟩
abbrev S1024x1 : Shape := ⟨2, ![1024, 1]⟩
abbrev S1x3x1x1024x256 : Shape := ⟨5, ![1, 3, 1, 1024, 256]⟩
abbrev S1x3x4x256x256 : Shape := ⟨5, ![1, 3, 4, 256, 256]⟩
abbrev S1x3x16x64x256 : Shape := ⟨5, ![1, 3, 16, 64, 256]⟩
abbrev S24x512x128 : Shape := ⟨3, ![24, 512, 128]⟩
abbrev S1024x512 : Shape := ⟨2, ![1024, 512]⟩
abbrev S512x1 : Shape := ⟨2, ![512, 1]⟩
abbrev S512x128 : Shape := ⟨2, ![512, 128]⟩
abbrev S512x512 : Shape := ⟨2, ![512, 512]⟩
abbrev S1024x256 : Shape := ⟨2, ![1024, 256]⟩
abbrev S512x256 : Shape := ⟨2, ![512, 256]⟩
abbrev S1x1x1x512x256 : Shape := ⟨5, ![1, 1, 1, 512, 256]⟩
abbrev S1x512x128 : Shape := ⟨3, ![1, 512, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S1x32x128 : Shape := ⟨3, ![1, 32, 128]⟩
abbrev S32x128 : Shape := ⟨2, ![32, 128]⟩
abbrev S1x1x1x32x128 : Shape := ⟨5, ![1, 1, 1, 32, 128]⟩
abbrev S128x512 : Shape := ⟨2, ![128, 512]⟩
abbrev S128x1 : Shape := ⟨2, ![128, 1]⟩

abbrev nBuf : Space → Nat
  | .hbm => 54
  | .vmem => 26
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S1x1024, .f32⟩
  | .hbm, ⟨3, _⟩ => ⟨S1x1024x5376, .f32⟩
  | .hbm, ⟨4, _⟩ => ⟨S1x2048, .f32⟩
  | .hbm, ⟨5, _⟩ => ⟨S1x4x128x128, .f32⟩
  | .hbm, ⟨6, _⟩ => ⟨S1x4x128, .f32⟩
  | .hbm, ⟨7, _⟩ => ⟨S1x512, .f32⟩
  | .hbm, ⟨8, _⟩ => ⟨S1x512, .f32⟩
  | .hbm, ⟨9, _⟩ => ⟨S1x512x1024, .f32⟩
  | .hbm, ⟨10, _⟩ => ⟨S65536x1024, .f32⟩
  | .hbm, ⟨11, _⟩ => ⟨S65536x1, .i32⟩
  | .hbm, ⟨12, _⟩ => ⟨S65536x1, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1x32, .f32⟩
  | .hbm, ⟨22, _⟩ => ⟨S4x32, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S64, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1024, .f32⟩
  | .hbm, ⟨35, _⟩ => ⟨S1x1024, .f32⟩
  | .hbm, ⟨36, _⟩ => ⟨S1024x5376, .f32⟩
  | .hbm, ⟨37, _⟩ => ⟨S1024x5376, .bf16⟩
  | .hbm, ⟨38, _⟩ => ⟨S2048, .f32⟩
  | .hbm, ⟨39, _⟩ => ⟨S1x2048, .f32⟩
  | .hbm, ⟨40, _⟩ => ⟨S4x128x128, .f32⟩
  | .hbm, ⟨41, _⟩ => ⟨S4x128, .f32⟩
  | .hbm, ⟨42, _⟩ => ⟨S128x4, .f32⟩
  | .hbm, ⟨43, _⟩ => ⟨S512, .f32⟩
  | .hbm, ⟨44, _⟩ => ⟨S1x512, .f32⟩
  | .hbm, ⟨45, _⟩ => ⟨S512, .f32⟩
  | .hbm, ⟨46, _⟩ => ⟨S1x512, .f32⟩
  | .hbm, ⟨47, _⟩ => ⟨S512x1024, .f32⟩
  | .hbm, ⟨48, _⟩ => ⟨S512x1024, .bf16⟩
  | .hbm, ⟨49, _⟩ => ⟨S16x3x1x4096x256, .bf16⟩
  | .hbm, ⟨50, _⟩ => ⟨S16x3x4x1024x256, .bf16⟩
  | .hbm, ⟨51, _⟩ => ⟨S16x3x16x256x256, .bf16⟩
  | .hbm, ⟨52, _⟩ => ⟨S65536x1024, .bf16⟩
  | .hbm, ⟨53, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1x128, .f32⟩
  | .local _ .vmem, ⟨5, _⟩ => ⟨S1x128, .f32⟩
  | .local _ .vmem, ⟨6, _⟩ => ⟨S1x1024, .f32⟩
  | .local _ .vmem, ⟨7, _⟩ => ⟨S1024x5376, .bf16⟩
  | .local _ .vmem, ⟨8, _⟩ => ⟨S1x2048, .f32⟩
  | .local _ .vmem, ⟨9, _⟩ => ⟨S4x128x128, .f32⟩
  | .local _ .vmem, ⟨10, _⟩ => ⟨S128x4, .f32⟩
  | .local _ .vmem, ⟨11, _⟩ => ⟨S1x512, .f32⟩
  | .local _ .vmem, ⟨12, _⟩ => ⟨S1x512, .f32⟩
  | .local _ .vmem, ⟨13, _⟩ => ⟨S512x1024, .bf16⟩
  | .local _ .vmem, ⟨14, _⟩ => ⟨S1x3x1x1024x256, .bf16⟩
  | .local _ .vmem, ⟨15, _⟩ => ⟨S1x3x1x1024x256, .bf16⟩
  | .local _ .vmem, ⟨16, _⟩ => ⟨S1x3x4x256x256, .bf16⟩
  | .local _ .vmem, ⟨17, _⟩ => ⟨S1x3x4x256x256, .bf16⟩
  | .local _ .vmem, ⟨18, _⟩ => ⟨S1x3x16x64x256, .bf16⟩
  | .local _ .vmem, ⟨19, _⟩ => ⟨S1x3x16x64x256, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S24x512x128, .f32⟩
  | .local _ .vmem, ⟨25, _⟩ => ⟨S1024x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev main_v35_3 : Ref sig .tc := ⟨.hbm, 52, rfl⟩
abbrev main_v35_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_13 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_14 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5376 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x3x1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x4x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x16x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InprojReferenceIdeal.lean ====
abbrev S16x4096x1024 : Shape := ⟨3, ![16, 4096, 1024]⟩
abbrev S16x4096 : Shape := ⟨2, ![16, 4096]⟩
abbrev S1x1024 : Shape := ⟨2, ![1, 1024]⟩
abbrev S1x1024x5376 : Shape := ⟨3, ![1, 1024, 5376]⟩
abbrev S1x2048 : Shape := ⟨2, ![1, 2048]⟩
abbrev S1x4x128x128 : Shape := ⟨4, ![1, 4, 128, 128]⟩
abbrev S1x4x128 : Shape := ⟨3, ![1, 4, 128]⟩
abbrev S1x512 : Shape := ⟨2, ![1, 512]⟩
abbrev S1x512x1024 : Shape := ⟨3, ![1, 512, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1024x5376 : Shape := ⟨2, ![1024, 5376]⟩
abbrev S65536x5376 : Shape := ⟨2, ![65536, 5376]⟩
abbrev S32 : Shape := ⟨1, ![32]⟩
abbrev S1x32 : Shape := ⟨2, ![1, 32]⟩
abbrev S65536x32 : Shape := ⟨2, ![65536, 32]⟩
abbrev S65536x1x32 : Shape := ⟨3, ![65536, 1, 32]⟩
abbrev S65536x768 : Shape := ⟨2, ![65536, 768]⟩
abbrev S65536x12x64 : Shape := ⟨3, ![65536, 12, 64]⟩
abbrev S65536x12x32 : Shape := ⟨3, ![65536, 12, 32]⟩
abbrev S65536x256 : Shape := ⟨2, ![65536, 256]⟩
abbrev S16x4096x1x256 : Shape := ⟨4, ![16, 4096, 1, 256]⟩
abbrev S16x1x4096x256 : Shape := ⟨4, ![16, 1, 4096, 256]⟩
abbrev S16x1x1x4096x256 : Shape := ⟨5, ![16, 1, 1, 4096, 256]⟩
abbrev S16x3x1x4096x256 : Shape := ⟨5, ![16, 3, 1, 4096, 256]⟩
abbrev S16x1024x4x256 : Shape := ⟨4, ![16, 1024, 4, 256]⟩
abbrev S16x4x1024x256 : Shape := ⟨4, ![16, 4, 1024, 256]⟩
abbrev S16x1x4x1024x256 : Shape := ⟨5, ![16, 1, 4, 1024, 256]⟩
abbrev S16x3x4x1024x256 : Shape := ⟨5, ![16, 3, 4, 1024, 256]⟩
abbrev S16x256x16x256 : Shape := ⟨4, ![16, 256, 16, 256]⟩
abbrev S16x16x256x256 : Shape := ⟨4, ![16, 16, 256, 256]⟩
abbrev S16x1x16x256x256 : Shape := ⟨5, ![16, 1, 16, 256, 256]⟩
abbrev S16x3x16x256x256 : Shape := ⟨5, ![16, 3, 16, 256, 256]⟩
abbrev S65536x512 : Shape := ⟨2, ![65536, 512]⟩
abbrev S512 : Shape := ⟨1, ![512]⟩
abbrev S128x128 : Shape := ⟨2, ![128, 128]⟩
abbrev S1x128x128 : Shape := ⟨3, ![1, 128, 128]⟩
abbrev S4x128x128 : Shape := ⟨3, ![4, 128, 128]⟩
abbrev S512x128x4x128 : Shape := ⟨4, ![512, 128, 4, 128]⟩
abbrev S4x512x128x128 : Shape := ⟨4, ![4, 512, 128, 128]⟩
abbrev S4x128 : Shape := ⟨2, ![4, 128]⟩
abbrev S128x4 : Shape := ⟨2, ![128, 4]⟩
abbrev S128x4x1 : Shape := ⟨3, ![128, 4, 1]⟩
abbrev S1x128x4x1 : Shape := ⟨4, ![1, 128, 4, 1]⟩
abbrev S65536x2048 : Shape := ⟨2, ![65536, 2048]⟩
abbrev S2048 : Shape := ⟨1, ![2048]⟩
abbrev S512x1024 : Shape := ⟨2, ![512, 1024]⟩

abbrev nBuf : Space → Nat
  | .hbm => 241
  | .vmem => 0
  | .smem => 0
  | _ => 0

abbrev hbmTy0_0 (i : Nat) : BufTy := match i % 128 with
  | 0 => ⟨S16x4096x1024, .f32⟩
  | 1 => ⟨S16x4096, .i32⟩
  | 2 => ⟨S1x1024, .f32⟩
  | 3 => ⟨S1x1024x5376, .f32⟩
  | 4 => ⟨S1x2048, .f32⟩
  | 5 => ⟨S1x4x128x128, .f32⟩
  | 6 => ⟨S1x4x128, .f32⟩
  | 7 => ⟨S1x512, .f32⟩
  | 8 => ⟨S1x512, .f32⟩
  | 9 => ⟨S1x512x1024, .f32⟩
  | 10 => ⟨S65536x1024, .f32⟩
  | 11 => ⟨S65536x1024, .f32⟩
  | 12 => ⟨S_, .f32⟩
  | 13 => ⟨S65536, .f32⟩
  | 14 => ⟨S65536x1, .f32⟩
  | 15 => ⟨S_, .f32⟩
  | 16 => ⟨S65536x1, .f32⟩
  | 17 => ⟨S65536x1, .f32⟩
  | 18 => ⟨S_, .f32⟩
  | 19 => ⟨S65536x1, .f32⟩
  | 20 => ⟨S65536x1, .f32⟩
  | 21 => ⟨S65536x1, .f32⟩
  | 22 => ⟨S65536x1024, .f32⟩
  | 23 => ⟨S65536x1024, .f32⟩
  | 24 => ⟨S1024, .f32⟩
  | 25 => ⟨S1x1024, .f32⟩
  | 26 => ⟨S65536x1024, .f32⟩
  | 27 => ⟨S65536x1024, .f32⟩
  | 28 => ⟨S1024x5376, .f32⟩
  | 29 => ⟨S65536x5376, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S65536, .i32⟩
  | 39 => ⟨S65536, .f32⟩
  | 40 => ⟨S65536x1, .f32⟩
  | 41 => ⟨S1x32, .f32⟩
  | 42 => ⟨S65536x32, .f32⟩
  | 43 => ⟨S65536x32, .f32⟩
  | 44 => ⟨S65536x32, .f32⟩
  | 45 => ⟨S65536x32, .f32⟩
  | 46 => ⟨S65536x1x32, .f32⟩
  | 47 => ⟨S65536x32, .f32⟩
  | 48 => ⟨S65536x1x32, .f32⟩
  | 49 => ⟨S65536x768, .f32⟩
  | 50 => ⟨S65536x12x64, .f32⟩
  | 51 => ⟨S65536x12x32, .f32⟩
  | 52 => ⟨S65536x12x32, .f32⟩
  | 53 => ⟨S65536x12x32, .f32⟩
  | 54 => ⟨S65536x12x32, .f32⟩
  | 55 => ⟨S65536x12x32, .f32⟩
  | 56 => ⟨S65536x12x32, .f32⟩
  | 57 => ⟨S65536x12x32, .f32⟩
  | 58 => ⟨S65536x12x32, .f32⟩
  | 59 => ⟨S65536x12x32, .f32⟩
  | 60 => ⟨S65536x12x32, .f32⟩
  | 61 => ⟨S65536x12x32, .f32⟩
  | 62 => ⟨S65536x12x32, .f32⟩
  | 63 => ⟨S65536x12x64, .f32⟩
  | 64 => ⟨S_, .f32⟩
  | 65 => ⟨S65536x12x64, .f32⟩
  | 66 => ⟨S65536x12x64, .f32⟩
  | 67 => ⟨S65536x768, .f32⟩
  | 68 => ⟨S65536x12x64, .f32⟩
  | 69 => ⟨S65536x12x32, .f32⟩
  | 70 => ⟨S65536x12x32, .f32⟩
  | 71 => ⟨S65536x12x32, .f32⟩
  | 72 => ⟨S65536x12x32, .f32⟩
  | 73 => ⟨S65536x12x32, .f32⟩
  | 74 => ⟨S65536x12x32, .f32⟩
  | 75 => ⟨S65536x12x32, .f32⟩
  | 76 => ⟨S65536x12x32, .f32⟩
  | 77 => ⟨S65536x12x32, .f32⟩
  | 78 => ⟨S65536x12x32, .f32⟩
  | 79 => ⟨S65536x12x32, .f32⟩
  | 80 => ⟨S65536x12x32, .f32⟩
  | 81 => ⟨S65536x12x64, .f32⟩
  | 82 => ⟨S65536x768, .f32⟩
  | 83 => ⟨S65536x768, .f32⟩
  | 84 => ⟨S65536x256, .f32⟩
  | 85 => ⟨S16x4096x1x256, .f32⟩
  | 86 => ⟨S16x1x4096x256, .f32⟩
  | 87 => ⟨S65536x768, .f32⟩
  | 88 => ⟨S65536x256, .f32⟩
  | 89 => ⟨S16x4096x1x256, .f32⟩
  | 90 => ⟨S16x1x4096x256, .f32⟩
  | 91 => ⟨S65536x256, .f32⟩
  | 92 => ⟨S16x4096x1x256, .f32⟩
  | 93 => ⟨S16x1x4096x256, .f32⟩
  | 94 => ⟨S16x1x1x4096x256, .f32⟩
  | 95 => ⟨S16x1x1x4096x256, .f32⟩
  | 96 => ⟨S16x1x1x4096x256, .f32⟩
  | 97 => ⟨S16x3x1x4096x256, .f32⟩
  | 98 => ⟨S16x3x1x4096x256, .bf16⟩
  | 99 => ⟨S65536x768, .f32⟩
  | 100 => ⟨S65536x256, .f32⟩
  | 101 => ⟨S16x1024x4x256, .f32⟩
  | 102 => ⟨S16x4x1024x256, .f32⟩
  | 103 => ⟨S65536x768, .f32⟩
  | 104 => ⟨S65536x256, .f32⟩
  | 105 => ⟨S16x1024x4x256, .f32⟩
  | 106 => ⟨S16x4x1024x256, .f32⟩
  | 107 => ⟨S65536x256, .f32⟩
  | 108 => ⟨S16x1024x4x256, .f32⟩
  | 109 => ⟨S16x4x1024x256, .f32⟩
  | 110 => ⟨S16x1x4x1024x256, .f32⟩
  | 111 => ⟨S16x1x4x1024x256, .f32⟩
  | 112 => ⟨S16x1x4x1024x256, .f32⟩
  | 113 => ⟨S16x3x4x1024x256, .f32⟩
  | 114 => ⟨S16x3x4x1024x256, .bf16⟩
  | 115 => ⟨S65536x768, .f32⟩
  | 116 => ⟨S65536x256, .f32⟩
  | 117 => ⟨S16x256x16x256, .f32⟩
  | 118 => ⟨S16x16x256x256, .f32⟩
  | 119 => ⟨S65536x768, .f32⟩
  | 120 => ⟨S65536x256, .f32⟩
  | 121 => ⟨S16x256x16x256, .f32⟩
  | 122 => ⟨S16x16x256x256, .f32⟩
  | 123 => ⟨S65536x256, .f32⟩
  | 124 => ⟨S16x256x16x256, .f32⟩
  | 125 => ⟨S16x16x256x256, .f32⟩
  | 126 => ⟨S16x1x16x256x256, .f32⟩
  | 127 => ⟨S16x1x16x256x256, .f32⟩
  | _ => ⟨S16x4096x1024, .f32⟩

abbrev hbmTy0_1 (i : Nat) : BufTy := match i % 128 with
  | 0 => ⟨S16x1x16x256x256, .f32⟩
  | 1 => ⟨S16x3x16x256x256, .f32⟩
  | 2 => ⟨S16x3x16x256x256, .bf16⟩
  | 3 => ⟨S65536x512, .f32⟩
  | 4 => ⟨S65536x512, .f32⟩
  | 5 => ⟨S65536x512, .f32⟩
  | 6 => ⟨S_, .f32⟩
  | 7 => ⟨S65536x512, .f32⟩
  | 8 => ⟨S65536x512, .f32⟩
  | 9 => ⟨S65536x512, .f32⟩
  | 10 => ⟨S_, .f32⟩
  | 11 => ⟨S65536x512, .f32⟩
  | 12 => ⟨S65536x512, .f32⟩
  | 13 => ⟨S65536x512, .f32⟩
  | 14 => ⟨S_, .f32⟩
  | 15 => ⟨S65536x512, .f32⟩
  | 16 => ⟨S65536x512, .f32⟩
  | 17 => ⟨S_, .f32⟩
  | 18 => ⟨S65536x512, .f32⟩
  | 19 => ⟨S65536x512, .f32⟩
  | 20 => ⟨S65536x512, .f32⟩
  | 21 => ⟨S65536x512, .f32⟩
  | 22 => ⟨S65536x512, .f32⟩
  | 23 => ⟨S65536x512, .f32⟩
  | 24 => ⟨S_, .f32⟩
  | 25 => ⟨S65536x512, .f32⟩
  | 26 => ⟨S65536x512, .f32⟩
  | 27 => ⟨S65536x512, .f32⟩
  | 28 => ⟨S_, .f32⟩
  | 29 => ⟨S65536x512, .f32⟩
  | 30 => ⟨S65536x512, .f32⟩
  | 31 => ⟨S65536x512, .f32⟩
  | 32 => ⟨S_, .f32⟩
  | 33 => ⟨S65536x512, .f32⟩
  | 34 => ⟨S65536x512, .f32⟩
  | 35 => ⟨S_, .f32⟩
  | 36 => ⟨S65536x512, .f32⟩
  | 37 => ⟨S65536x512, .f32⟩
  | 38 => ⟨S65536x512, .f32⟩
  | 39 => ⟨S_, .f32⟩
  | 40 => ⟨S65536, .f32⟩
  | 41 => ⟨S65536x1, .f32⟩
  | 42 => ⟨S_, .f32⟩
  | 43 => ⟨S65536x1, .f32⟩
  | 44 => ⟨S65536x1, .f32⟩
  | 45 => ⟨S65536x512, .f32⟩
  | 46 => ⟨S65536x512, .f32⟩
  | 47 => ⟨S65536x512, .f32⟩
  | 48 => ⟨S65536x512, .f32⟩
  | 49 => ⟨S65536x512, .f32⟩
  | 50 => ⟨S_, .f32⟩
  | 51 => ⟨S65536, .f32⟩
  | 52 => ⟨S65536x1, .f32⟩
  | 53 => ⟨S_, .f32⟩
  | 54 => ⟨S65536x1, .f32⟩
  | 55 => ⟨S65536x1, .f32⟩
  | 56 => ⟨S65536x512, .f32⟩
  | 57 => ⟨S65536x512, .f32⟩
  | 58 => ⟨S_, .f32⟩
  | 59 => ⟨S65536x1, .f32⟩
  | 60 => ⟨S65536x1, .f32⟩
  | 61 => ⟨S65536x1, .f32⟩
  | 62 => ⟨S65536x512, .f32⟩
  | 63 => ⟨S65536x512, .f32⟩
  | 64 => ⟨S512, .f32⟩
  | 65 => ⟨S1x512, .f32⟩
  | 66 => ⟨S65536x512, .f32⟩
  | 67 => ⟨S65536x512, .f32⟩
  | 68 => ⟨S512, .f32⟩
  | 69 => ⟨S1x512, .f32⟩
  | 70 => ⟨S65536x512, .f32⟩
  | 71 => ⟨S65536x512, .f32⟩
  | 72 => ⟨S128x128, .i32⟩
  | 73 => ⟨S128x128, .i32⟩
  | 74 => ⟨S128x128, .i1⟩
  | 75 => ⟨S1x128x128, .i1⟩
  | 76 => ⟨S4x128x128, .f32⟩
  | 77 => ⟨S_, .f32⟩
  | 78 => ⟨S_, .f32⟩
  | 79 => ⟨S4x128x128, .i1⟩
  | 80 => ⟨S4x128x128, .f32⟩
  | 81 => ⟨S4x128x128, .f32⟩
  | 82 => ⟨S512x128x4x128, .f32⟩
  | 83 => ⟨S4x512x128x128, .f32⟩
  | 84 => ⟨S512x128x4x128, .f32⟩
  | 85 => ⟨S4x128, .f32⟩
  | 86 => ⟨S128x4, .f32⟩
  | 87 => ⟨S128x4x1, .f32⟩
  | 88 => ⟨S1x128x4x1, .f32⟩
  | 89 => ⟨S512x128x4x128, .f32⟩
  | 90 => ⟨S512x128x4x128, .f32⟩
  | 91 => ⟨S65536x512, .f32⟩
  | 92 => ⟨S65536x512, .f32⟩
  | 93 => ⟨S65536x2048, .f32⟩
  | 94 => ⟨S2048, .f32⟩
  | 95 => ⟨S1x2048, .f32⟩
  | 96 => ⟨S65536x2048, .f32⟩
  | 97 => ⟨S65536x2048, .f32⟩
  | 98 => ⟨S65536x2048, .f32⟩
  | 99 => ⟨S65536x2048, .f32⟩
  | 100 => ⟨S_, .f32⟩
  | 101 => ⟨S65536x2048, .f32⟩
  | 102 => ⟨S65536x2048, .f32⟩
  | 103 => ⟨S_, .f32⟩
  | 104 => ⟨S65536x2048, .f32⟩
  | 105 => ⟨S65536x2048, .f32⟩
  | 106 => ⟨S65536x1024, .f32⟩
  | 107 => ⟨S65536x1024, .f32⟩
  | 108 => ⟨S65536x1024, .bf16⟩
  | 109 => ⟨S512x1024, .f32⟩
  | 110 => ⟨S65536x1024, .f32⟩
  | 111 => ⟨S65536x1024, .f32⟩
  | 112 => ⟨S65536x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_5 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_6 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_cst_7 : Ref sig .tc := ⟨.hbm, 142, rfl⟩
abbrev main_v124 : Ref sig .tc := ⟨.hbm, 143, rfl⟩
abbrev main_v125 : Ref sig .tc := ⟨.hbm, 144, rfl⟩
abbrev main_cst_8 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_cst_9 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_10 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_cst_11 : Ref sig .tc := ⟨.hbm, 160, rfl⟩
abbrev main_v138 : Ref sig .tc := ⟨.hbm, 161, rfl⟩
abbrev main_v139 : Ref sig .tc := ⟨.hbm, 162, rfl⟩
abbrev main_cst_12 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_cst_13 : Ref sig .tc := ⟨.hbm, 167, rfl⟩
abbrev main_v143 : Ref sig .tc := ⟨.hbm, 168, rfl⟩
abbrev main_v144 : Ref sig .tc := ⟨.hbm, 169, rfl⟩
abbrev main_cst_14 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_cst_15 : Ref sig .tc := ⟨.hbm, 178, rfl⟩
abbrev main_v152 : Ref sig .tc := ⟨.hbm, 179, rfl⟩
abbrev main_v153 : Ref sig .tc := ⟨.hbm, 180, rfl⟩
abbrev main_cst_16 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_cst_17 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_cst_18 : Ref sig .tc := ⟨.hbm, 205, rfl⟩
abbrev main_call0_v0 : Ref sig .tc := ⟨.hbm, 206, rfl⟩
abbrev main_call0_v1 : Ref sig .tc := ⟨.hbm, 207, rfl⟩
abbrev main_call0_v2 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_cst_19 : Ref sig .tc := ⟨.hbm, 228, rfl⟩
abbrev main_v195 : Ref sig .tc := ⟨.hbm, 229, rfl⟩
abbrev main_v196 : Ref sig .tc := ⟨.hbm, 230, rfl⟩
abbrev main_cst_20 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩

abbrev nD : Nat := 1
abbrev τ : Topo := Topo.v7x

variable {F : FTy → Type} [FloatOps F]
-- ==== Proof.Combine.lean ====
/- What one block of the combine kernel holds, and what the reference holds, at an index, over exact real arithmetic.
   Both sides are the RMS normalisation of a row `h + (a * w₁ + b * w₂)`, where `a` and `b` are rows of packed words,
   each word holding two bfloat16 numbers: the low half belongs to column `c`, the high half to column `c + 512`. -/
module

public import proofs.«01_k».proof.Proof.Gen.KernelIdeal.Skeleton
public import proofs.«01_k».proof.Proof.Gen.ReferenceIdeal.Read
public import Idealize.ShloMosaic.Lib.Pointwise
public import Idealize.ShloMosaic.Lib.BitcastConvert

@[expose] public section

set_option maxRecDepth 16384

noncomputable section

namespace Cert.Combine

open Idealize.ShloMosaic Idealize.SL.Sem

/-- The number in column `c` of a row of packed words. -/
def num (w : Fin 512 → BitVec 32) (c : Fin 1024) : EReal :=
  if h : c.val < 512 then Ideal.ofBits .bf16 (BitVec.extractLsb' 0 16 (w ⟨c.val, h⟩))
  else Ideal.ofBits .bf16 (BitVec.extractLsb' 16 16 (w ⟨c.val - 512, by omega⟩))

/-- One row before the normalisation: `h` plus the two expert rows at their routing weights. -/
def row (h : Fin 1024 → EReal) (a b : Fin 512 → BitVec 32) (w₁ w₂ : EReal) (c : Fin 1024) : EReal :=
  h c + (num a c * w₁ + num b c * w₂)

/-- The RMS normalisation of a row `x`, at column `c`, with gain `g`. -/
def nrm (x : Fin 1024 → EReal) (g : EReal) (c : Fin 1024) : EReal :=
  x c * Ideal.rsqrt (Ideal.div (∑ k : Fin 1024, x k * x k) (Ideal.ofBits .f32 1149239296#32) + Ideal.ofBits .f32 897988541#32) * g

theorem row_cases (h : Fin 1024 → EReal) (a b : Fin 512 → BitVec 32) (w₁ w₂ : EReal) (c : Fin 1024) :
    row h a b w₁ w₂ c = h c +
      if hc : c.val < 512 then
        Ideal.ofBits .bf16 (BitVec.extractLsb' 0 16 (a ⟨c.val, hc⟩)) * w₁ + Ideal.ofBits .bf16 (BitVec.extractLsb' 0 16 (b ⟨c.val, hc⟩)) * w₂
      else Ideal.ofBits .bf16 (BitVec.extractLsb' 16 16 (a ⟨c.val - 512, by omega⟩)) * w₁
        + Ideal.ofBits .bf16 (BitVec.extractLsb' 16 16 (b ⟨c.val - 512, by omega⟩)) * w₂ := by
  unfold row num
  split_ifs <;> rfl

/-- The kernel's payload, from the blocks it loads. -/
theorem pay0 (v0 v1 : Vec Ideal KernelIdeal.S1024x1 .f32) (v2 v5 : Vec Ideal KernelIdeal.S1024x512 .i32) (v19 : Vec Ideal KernelIdeal.S1024x1024 .f32)
    (v21 : Vec Ideal KernelIdeal.S1x1024 .f32) (r c : Fin 1024) :
    KernelIdeal.Gen.k0_pay1 v0 v1 v2 v5 v19 v21 (ix2 r c)
      = nrm (row (fun k => v19 (ix2 r k)) (fun j => v2 (ix2 r j)) (fun j => v5 (ix2 r j)) (v0 (ix2 r 0)) (v1 (ix2 r 0))) (v21 (ix2 0 c)) c := by
  unfold nrm
  simp only [row_cases]
  pointwise [KernelIdeal.Gen.k0_pay1]

/-- The word in row `r` and column `j` of the three parts laid one under the other. -/
def words (a : Vec Ideal ReferenceIdeal.S8192x512 .i32) (b : Vec Ideal ReferenceIdeal.S24576x512 .i32) (c : Vec Ideal ReferenceIdeal.S32768x512 .i32)
    (r : Fin 65536) (j : Fin 512) : BitVec 32 :=
  if h : r.val < 8192 then a (ix2 ⟨r.val, h⟩ j)
  else if h' : r.val - 8192 < 24576 then b (ix2 ⟨r.val - 8192, h'⟩ j)
  else c (ix2 ⟨r.val - 8192 - 24576, by omega⟩ j)

/-- The result both programs compute, at row `r` and column `c`. -/
def spec (x0 : Vec Ideal ReferenceIdeal.S65536x8 .f32) (x1 : Vec Ideal ReferenceIdeal.S65536x1024 .f32) (x2 : Vec Ideal ReferenceIdeal.S1024 .f32)
    (Y0 Y1 : Fin 65536 → Fin 512 → BitVec 32) (r : Fin 65536) (c : Fin 1024) : EReal :=
  nrm (row (fun k => x1 (ix2 r k)) (Y0 r) (Y1 r) (x0 (ix2 r 2)) (x0 (ix2 r 3))) (x2 (ix1 c)) c

theorem words_eq (a : Vec Ideal ReferenceIdeal.S8192x512 .i32) (b : Vec Ideal ReferenceIdeal.S24576x512 .i32) (c : Vec Ideal ReferenceIdeal.S32768x512 .i32)
    (r : Fin 65536) (j : Fin 512) : ReferenceIdeal.Read.val_main_v0 (F := Ideal) a b c (ix2 r j) = words a b c r j := by
  pointwise [ReferenceIdeal.Read.val_main_v0, words]

theorem words_eq' (a : Vec Ideal ReferenceIdeal.S8192x512 .i32) (b : Vec Ideal ReferenceIdeal.S24576x512 .i32) (c : Vec Ideal ReferenceIdeal.S32768x512 .i32)
    (r : Fin 65536) (j : Fin 512) : ReferenceIdeal.Read.val_main_v1 (F := Ideal) a b c (ix2 r j) = words a b c r j := words_eq a b c r j

section
open ReferenceIdeal.Read

/-- The halves of the words, at an index: half `e` of the word in column `j`. -/
theorem half_v2 (a : Vec Ideal ReferenceIdeal.S8192x512 .i32) (b : Vec Ideal ReferenceIdeal.S24576x512 .i32) (c : Vec Ideal ReferenceIdeal.S32768x512 .i32)
    (r : Fin 65536) (j : Fin 512) (e : Fin 2) :
    val_main_v2 (F := Ideal) a b c (ix3 r j e) = BitVec.extractLsb' (e.val * 16) 16 (words a b c r j) := by
  refine (Host.bitcastConvertNarrow_apply _ 16 _ _ _).trans ?_
  rw [← words_eq]
  congr 2
  exact funext fun d => by fin_cases d <;> rfl

/-- The decoded row, from the words. -/
theorem num_v6 (a : Vec Ideal ReferenceIdeal.S8192x512 .i32) (b : Vec Ideal ReferenceIdeal.S24576x512 .i32) (c : Vec Ideal ReferenceIdeal.S32768x512 .i32)
    (r : Fin 65536) (k : Fin 1024) : val_main_v6 (F := Ideal) a b c (ix2 r k) = num (words a b c r) k := by
  have key : val_main_v6 (F := Ideal) a b c (ix2 r k)
      = Ideal.ofBits .bf16 (val_main_v2 (F := Ideal) a b c (ix3 r ⟨k.val % 512, by omega⟩ ⟨k.val / 512, by omega⟩)) := by
    unfold val_main_v6 val_main_v5 val_main_v4 val_main_v3
    generalize val_main_v2 (F := Ideal) a b c = Y
    pointwise
  rw [key, half_v2]
  unfold num
  split_ifs with h
  · rw [show (⟨k.val / 512, by omega⟩ : Fin 2) = 0 from Fin.ext (Nat.div_eq_of_lt h),
      show (⟨k.val % 512, by omega⟩ : Fin 512) = ⟨k.val, h⟩ from Fin.ext (Nat.mod_eq_of_lt h)]
    rfl
  · rw [show (⟨k.val / 512, by omega⟩ : Fin 2) = 1 from Fin.ext (by show k.val / 512 = 1; omega),
      show (⟨k.val % 512, by omega⟩ : Fin 512) = ⟨k.val - 512, by omega⟩ from Fin.ext (by show k.val % 512 = k.val - 512; omega)]
    rfl

theorem num_v14 (a : Vec Ideal ReferenceIdeal.S8192x512 .i32) (b : Vec Ideal ReferenceIdeal.S24576x512 .i32) (c : Vec Ideal ReferenceIdeal.S32768x512 .i32)
    (r : Fin 65536) (k : Fin 1024) : val_main_v14 (F := Ideal) a b c (ix2 r k) = num (words a b c r) k := num_v6 a b c r k

theorem refAt (x0 : Vec Ideal ReferenceIdeal.S65536x8 .f32) (x1 : Vec Ideal ReferenceIdeal.S65536x1024 .f32) (x2 : Vec Ideal ReferenceIdeal.S1024 .f32)
    (x3 x4 : Vec Ideal ReferenceIdeal.S8192x512 .i32) (x5 x6 : Vec Ideal ReferenceIdeal.S24576x512 .i32) (x7 x8 : Vec Ideal ReferenceIdeal.S32768x512 .i32)
    (r : Fin 65536) (c : Fin 1024) :
    val_main_v32 (F := Ideal) x0 x1 x2 x3 x4 x5 x6 x7 x8 (ix2 r c) = spec x0 x1 x2 (words x3 x5 x7) (words x4 x6 x8) r c := by
  unfold spec nrm row
  simp only [← num_v6]
  unfold val_main_v32 val_main_v31 val_main_v30 val_main_v29 val_main_v28 val_main_v27 val_main_v26 val_main_v25 val_main_cst_1 val_main_v24 val_main_v23 val_main_cst_0 val_main_v22 val_main_v21 val_main_cst
    val_main_v20 val_main_v19 val_main_v18 val_main_v17 val_main_v16 val_main_v15 val_main_v9 val_main_v8 val_main_v7
  rw [show val_main_v14 (F := Ideal) x4 x6 x8 = val_main_v6 (F := Ideal) x4 x6 x8 from rfl]
  generalize val_main_v6 (F := Ideal) x4 x6 x8 = B
  generalize val_main_v6 (F := Ideal) x3 x5 x7 = A
  pointwise

end

end Cert.Combine

end
-- ==== Proof.CombineRun.lean ====
/- The run of the three combine calls over exact real arithmetic: each call writes its own rows of the result array and
   leaves the rows the earlier calls wrote, so the array ends holding `spec` of the arguments everywhere. -/
module

public import proofs.«01_k».proof.Proof.Combine
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable (m : (ℓ : Loc nD τ sig) → Buf (Elt Ideal) ℓ) (ρ : Dev nD → PrngReg)

/-- The first routed row's words: the three parts of the gathered rows, one under the other. -/
def Y0 (c : Dev nD) : Fin 65536 → Fin 512 → BitVec 32 :=
  words (m ((c : Thread nD τ).loc main_arg3)) (m ((c : Thread nD τ).loc main_arg5)) (m ((c : Thread nD τ).loc main_arg7))

/-- The second routed row's words. -/
def Y1 (c : Dev nD) : Fin 65536 → Fin 512 → BitVec 32 :=
  words (m ((c : Thread nD τ).loc main_arg4)) (m ((c : Thread nD τ).loc main_arg6)) (m ((c : Thread nD τ).loc main_arg8))

/-- The result array, as the arguments give it. -/
def whole (c : Dev nD) : S65536x1024.Idx → EReal := fun i =>
  spec (m ((c : Thread nD τ).loc main_arg0)) (m ((c : Thread nD τ).loc main_arg1)) (m ((c : Thread nD τ).loc main_arg2)) (Y0 m c) (Y1 m c) (i 0) (i 1)

/-! ## The index maps -/

theorem idx0 : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] :=
  (by decide +kernel : ∀ t : Fin grid0.N, _)
theorem idx1 : ∀ t : Fin cfg1.N, win1_0.index t = ![t.val + 8, 0] ∧ win1_1.index t = ![t.val + 8, 0] ∧ win1_2.index t = ![0, 0]
    ∧ win1_3.index t = ![t.val, 0] ∧ win1_4.index t = ![t.val, 0] ∧ win1_5.index t = ![t.val + 8, 0] :=
  (by decide +kernel : ∀ t : Fin grid1.N, _)
theorem idx2 : ∀ t : Fin cfg2.N, win2_0.index t = ![t.val + 32, 0] ∧ win2_1.index t = ![t.val + 32, 0] ∧ win2_2.index t = ![0, 0]
    ∧ win2_3.index t = ![t.val, 0] ∧ win2_4.index t = ![t.val, 0] ∧ win2_5.index t = ![t.val + 32, 0] :=
  (by decide +kernel : ∀ t : Fin grid2.N, _)

theorem same {h h' : Fin 1024 → EReal} {a a' b b' : Fin 512 → BitVec 32} {w₁ w₁' w₂ w₂' g g' : EReal} {c : Fin 1024} (eh : ∀ k, h k = h' k)
    (ea : ∀ j, a j = a' j) (eb : ∀ j, b j = b' j) (e₁ : w₁ = w₁') (e₂ : w₂ = w₂') (eg : g = g') :
    nrm (row h a b w₁ w₂) g c = nrm (row h' a' b' w₁' w₂') g' c := by
  rw [funext eh, funext ea, funext eb, e₁, e₂, eg]

/-- The routing weights are columns 2 and 3 of the routing block. -/
theorem ld2 (X : Vec Ideal S1024x8 .f32) (r : Fin 1024) : View.ld X r0_0 (ix2 r 0) = X (ix2 r 2) := by pointwise
theorem ld3 (X : Vec Ideal S1024x8 .f32) (r : Fin 1024) : View.ld X r0_1 (ix2 r 0) = X (ix2 r 3) := by pointwise

/-! ## The first call -/

theorem V1_arg (c : Dev nD) (b : Ref sig .tc) (h : b ∈ argRefs) : V1 m ρ c b = m ((c : Thread nD τ).loc b) := W1_args m ρ c b h

theorem V1_gain (c : Dev nD) (k : Fin 1024) : V1 m ρ c main_v0 (ix2 0 k) = m ((c : Thread nD τ).loc main_arg2) (ix1 k) := by
  have e : V1 m ρ c main_v0 = shapeCast S1x1024 (m ((c : Thread nD τ).loc main_arg2)) shapeCasts_S1024_S1x1024 := by
    show StableHlo.after hostOps0 (W0 m ρ c) (Proc.devRef .tc main_v0) = _
    after_results
    try rfl
  rw [e]
  pointwise

theorem final0 (c : Dev nD) : (dat0 (V1 m ρ) c).arrAt 5 cfg0.N = fun i => if (i 0 : ℕ) < 8192 then whole m c i else V1 m ρ c main_v1 i := by
  refine (dat0 (V1 m ρ) c).arrAt_eq_of_coversWhere 5 _ (fun β => β 0 < 8) (by decide +kernel) (fun t hf y => ?_) (fun j => by blk_simp [Pipeline.Window.cell_apply]; omega)
  blk_simp
  rw [after0_5]; frame_out
  have ht : t.val < 8 := lt_of_lt_of_eq t.isLt N_0
  idx_vars y
  rw [pay0]
  have e0 : ((View.whole main_v1).slice (win0_5.rect t)).emb (ix2 y0 y1) 0 = (⟨t.val * 1024 + y0.val, by omega⟩ : Fin 65536) := by
    apply Fin.ext; blk_simp [idx0 t]
  have e1 : ((View.whole main_v1).slice (win0_5.rect t)).emb (ix2 y0 y1) 1 = y1 := by
    apply Fin.ext; blk_simp [idx0 t]
  unfold whole spec
  rw [e0, e1]
  have a0 := V1_arg m ρ c main_arg0 (by decide)
  have a1 := V1_arg m ρ c main_arg1 (by decide)
  have a3 := V1_arg m ρ c main_arg3 (by decide)
  have a4 := V1_arg m ρ c main_arg4 (by decide)
  refine same (fun k => ?_) (fun j => ?_) (fun j => ?_) ?_ ?_ ?_
  · rw [← a1]; blk_ext [iblk0, idx0 t]
  · unfold Y0 words
    rw [dif_pos (by dsimp only; omega), ← a3]; blk_ext [iblk0, idx0 t]
  · unfold Y1 words
    rw [dif_pos (by dsimp only; omega), ← a4]; blk_ext [iblk0, idx0 t]
  · rw [ld2, ← a0]; blk_ext [iblk0, idx0 t]
  · rw [ld3, ← a0]; blk_ext [iblk0, idx0 t]
  · rw [← V1_gain m ρ c]; blk_ext [iblk0, idx0 t]

/-! ## The second call -/

theorem V3_arg (c : Dev nD) (b : Ref sig .tc) (h : b ∈ argRefs) : V3 m ρ c b = m ((c : Thread nD τ).loc b) := W3_args m ρ c b h

theorem V3_gain (c : Dev nD) (k : Fin 1024) : V3 m ρ c main_v2 (ix2 0 k) = m ((c : Thread nD τ).loc main_arg2) (ix1 k) := by
  have e : V3 m ρ c main_v2 = shapeCast S1x1024 (m ((c : Thread nD τ).loc main_arg2)) shapeCasts_S1024_S1x1024 := by
    show StableHlo.after hostOps1 (W2 m ρ c) (Proc.devRef .tc main_v2) = _
    after_results
    rw [show W2 m ρ c (Proc.devRef .tc main_arg2) = m ((c : Thread nD τ).loc main_arg2) from W2_args m ρ c main_arg2 (by decide)]
    try rfl
  rw [e]
  pointwise

theorem final1 (c : Dev nD) : (dat1 (V3 m ρ) c).arrAt 5 cfg1.N = fun i => if 8192 ≤ (i 0 : ℕ) ∧ (i 0 : ℕ) < 32768 then whole m c i else V3 m ρ c main_v3 i := by
  refine (dat1 (V3 m ρ) c).arrAt_eq_of_coversWhere 5 _ (fun β => 8 ≤ β 0 ∧ β 0 < 32) (by decide +kernel) (fun t hf y => ?_) (fun j => by blk_simp [Pipeline.Window.cell_apply]; omega)
  blk_simp
  rw [after1_5]; unfold outsAt1; frame_out
  have ht : t.val < 24 := lt_of_lt_of_eq t.isLt N_1
  idx_vars y
  rw [show @k1_pay1 Ideal _ = @k0_pay1 Ideal _ from rfl]
  rw [pay0]
  have e0 : ((View.whole main_v3).slice (win1_5.rect t)).emb (ix2 y0 y1) 0 = (⟨(t.val + 8) * 1024 + y0.val, by omega⟩ : Fin 65536) := by
    apply Fin.ext; blk_simp [idx1 t]
  have e1 : ((View.whole main_v3).slice (win1_5.rect t)).emb (ix2 y0 y1) 1 = y1 := by
    apply Fin.ext; blk_simp [idx1 t]
  unfold whole spec
  rw [e0, e1]
  have a0 := V3_arg m ρ c main_arg0 (by decide)
  have a1 := V3_arg m ρ c main_arg1 (by decide)
  have a3 := V3_arg m ρ c main_arg5 (by decide)
  have a4 := V3_arg m ρ c main_arg6 (by decide)
  refine same (fun k => ?_) (fun j => ?_) (fun j => ?_) ?_ ?_ ?_
  · rw [← a1]; blk_ext [iblk1, idx1 t]
  · unfold Y0 words
    rw [dif_neg (by dsimp only; omega), dif_pos (by dsimp only; omega), ← a3]; blk_ext [iblk1, idx1 t]
  · unfold Y1 words
    rw [dif_neg (by dsimp only; omega), dif_pos (by dsimp only; omega), ← a4]; blk_ext [iblk1, idx1 t]
  · rw [ld2, ← a0]; blk_ext [iblk1, idx1 t]
  · rw [ld3, ← a0]; blk_ext [iblk1, idx1 t]
  · rw [← V3_gain m ρ c]; blk_ext [iblk1, idx1 t]

/-! ## The third call -/

theorem V5_arg (c : Dev nD) (b : Ref sig .tc) (h : b ∈ argRefs) : V5 m ρ c b = m ((c : Thread nD τ).loc b) := W5_args m ρ c b h

theorem V5_gain (c : Dev nD) (k : Fin 1024) : V5 m ρ c main_v4 (ix2 0 k) = m ((c : Thread nD τ).loc main_arg2) (ix1 k) := by
  have e : V5 m ρ c main_v4 = shapeCast S1x1024 (m ((c : Thread nD τ).loc main_arg2)) shapeCasts_S1024_S1x1024 := by
    show StableHlo.after hostOps2 (W4 m ρ c) (Proc.devRef .tc main_v4) = _
    after_results
    rw [show W4 m ρ c (Proc.devRef .tc main_arg2) = m ((c : Thread nD τ).loc main_arg2) from W4_args m ρ c main_arg2 (by decide)]
    try rfl
  rw [e]
  pointwise

theorem final2 (c : Dev nD) : (dat2 (V5 m ρ) c).arrAt 5 cfg2.N = fun i => if 32768 ≤ (i 0 : ℕ) then whole m c i else V5 m ρ c main_v5 i := by
  refine (dat2 (V5 m ρ) c).arrAt_eq_of_coversWhere 5 _ (fun β => 32 ≤ β 0) (by decide +kernel) (fun t hf y => ?_) (fun j => by blk_simp [Pipeline.Window.cell_apply]; omega)
  blk_simp
  rw [after2_5]; unfold outsAt2; frame_out
  have ht : t.val < 32 := lt_of_lt_of_eq t.isLt N_2
  idx_vars y
  rw [show @k2_pay1 Ideal _ = @k0_pay1 Ideal _ from rfl]
  rw [pay0]
  have e0 : ((View.whole main_v5).slice (win2_5.rect t)).emb (ix2 y0 y1) 0 = (⟨(t.val + 32) * 1024 + y0.val, by omega⟩ : Fin 65536) := by
    apply Fin.ext; blk_simp [idx2 t]
  have e1 : ((View.whole main_v5).slice (win2_5.rect t)).emb (ix2 y0 y1) 1 = y1 := by
    apply Fin.ext; blk_simp [idx2 t]
  unfold whole spec
  rw [e0, e1]
  have a0 := V5_arg m ρ c main_arg0 (by decide)
  have a1 := V5_arg m ρ c main_arg1 (by decide)
  have a3 := V5_arg m ρ c main_arg7 (by decide)
  have a4 := V5_arg m ρ c main_arg8 (by decide)
  refine same (fun k => ?_) (fun j => ?_) (fun j => ?_) ?_ ?_ ?_
  · rw [← a1]; blk_ext [iblk2, idx2 t]
  · unfold Y0 words
    rw [dif_neg (by dsimp only; omega), dif_neg (by dsimp only; omega), ← a3]; blk_ext [iblk2, idx2 t]
  · unfold Y1 words
    rw [dif_neg (by dsimp only; omega), dif_neg (by dsimp only; omega), ← a4]; blk_ext [iblk2, idx2 t]
  · rw [ld2, ← a0]; blk_ext [iblk2, idx2 t]
  · rw [ld3, ← a0]; blk_ext [iblk2, idx2 t]
  · rw [← V5_gain m ρ c]; blk_ext [iblk2, idx2 t]

/-! ## The whole result -/

theorem V3_v3 (c : Dev nD) : V3 m ρ c main_v3 = V2 m ρ c main_v1 := by
  show StableHlo.after hostOps1 (W2 m ρ c) (Proc.devRef .tc main_v3) = _
  after_results
  try rfl

theorem V5_v5 (c : Dev nD) : V5 m ρ c main_v5 = V4 m ρ c main_v3 := by
  show StableHlo.after hostOps2 (W4 m ρ c) (Proc.devRef .tc main_v5) = _
  after_results
  try rfl

theorem result (c : Dev nD) : W6 m ρ c (Proc.devRef .tc main_v5) = whole m c := by
  have h0 : V2 m ρ c main_v1 = _ := (hF0 m ρ c 5).symm.trans (final0 m ρ c)
  have h1 : V4 m ρ c main_v3 = _ := (hF1 m ρ c 5).symm.trans (final1 m ρ c)
  have h2 : V6 m ρ c main_v5 = _ := (hF2 m ρ c 5).symm.trans (final2 m ρ c)
  refine (show W6 m ρ c (Proc.devRef .tc main_v5) = V6 m ρ c main_v5 from rfl).trans (h2.trans ?_)
  funext i
  rw [V5_v5, h1]
  dsimp only
  rw [V3_v3, h0]
  dsimp only
  split_ifs <;> first | rfl | omega

/-! ## The run -/

local notation "𝕄" => MT nD τ sig Unit (Elt Ideal) ℕ (UR sig nD τ) ℕ

set_option backward.isDefEq.respectTransparency.types false in
/-- Every execution of the three calls ends with the result array at `whole` and the arguments as they were. -/
theorem run : θ_run defs (onTc (τ := τ) (main (F := Ideal))) ⟨m, fun _ => 0, ρ⟩ (fun r => ∀ c : Dev nD,
      r.2.mem ((c.tc : Thread nD τ).loc main_v5) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨(h c _ (mem_uc main_v5 (by decide))).trans (result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.Combine

end
-- ==== Proof.CombineClaims.lean ====
/- The claims about the combine calls. -/
module

public import proofs.«01_k».proof.Defs
public import proofs.«01_k».proof.Proof.CombineRun
public import proofs.«01_k».proof.Proof.Gen.Kernel.Frame
public import proofs.«01_k».proof.Proof.Gen.ReferenceIdeal.Run
public import Idealize.ShloMosaic.Lib.Quiescent

@[expose] public section

set_option maxRecDepth 16384

noncomputable section

namespace Cert.Combine

open Idealize.ShloMosaic Idealize.ShloMosaic.TcCoe Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal := trivial

/-- The three combine calls compute the reference's result. -/
theorem algebraic : Cert.algebraic_KernelIdeal_ReferenceIdeal := by
  intro m ρ m' ρ' _ hagree
  refine ⟨fun c => whole m c, run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8⟩ := hagree c
  have e : Cert.ReferenceIdeal.Value.res_main_v32 m' c = Cert.ReferenceIdeal.Read.val_main_v32 (F := Ideal)
      (m' ((c.tc : Thread Cert.ReferenceIdeal.nD Cert.ReferenceIdeal.τ).loc Cert.ReferenceIdeal.main_arg0)) (m' (c.tc.loc Cert.ReferenceIdeal.main_arg1))
      (m' (c.tc.loc Cert.ReferenceIdeal.main_arg2)) (m' (c.tc.loc Cert.ReferenceIdeal.main_arg3)) (m' (c.tc.loc Cert.ReferenceIdeal.main_arg4))
      (m' (c.tc.loc Cert.ReferenceIdeal.main_arg5)) (m' (c.tc.loc Cert.ReferenceIdeal.main_arg6)) (m' (c.tc.loc Cert.ReferenceIdeal.main_arg7))
      (m' (c.tc.loc Cert.ReferenceIdeal.main_arg8)) := rfl
  rw [e, h0, h1, h2, h3, h4, h5, h6, h7, h8]
  funext i
  rw [show i = ix2 (i 0) (i 1) from funext fun a => by fin_cases a <;> rfl]
  exact refAt _ _ _ _ _ _ _ _ _ (i 0) (i 1)

end Cert.Combine

end
-- ==== Proof.PostRoute.lean ====
/- The router of the `post` kernel as mathematics on one row of extended reals. The kernel chooses among 128 lanes: the
   32 experts in lanes 0 to 31, the four groups of eight experts in lanes 32 to 35, nothing in the rest. The reference
   chooses among the four groups, then among the 32 experts. Here it is shown that both choose the same. -/
module

public import Idealize.ShloMosaic.Lib.Pointwise

@[expose] public section

set_option backward.proofsInPublic true

noncomputable section

namespace Cert.Post

open Idealize.ShloMosaic

/-- The number of a lane. -/
abbrev lane (n : ℕ) : EReal := ((n : ℝ) : EReal)

/-- The largest of finitely many extended reals. -/
abbrev best {n : ℕ} (f : Fin n → EReal) : EReal := Finset.univ.fold max ⊥ f

/-- The smallest of the numbers `p k`. -/
abbrev least {n : ℕ} (p : Fin n → EReal) : EReal := Finset.univ.fold min ⊤ p

/-- The first lane at which `f` is largest, `d` standing in for the lanes at which it is not. -/
abbrev argbest {n : ℕ} (d : EReal) (f : Fin n → EReal) : EReal :=
  least fun k => if f k = best f then lane k.val else d

theorem le_best {n : ℕ} (f : Fin n → EReal) (k : Fin n) : f k ≤ best f :=
  Finset.le_fold_max _ |>.mpr (.inr ⟨k, Finset.mem_univ k, le_rfl⟩)

theorem best_le {n : ℕ} {f : Fin n → EReal} {c : EReal} (h : ∀ k, f k ≤ c) : best f ≤ c :=
  Finset.fold_max_le _ |>.mpr ⟨bot_le, fun k _ => h k⟩

theorem least_le {n : ℕ} (p : Fin n → EReal) (k : Fin n) : least p ≤ p k :=
  Finset.fold_min_le _ |>.mpr (.inr ⟨k, Finset.mem_univ k, le_rfl⟩)

theorem le_least {n : ℕ} {p : Fin n → EReal} {c : EReal} (h : ∀ k, c ≤ p k) : c ≤ least p :=
  Finset.le_fold_min _ |>.mpr ⟨le_top, fun k _ => h k⟩

/-- The largest is reached. -/
theorem best_mem {n : ℕ} [NeZero n] (f : Fin n → EReal) : ∃ k, f k = best f := by
  by_contra h
  have h' : ∀ k, f k < best f := fun k => lt_of_le_of_ne (le_best f k) fun e => h ⟨k, e⟩
  rcases eq_or_ne (best f) ⊥ with hb | hb
  · exact absurd (h' 0) (by rw [hb]; exact not_lt_bot)
  · exact lt_irrefl _ ((Finset.fold_max_lt (best f)).mpr ⟨bot_lt_iff_ne_bot.mpr hb, fun k _ => h' k⟩)

theorem lane_le {a b : ℕ} (h : a ≤ b) : lane a ≤ lane b :=
  EReal.coe_le_coe_iff.mpr (Nat.cast_le.mpr h)

theorem lane_inj {a b : ℕ} : lane a = lane b ↔ a = b := by
  simp [lane, EReal.coe_eq_coe_iff]

section Lanes

variable {n m : ℕ} [NeZero n] (h : n ≤ m) (f : Fin m → EReal) (g : Fin n → EReal)
  (hf : ∀ k : Fin n, f (Fin.castLE h k) = g k) (hb : ∀ x : Fin m, n ≤ x.val → f x = ⊥)
include hf hb

/-- Lanes that hold `⊥` do not change the largest. -/
theorem best_lanes : best f = best g := by
  refine le_antisymm (best_le fun x => ?_) (best_le fun k => hf k ▸ le_best f _)
  by_cases hx : x.val < n
  · have : f x = g ⟨x.val, hx⟩ := hf ⟨x.val, hx⟩
    exact this ▸ le_best g _
  · rw [hb x (by omega)]; exact bot_le

/-- Nor the first lane at which it is reached. -/
theorem argbest_lanes : argbest (lane m) f = argbest (lane n) g := by
  have hbest := best_lanes h f g hf hb
  obtain ⟨k₀, hk₀⟩ := best_mem g
  refine le_antisymm (le_least fun k => ?_) (le_least fun x => ?_)
  · have key : ∀ j : Fin n, g j = best g → argbest (lane m) f ≤ lane j.val := fun j hj => by
      refine (least_le _ (Fin.castLE h j)).trans (le_of_eq ?_)
      simp only [hf, hbest, hj, if_true, Fin.val_castLE]
    split_ifs with hk
    · exact key k hk
    · exact (key k₀ hk₀).trans (lane_le k₀.isLt.le)
  · have key : ∀ j : Fin n, g j = best g → argbest (lane n) g ≤ lane j.val := fun j hj => by
      refine (least_le _ j).trans (le_of_eq ?_)
      simp only [hj, if_true]
    split_ifs with hx
    · by_cases hlt : x.val < n
      · refine key ⟨x.val, hlt⟩ ?_
        rw [← hf ⟨x.val, hlt⟩, ← hbest]; exact hx
      · have hbot : best g = ⊥ := by rw [← hbest, ← hx, hb x (by omega)]
        refine (key 0 ?_).trans (lane_le (by simp))
        rw [hbot]; exact le_bot_iff.mp (hbot ▸ le_best g 0)
    · exact (key k₀ hk₀).trans (lane_le (k₀.isLt.le.trans h))

end Lanes

/-- A row with one lane taken out. -/
abbrev without {n : ℕ} (f : Fin n → EReal) (i : EReal) (k : Fin n) : EReal := if lane k.val = i then ⊥ else f k

section Kernel

variable (l : Fin 128 → EReal)

/-- The kernel's row of groups. -/
abbrev kgroups (x : Fin 128) : EReal := if 32 ≤ x.val ∧ x.val < 36 then l x else ⊥

/-- The kernel's group: the first best. -/
abbrev kgroup : EReal := least fun x : Fin 128 => if kgroups l x = best (kgroups l) then lane x.val - lane 32 else lane 128

/-- The kernel's row of the experts of its group. -/
abbrev kinside (x : Fin 128) : EReal := if lane (x.val / 8) = kgroup l then l x else ⊥

/-- The kernel's sum for the group's gate. -/
abbrev ksum : EReal := ∑ x : Fin 128, if 32 ≤ x.val ∧ x.val < 36 then Ideal.exp (l x - best (kgroups l)) else 0

end Kernel

section Reference

variable (lg : Fin 4 → EReal) (le : Fin 32 → EReal)

/-- The first best group, 4 where every group is at `⊥`. -/
abbrev group : EReal := least fun k : Fin 4 => if lg k = best lg ∧ ⊥ < lg k then lane k.val else lane 4

/-- The row of the experts of that group. -/
abbrev inside (k : Fin 32) : EReal := if lane (k.val / 8) = group lg then le k else ⊥

/-- The sum for the group's gate. -/
abbrev gsum : EReal := ∑ k : Fin 4, Ideal.exp (lg k - best lg)

end Reference

variable (l : Fin 128 → EReal) (lg : Fin 4 → EReal) (le : Fin 32 → EReal)
  (hg : ∀ k : Fin 4, l ⟨32 + k.val, by omega⟩ = lg k) (he : ∀ k : Fin 32, l ⟨k.val, by omega⟩ = le k)

include hg in
theorem best_groups : best (kgroups l) = best lg := by
  refine le_antisymm (best_le fun x => ?_) (best_le fun k => ?_)
  · unfold kgroups
    split_ifs with h
    · have := hg ⟨x.val - 32, by omega⟩
      have hx : (⟨32 + (x.val - 32), by omega⟩ : Fin 128) = x := Fin.ext (by simp; omega)
      rw [hx] at this
      exact this ▸ le_best lg _
    · exact bot_le
  · have := le_best (kgroups l) ⟨32 + k.val, by omega⟩
    unfold kgroups at this
    rwa [if_pos ⟨by simp, by simp; omega⟩, hg] at this

include hg in
/-- Either both take the same one of the four groups, or every group is at `⊥` and neither takes one. -/
theorem group_cases : (kgroup l = group lg ∧ group lg ≤ lane 3) ∨ (kgroup l = ((-32 : ℝ) : EReal) ∧ group lg = lane 4) := by
  have hbest := best_groups l lg hg
  have sub32 : ∀ a : ℕ, lane a - lane 32 = (((a : ℝ) - 32 : ℝ) : EReal) := fun a => by
    show ((a : ℝ) : EReal) - (((32 : ℕ) : ℝ) : EReal) = _
    rw [← EReal.coe_sub]; norm_num
  have hat : ∀ k : Fin 4, kgroups l ⟨32 + k.val, by omega⟩ = lg k := fun k => by
    unfold kgroups; rw [if_pos ⟨by simp, by simp; omega⟩, hg]
  by_cases hb : best lg = ⊥
  · right
    constructor
    · refine le_antisymm ?_ (le_least fun x => ?_)
      · refine (least_le _ (0 : Fin 128)).trans (le_of_eq ?_)
        have h0 : kgroups l 0 = ⊥ := by unfold kgroups; rw [if_neg (by simp)]
        rw [h0, hbest, hb, if_pos rfl, sub32]; norm_num
      · split_ifs
        · rw [sub32]; exact EReal.coe_le_coe_iff.mpr (by have : (0 : ℝ) ≤ x.val := Nat.cast_nonneg _; linarith)
        · exact EReal.coe_le_coe_iff.mpr (by norm_num)
    · have hn : ∀ k : Fin 4, ¬ (lg k = best lg ∧ ⊥ < lg k) := fun k hk => by
        rw [hk.1, hb] at hk; exact lt_irrefl _ hk.2
      refine le_antisymm ((least_le _ (0 : Fin 4)).trans (le_of_eq (if_neg (hn 0)))) (le_least fun k => ?_)
      rw [if_neg (hn k)]
  · left
    have hpos : ⊥ < best lg := bot_lt_iff_ne_bot.mpr hb
    obtain ⟨k₀, hk₀⟩ := best_mem lg
    have keyR : ∀ k : Fin 4, lg k = best lg → group lg ≤ lane k.val := fun k hk => by
      refine (least_le _ k).trans (le_of_eq (if_pos ⟨hk, hk ▸ hpos⟩))
    have keyK : ∀ k : Fin 4, lg k = best lg → kgroup l ≤ lane k.val := fun k hk => by
      refine (least_le _ ⟨32 + k.val, by omega⟩).trans (le_of_eq ?_)
      rw [if_pos (by rw [hat, hbest, hk]), sub32]
      exact congrArg _ (by push_cast; ring)
    refine ⟨le_antisymm (le_least fun k => ?_) (le_least fun x => ?_), (keyR k₀ hk₀).trans (lane_le (by omega))⟩
    · split_ifs with hk
      · exact keyK k hk.1
      · exact (keyK k₀ hk₀).trans (lane_le k₀.isLt.le)
    · split_ifs with hx
      · by_cases hr : 32 ≤ x.val ∧ x.val < 36
        · have hx' : (⟨32 + (x.val - 32), by omega⟩ : Fin 128) = x := Fin.ext (by simp; omega)
          have := hat ⟨x.val - 32, by omega⟩
          simp only [hx'] at this
          refine (keyR ⟨x.val - 32, by omega⟩ (by rw [← this, hx, hbest])).trans (le_of_eq ?_)
          rw [sub32, lane, Nat.cast_sub hr.1]; norm_num
        · exfalso
          unfold kgroups at hx
          rw [if_neg hr] at hx
          exact hb (by rw [← hbest]; exact hx.symm)
      · exact (keyR k₀ hk₀).trans (lane_le (by omega))

include hg he in
/-- On the experts' lanes the kernel's row is the reference's. -/
theorem inside_at (k : Fin 32) : kinside l (Fin.castLE (by omega) k) = inside lg le k := by
  have hk : l (Fin.castLE (by omega) k) = le k := he k
  unfold kinside inside
  rw [hk]
  rcases group_cases l lg hg with ⟨h, _⟩ | ⟨h, h'⟩
  · rw [h]; rfl
  · rw [if_neg, if_neg]
    · rw [h', lane_inj]; omega
    · rw [h]
      intro e
      have := EReal.coe_eq_coe_iff.mp e
      have h0 : (0 : ℝ) ≤ ((((Fin.castLE (by omega : 32 ≤ 128) k)).val / 8 : ℕ) : ℝ) := Nat.cast_nonneg _
      linarith

include hg in
/-- On the others it holds `⊥`. -/
theorem inside_past (x : Fin 128) (hx : 32 ≤ x.val) : kinside l x = ⊥ := by
  unfold kinside
  rw [if_neg]
  rcases group_cases l lg hg with ⟨h, h'⟩ | ⟨h, _⟩
  · intro e
    rw [h] at e
    rw [← e] at h'
    have := Nat.cast_le.mp (EReal.coe_le_coe_iff.mp h')
    omega
  · rw [h]
    intro e
    have := EReal.coe_eq_coe_iff.mp e
    have h0 : (0 : ℝ) ≤ ((x.val / 8 : ℕ) : ℝ) := Nat.cast_nonneg _
    linarith

include hg he in
/-- The best expert's logit. -/
theorem best_inside : best (kinside l) = best (inside lg le) :=
  best_lanes (by omega) _ _ (inside_at l lg le hg he) (inside_past l lg hg)

include hg he in
/-- The best expert. -/
theorem first_inside : argbest (lane 128) (kinside l) = argbest (lane 32) (inside lg le) :=
  argbest_lanes (by omega) _ _ (inside_at l lg le hg he) (inside_past l lg hg)

include hg he in
theorem rest_at (i : EReal) (k : Fin 32) : without (kinside l) i (Fin.castLE (by omega) k) = without (inside lg le) i k := by
  unfold without
  rw [inside_at l lg le hg he]; rfl

include hg in
theorem rest_past (i : EReal) (x : Fin 128) (hx : 32 ≤ x.val) : without (kinside l) i x = ⊥ := by
  unfold without
  rw [inside_past l lg hg x hx, ite_self]

include hg he in
/-- The second best expert's logit. -/
theorem best_rest (i : EReal) : best (without (kinside l) i) = best (without (inside lg le) i) :=
  best_lanes (by omega) _ _ (rest_at l lg le hg he i) (rest_past l lg hg i)

include hg he in
/-- The second best expert. -/
theorem first_rest (i : EReal) : argbest (lane 128) (without (kinside l) i) = argbest (lane 32) (without (inside lg le) i) :=
  argbest_lanes (by omega) _ _ (rest_at l lg le hg he i) (rest_past l lg hg i)

include hg in
/-- The sum for the group's gate. -/
theorem sum_groups : ksum l = gsum lg := by
  symm
  refine Finset.sum_of_injOn (fun k : Fin 4 => (⟨32 + k.val, by omega⟩ : Fin 128)) ?_ ?_ ?_ ?_
  · intro a _ b _ hab
    exact Fin.ext (by have := congrArg Fin.val hab; simp at this; omega)
  · intro a _; exact Finset.mem_coe.mpr (Finset.mem_univ _)
  · intro x _ hx
    refine if_neg fun h => hx ⟨⟨x.val - 32, by omega⟩, Finset.mem_coe.mpr (Finset.mem_univ _), Fin.ext (by simp; omega)⟩
  · intro k _
    rw [best_groups l lg hg, if_pos ⟨by simp, by simp; omega⟩, hg]

end Cert.Post

end
-- ==== Proof.PostSpec.lean ====
/- The mathematics of the `post` call on one token's row of extended reals: the mixers' merge, cross-attention over the
   memory of the token's batch row, the RMS-normed residual stream, and the router's choice of two experts. -/
module

public import proofs.«01_k».proof.Proof.PostRoute

@[expose] public section

set_option backward.proofsInPublic true

noncomputable section

namespace Cert.Post

open Idealize.ShloMosaic

/-- A row of `n` numbers, and a table of `m` rows. -/
abbrev Row (n : ℕ) := Fin n → EReal
abbrev Tab (m n : ℕ) := Fin m → Fin n → EReal

/-- The RMS normalisation of a row `z` with gain `g`. -/
def rms (g z : Row 1024) : Row 1024 := fun d =>
  z d * Ideal.rsqrt (Ideal.div (∑ e, z e * z e) (Ideal.ofBits .f32 1149239296#32) + Ideal.ofBits .f32 897988541#32) * g d

/-- A row times a matrix. -/
def lin {m n : ℕ} (z : Row m) (w : Tab m n) : Row n := fun d => ∑ e, z e * w e d

/-- The residual stream after the mixers. -/
def mixed (ya : Row 256) (ga mb x : Row 1024) (woa : Tab 256 1024) (wo : Tab 1024 1024) : Row 1024 := fun d =>
  x d + lin (fun e => ga e * lin ya woa e + mb e) wo d

/-- The scale of the scores, one over the square root of the head size. -/
abbrev scale : EReal := Ideal.ofBits .f32 1031798784#32

/-- Column `d` of head `hd`: 256 columns to a head. -/
abbrev col (hd : Fin 4) (d : Fin 256) : Fin 1024 := ⟨256 * hd.val + d.val, by omega⟩
/-- Keys are the first 1024 columns of the memory's projection, values the last. -/
abbrev key (hd : Fin 4) (d : Fin 256) : Fin 2048 := ⟨256 * hd.val + d.val, by omega⟩
abbrev val (hd : Fin 4) (d : Fin 256) : Fin 2048 := ⟨1024 + (256 * hd.val + d.val), by omega⟩

/-- The scores of one head against the memory rows. -/
def score (q : Row 1024) (kv : Tab 256 2048) (hd : Fin 4) : Row 256 := fun j => (∑ d : Fin 256, q (col hd d) * kv j (key hd d)) * scale

/-- Softmax of the scores `s` applied to the values `v`. -/
def soft (s v : Row 256) : EReal :=
  Ideal.div (∑ j, Ideal.exp (s j - best s) * v j) (∑ j, Ideal.exp (s j - best s))

/-- One head's output. -/
def head (q : Row 1024) (kv : Tab 256 2048) (hd : Fin 4) : Row 256 := fun d => soft (score q kv hd) fun j => kv j (val hd d)

/-- The heads side by side. -/
def attended (q : Row 1024) (kv : Tab 256 2048) : Row 1024 := fun e =>
  head q kv ⟨e.val / 256, by omega⟩ ⟨e.val % 256, by omega⟩

/-- The residual stream after the attention. -/
def resid (h q : Row 1024) (kv : Tab 256 2048) (wox : Tab 1024 1024) : Row 1024 := fun d => h d + lin (attended q kv) wox d

/-- The second logit of a choice over the first. -/
def odds (f : Row 32) : EReal := Ideal.exp (best (without f (argbest (lane 32) f)) - best f)

/-- The routing row: the two experts' numbers, their weights, and zeros. -/
def routed (lg : Row 4) (le : Row 32) : Row 8 := fun k =>
  if k = 0 then argbest (lane 32) (inside lg le)
  else if k = 1 then argbest (lane 32) (without (inside lg le) (argbest (lane 32) (inside lg le)))
  else if k = 2 then Ideal.div 1 (gsum lg) * Ideal.div 1 (1 + odds (inside lg le))
  else if k = 3 then Ideal.div 1 (gsum lg) * Ideal.div (odds (inside lg le)) (1 + odds (inside lg le))
  else 0

/-! ## One token -/

section
variable (ya : Row 256) (ga mb x : Row 1024) (woa : Tab 256 1024) (wo : Tab 1024 1024) (gx : Row 1024) (wq : Tab 1024 1024) (kv : Tab 256 2048)
  (wox : Tab 1024 1024) (gm : Row 1024) (wg : Tab 1024 4) (bg : Row 4) (we : Tab 1024 32) (be : Row 32)

/-- The token's row of the residual stream. -/
def stream : Row 1024 :=
  resid (mixed ya ga mb x woa wo) (lin (rms gx (mixed ya ga mb x woa wo)) wq) kv wox

/-- The row the router and the experts read. -/
def normed : Row 1024 := rms gm (stream ya ga mb x woa wo gx wq kv wox)

/-- The token's routing row. -/
def route : Row 8 :=
  routed (fun k => lin (normed ya ga mb x woa wo gx wq kv wox gm) wg k + bg k) (fun k => lin (normed ya ga mb x woa wo gx wq kv wox gm) we k + be k)
end

/-! ## Constants -/

theorem bits_bot : Ideal.ofBits .f32 4286578688#32 = (⊥ : EReal) := by simp [Ideal.ofBits, Ideal.ieee]
theorem bits_top : Ideal.ofBits .f32 2139095040#32 = (⊤ : EReal) := by simp [Ideal.ofBits, Ideal.ieee]
theorem bits_32 : Ideal.ofBits .f32 1107296256#32 = lane 32 := by
  simp [Ideal.ofBits, Ideal.ieee, lane, -EReal.coe_mul]; norm_num
theorem bits_128 : Ideal.ofBits .f32 1124073472#32 = lane 128 := by
  simp [Ideal.ofBits, Ideal.ieee, lane, -EReal.coe_mul]; norm_num
theorem bits_4 : Ideal.ofBits .f32 1082130432#32 = lane 4 := by
  simp [Ideal.ofBits, Ideal.ieee, lane, -EReal.coe_mul]; norm_num
theorem scale_eq : scale = ((1 / 16 : ℝ) : EReal) := by
  simp [scale, Ideal.ofBits, Ideal.ieee, -EReal.coe_mul]; norm_num

/-! ## Scaling the queries scales the scores -/

theorem sum_mul {n : ℕ} (f : Fin n → EReal) : (∑ d, f d) * scale = ∑ d, f d * scale := by
  rw [scale_eq]
  induction (Finset.univ : Finset (Fin n)) using Finset.induction_on with
  | empty => simp
  | insert a s ha ih =>
    rw [Finset.sum_insert ha, Finset.sum_insert ha, ← ih]
    exact EReal.right_distrib_of_nonneg_of_ne_top (by norm_num) (EReal.coe_ne_top _) _ _

theorem scaled (f g : Row 256) : ∑ d, f d * scale * g d = (∑ d, f d * g d) * scale := by
  rw [sum_mul]
  exact Finset.sum_congr rfl fun d _ => mul_right_comm _ _ _

/-! ## The two forms of the weights -/

theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_nonneg r)

theorem odds_ne (x : EReal) (hx : 0 ≤ x) : 1 + x ≠ 0 := by
  have : (0 : EReal) < 1 + x := lt_of_lt_of_le (by norm_num) (le_add_of_nonneg_right hx)
  exact this.ne'

theorem weight (a b x : EReal) (hx : 0 ≤ x) : Ideal.div (a * b) (1 + x) = a * Ideal.div b (1 + x) := by
  unfold Ideal.div
  rw [if_neg (odds_ne x hx), if_neg (odds_ne x hx), mul_assoc]

end Cert.Post
-- ==== Proof.PostSame.lean ====
/- The `post` kernel writes its body out twice, for rows 0 to 511 and for rows 512 to 1023 of a block, and the two copies
   are cut into named pieces differently. Here each piece of the second copy is the same function as one of the first. -/
module

public import proofs.«01_k».proof.Proof.Gen.PostIdeal.Skeleton
public import Idealize.ShloMosaic.Lib.Pointwise

@[expose] public section

set_option backward.proofsInPublic true
set_option maxRecDepth 16384

noncomputable section

namespace Cert.Post

open Idealize.ShloMosaic Idealize.SL.Sem
open Cert.PostIdeal Cert.PostIdeal.Gen

section
variable (a : Vec Ideal S512x256 .bf16) (b : Vec Ideal S256x1024 .bf16) (ga mb : Vec Ideal S512x1024 .bf16) (x : Vec Ideal S512x1024 .f32)
  (wo : Vec Ideal S1024x1024 .bf16) (g : Vec Ideal S1x1024 .f32) (wq : Vec Ideal S1024x1024 .bf16) (k v : Vec Ideal S256x256 .bf16)

/-- The residual stream after the mixers. -/
def H1 : Vec Ideal S512x1024 .f32 := k0_pay4 a b ga mb x wo
/-- The scaled queries. -/
def Q : Vec Ideal S512x1024 .bf16 := k0_pay7 (k0_pay4 a b ga mb x wo) (k0_pay5 g) (k0_pay6 a b ga mb x wo) wq

theorem h1_second : k0_pay38 (k0_pay36 a b) (k0_pay37 ga) mb x wo = k0_pay4 a b ga mb x wo := rfl
theorem q_second : k0_pay39 (k0_pay36 a b) (k0_pay37 ga) mb x wo g wq = Q a b ga mb x wo g wq := rfl
theorem q_first : k0_pay7 (k0_pay4 a b ga mb x wo) (k0_pay5 g) (k0_pay6 a b ga mb x wo) wq = Q a b ga mb x wo g wq := rfl
theorem head0_second : k0_pay42 (k0_pay40 (k0_pay36 a b) (k0_pay37 ga) mb x wo g wq k) (k0_pay41 (k0_pay36 a b) (k0_pay37 ga) mb x wo g wq k) v
    = k0_pay8 (k0_pay4 a b ga mb x wo) (k0_pay5 g) (k0_pay6 a b ga mb x wo) wq k v := rfl
end

section
variable (q : Vec Ideal S512x1024 .bf16) (k v : Vec Ideal S256x256 .bf16)
theorem head1_second : k0_pay43 q k v = k0_pay9 q k v := rfl
theorem head2_second : k0_pay44 q k v = k0_pay13 (k0_pay11 q k) (k0_pay12 q k) v := rfl
theorem head3_second : k0_pay48 (k0_pay46 q k) (k0_pay47 q k) v = k0_pay14 q k v := rfl
end

section
variable (h : Vec Ideal S512x1024 .f32) (o : Vec Ideal S512x1024 .bf16) (w : Vec Ideal S1024x1024 .bf16) (g : Vec Ideal S1x1024 .f32)
  (wr : Vec Ideal S1024x128 .bf16) (br : Vec Ideal S1x128 .f32)

theorem res_second : k0_pay49 h o w = k0_pay15 h o w := rfl
theorem packed_second : k0_pay51 h o w g = k0_pay17 (k0_pay15 h o w) g := rfl
theorem logits_second : k0_pay53 (k0_pay52 h o w g) wr br = k0_pay18 (k0_pay15 h o w) g wr br := rfl
end

section
variable (hn : Vec Ideal S512x1024 .bf16) (wr : Vec Ideal S1024x128 .bf16) (br : Vec Ideal S1x128 .f32)

/-- The numbers of the lanes. -/
abbrev lanes : IVec S512x128 32 := iota .tc S512x128 32 [1] iota_S512x128_d1_w32

/-- The routing block over all 128 lanes, from the logits. -/
def R (l : FVec Ideal S512x128 .f32) : FVec Ideal S512x128 .f32 :=
  k0_pay33 lanes (k0_pay25 l k0_pay21 k0_pay22) (k0_pay28 l k0_pay19 k0_pay20 k0_pay21 k0_pay22)
    (k0_pay31 l k0_pay19 k0_pay20 k0_pay21 k0_pay22) (k0_pay32 l k0_pay19 k0_pay20 k0_pay21 k0_pay22)

theorem r_second : k0_pay62 lanes k0_pay54 (k0_pay58 hn wr br) (k0_pay59 hn wr br) (k0_pay60 hn wr br) (k0_pay61 hn wr br)
    = R (k0_pay53 hn wr br) := rfl
theorem route_first (l : FVec Ideal S512x128 .f32) : k0_pay34 lanes (k0_pay25 l k0_pay21 k0_pay22) (k0_pay28 l k0_pay19 k0_pay20 k0_pay21 k0_pay22)
    (k0_pay31 l k0_pay19 k0_pay20 k0_pay21 k0_pay22) (k0_pay32 l k0_pay19 k0_pay20 k0_pay21 k0_pay22) = k0_pay1 (R l) := rfl
theorem routeT_first (l : FVec Ideal S512x128 .f32) : k0_pay35 lanes (k0_pay25 l k0_pay21 k0_pay22) (k0_pay28 l k0_pay19 k0_pay20 k0_pay21 k0_pay22)
    (k0_pay31 l k0_pay19 k0_pay20 k0_pay21 k0_pay22) (k0_pay32 l k0_pay19 k0_pay20 k0_pay21 k0_pay22) = k0_pay2 (R l) := rfl
end

end Cert.Post
-- ==== Proof.PostRows.lean ====
/- What the pieces of the `post` kernel's body hold at an index, as the row mathematics of `PostSpec`. -/
module

public import proofs.«01_k».proof.Proof.PostSpec
public import proofs.«01_k».proof.Proof.PostSame

@[expose] public section

set_option backward.proofsInPublic true
set_option maxRecDepth 16384

noncomputable section

namespace Cert.Post

open Idealize.ShloMosaic Idealize.SL.Sem
open Cert.PostIdeal Cert.PostIdeal.Gen

/-- Row `r` of a matrix, and the matrix as a table of rows. -/
abbrev row {m n : ℕ} {e : EltTy} (a : Vec Ideal ⟨2, ![m, n]⟩ e) (r : Fin m) : Fin n → Elt Ideal e := fun d => a (ix2 r d)
abbrev tab {m n : ℕ} {e : EltTy} (a : Vec Ideal ⟨2, ![m, n]⟩ e) : Fin m → Fin n → Elt Ideal e := fun r d => a (ix2 r d)

section
variable (a : Vec Ideal S512x256 .bf16) (b : Vec Ideal S256x1024 .bf16) (ga mb : Vec Ideal S512x1024 .bf16) (x : Vec Ideal S512x1024 .f32)
  (wo : Vec Ideal S1024x1024 .bf16) (g : Vec Ideal S1x1024 .f32) (wq : Vec Ideal S1024x1024 .bf16)

theorem pay_h1 (r : Fin 512) (d : Fin 1024) :
    k0_pay4 a b ga mb x wo (ix2 r d) = mixed (row a r) (row ga r) (row mb r) (row x r) (tab b) (tab wo) d := by
  unfold mixed lin
  pointwise [k0_pay4]

theorem pay_q (r : Fin 512) (d : Fin 1024) :
    Q a b ga mb x wo g wq (ix2 r d) = lin (rms (row g 0) (fun e => k0_pay4 a b ga mb x wo (ix2 r e))) (tab wq) d * scale := by
  unfold Q lin rms
  pointwise [k0_pay7, k0_pay5, k0_pay6]
end

theorem pay_kv (z : Vec Ideal S256x1024 .f32) (g : Vec Ideal S1x1024 .f32) (w : Vec Ideal S1024x2048 .bf16) (r : Fin 256) (d : Fin 2048) :
    k0_pay3 z g w (ix2 r d) = lin (rms (row g 0) (row z r)) (tab w) d := by
  unfold lin rms
  pointwise [k0_pay3]

/-- Scores of scaled queries. -/
abbrev kscore (q : Row 1024) (k : Tab 256 256) (hd : Fin 4) : Row 256 := fun j => ∑ d : Fin 256, q (col hd d) * k j d

section
variable (a : Vec Ideal S512x256 .bf16) (b : Vec Ideal S256x1024 .bf16) (ga mb : Vec Ideal S512x1024 .bf16) (x : Vec Ideal S512x1024 .f32)
  (wo : Vec Ideal S1024x1024 .bf16) (g : Vec Ideal S1x1024 .f32) (wq : Vec Ideal S1024x1024 .bf16)
  (q : Vec Ideal S512x1024 .bf16) (k v : Vec Ideal S256x256 .bf16) (r : Fin 512) (d : Fin 256)

theorem pay_head0 : k0_pay8 (k0_pay4 a b ga mb x wo) (k0_pay5 g) (k0_pay6 a b ga mb x wo) wq k v (ix2 r d)
    = soft (kscore (row (Q a b ga mb x wo g wq) r) (tab k) 0) fun j => v (ix2 j d) := by
  have e : ∀ x : Fin 256, col 0 x = ⟨x.val, by omega⟩ := fun x => Fin.ext (by show 256 * 0 + x.val = x.val; omega)
  unfold soft kscore
  simp only [best, ← bits_bot, e, row, tab]
  pointwise [k0_pay8, Q]

theorem pay_head1 : k0_pay9 q k v (ix2 r d) = soft (kscore (row q r) (tab k) 1) fun j => v (ix2 j d) := by
  unfold soft kscore
  simp only [best, ← bits_bot]
  pointwise [k0_pay9]
  rfl

theorem pay_head2 : k0_pay13 (k0_pay11 q k) (k0_pay12 q k) v (ix2 r d) = soft (kscore (row q r) (tab k) 2) fun j => v (ix2 j d) := by
  unfold soft kscore
  simp only [best, ← bits_bot]
  pointwise [k0_pay13, k0_pay11, k0_pay12, k0_pay10]
  rfl

theorem pay_head3 : k0_pay14 q k v (ix2 r d) = soft (kscore (row q r) (tab k) 3) fun j => v (ix2 j d) := by
  unfold soft kscore
  simp only [best, ← bits_bot]
  pointwise [k0_pay14]
  rfl
end

section
variable (h : Vec Ideal S512x1024 .f32) (o : Vec Ideal S512x1024 .bf16) (w : Vec Ideal S1024x1024 .bf16) (g : Vec Ideal S1x1024 .f32)
  (wr : Vec Ideal S1024x128 .bf16) (br : Vec Ideal S1x128 .f32)

theorem pay_res (r : Fin 512) (d : Fin 1024) : k0_pay15 h o w (ix2 r d) = h (ix2 r d) + lin (row o r) (tab w) d := by
  unfold lin
  pointwise [k0_pay15]

theorem pay_hn (r : Fin 512) (d : Fin 1024) : k0_pay16 h g (ix2 r d) = rms (row g 0) (row h r) d := by
  unfold rms
  pointwise [k0_pay16]

theorem pay_logits (r : Fin 512) (d : Fin 128) :
    k0_pay18 h g wr br (ix2 r d) = lin (rms (row g 0) (row h r)) (tab wr) d + br (ix2 0 d) := by
  unfold lin rms
  pointwise [k0_pay18, k0_pay16]

theorem pay_packed (r : Fin 1024) (d : Fin 512) :
    k0_pay17 h g (ix2 r d) = rms (row g 0) (row h ⟨r.val / 2, by omega⟩) ⟨r.val % 2 * 512 + d.val, by omega⟩ := by
  have e : k0_pay17 h g (ix2 r d) = if r.val % 2 = 0 then k0_pay16 h g (ix2 ⟨r.val / 2, by omega⟩ ⟨d.val, by omega⟩)
      else k0_pay16 h g (ix2 ⟨r.val / 2, by omega⟩ ⟨512 + d.val, by omega⟩) := by
    pointwise [k0_pay17]
  rw [e, pay_hn, pay_hn]
  split
  · exact congrArg _ (Fin.ext (by simp only; omega))
  · exact congrArg _ (Fin.ext (by simp only; omega))
end

end Cert.Post
-- ==== Proof.PostReads.lean ====
/- What the `post` kernel reads back from its two scratch buffers: the keys and values of one head, and the four heads'
   outputs side by side. -/
module

public import proofs.«01_k».proof.Proof.PostRows
public import Idealize.ShloMosaic.Lib.Pipeline.ValueKit
public import Idealize.ShloMosaic.Lib.Pipeline.ReadBack

@[expose] public section

set_option backward.proofsInPublic true
set_option maxRecDepth 16384

noncomputable section

namespace Cert.Post

open Idealize.ShloMosaic Idealize.SL.Sem
open Cert.PostIdeal Cert.PostIdeal.Gen

/-- 256 columns of the memory's projection, from column `o`. -/
def cols (K : Vec Ideal S256x2048 .bf16) (o : ℕ) (h : o + 256 ≤ 2048) : Vec Ideal S256x256 .bf16 :=
  fun j => K (ix2 (j 0) ⟨o + (j 1).val, by have : (j 1).val < 256 := (j 1).isLt; omega⟩)

theorem cols_apply (K : Vec Ideal S256x2048 .bf16) (o : ℕ) (h : o + 256 ≤ 2048) (r d : Fin 256) :
    cols K o h (ix2 r d) = K (ix2 r ⟨o + d.val, by omega⟩) := rfl

/-- Where a head's keys or values lie in the projection. -/
theorem within_idx (b o tot : ℕ) (htot : b + o = tot) (h : tot + 256 ≤ 2048)
    (inbA : ∀ a, (![0, b] : Fin 2 → ℕ) a + (![256, 1024] : Fin 2 → ℕ) a ≤ S256x2048.size a)
    (inbB : ∀ a, (![0, o] : Fin 2 → ℕ) a + (![256, 256] : Fin 2 → ℕ) a ≤ (Rect.unit (s := S256x2048) ![0, b] ![256, 1024] inbA).shape.size a)
    (h₀ : ∀ a, (Rect.unit (s := S256x2048) ![0, b] ![256, 1024] inbA).stride a = 1) (K : Vec Ideal S256x2048 .bf16) :
    (fun j => K (((Rect.unit (s := S256x2048) ![0, b] ![256, 1024] inbA).withinL
        (Rect.unit (s := (Rect.unit (s := S256x2048) ![0, b] ![256, 1024] inbA).shape) ![0, o] ![256, 256] inbB).toLoadRect h₀).idx j))
      = cols K tot h := by
  subst htot
  funext j
  unfold cols
  refine congrArg K ?_
  funext a; apply Fin.ext
  fin_cases a
  · show 0 + 0 + 1 * (j 0).val = (j 0).val; omega
  · show b + o + 1 * (j 1).val = b + o + (j 1).val; omega

/-- Read back at the point that has just computed the projection. -/
theorem kv_fresh (b o tot : ℕ) (htot : b + o = tot) (h : tot + 256 ≤ 2048)
    (inbP : ∀ a, (![0, 0] : Fin 2 → ℕ) a + (![256, 2048] : Fin 2 → ℕ) a ≤ S256x2048.size a)
    (inbA : ∀ a, (![0, b] : Fin 2 → ℕ) a + (![256, 1024] : Fin 2 → ℕ) a ≤ S256x2048.size a)
    (inbB : ∀ a, (![0, o] : Fin 2 → ℕ) a + (![256, 256] : Fin 2 → ℕ) a ≤ (Rect.unit (s := S256x2048) ![0, b] ![256, 1024] inbA).shape.size a)
    (h₀ : ∀ a, (Rect.unit (s := S256x2048) ![0, b] ![256, 1024] inbA).stride a = 1) (K : Vec Ideal S256x2048 .bf16) :
    (View.whole cc0_scratch1).readCov (Val := Elt Ideal) [⟨Rect.unit (s := S256x2048) ![0, 0] ![256, 2048] inbP, K⟩]
        ((Rect.unit (s := S256x2048) ![0, b] ![256, 1024] inbA).withinL
          (Rect.unit (s := (Rect.unit (s := S256x2048) ![0, b] ![256, 1024] inbA).shape) ![0, o] ![256, 256] inbB).toLoadRect h₀)
      = cols K tot h := by
  rw [View.readCov_eq_canon', View.canon_unit_zero (S := S256x2048) (by funext a; fin_cases a <;> rfl)]
  exact within_idx b o tot htot h inbA inbB h₀ K

/-- Read back at a later point of the same batch row. -/
theorem kv_carried (b o tot : ℕ) (htot : b + o = tot) (h : tot + 256 ≤ 2048)
    (inbA : ∀ a, (![0, b] : Fin 2 → ℕ) a + (![256, 1024] : Fin 2 → ℕ) a ≤ S256x2048.size a)
    (inbB : ∀ a, (![0, o] : Fin 2 → ℕ) a + (![256, 256] : Fin 2 → ℕ) a ≤ (Rect.unit (s := S256x2048) ![0, b] ![256, 1024] inbA).shape.size a)
    (h₀ : ∀ a, (Rect.unit (s := S256x2048) ![0, b] ![256, 1024] inbA).stride a = 1) (K : Vec Ideal S256x2048 .bf16)
    (hw : (Memref.whole cc0_scratch1).IsWhole) :
    View.readAt (Elt Ideal) (View.whole cc0_scratch1) ((Rect.unit (s := S256x2048) ![0, b] ![256, 1024] inbA).withinL
          (Rect.unit (s := (Rect.unit (s := S256x2048) ![0, b] ![256, 1024] inbA).shape) ![0, o] ![256, 256] inbB).toLoadRect h₀) (hw.unread K)
      = cols K tot h := by
  rw [← within_idx b o tot htot h inbA inbB h₀ K]
  funext j
  exact congrFun (hw.read_unread K) _

/-- Four heads' outputs stored side by side in rows `o` to `o + 511`, read back together. -/
theorem heads_read (o : ℕ) (G : Fin 512 → Fin 1024 → EReal)
    (i0 : ∀ a, (![o, 0] : Fin 2 → ℕ) a + (![512, 256] : Fin 2 → ℕ) a ≤ S1024x1024.size a)
    (i1 : ∀ a, (![o, 256] : Fin 2 → ℕ) a + (![512, 256] : Fin 2 → ℕ) a ≤ S1024x1024.size a)
    (i2 : ∀ a, (![o, 512] : Fin 2 → ℕ) a + (![512, 256] : Fin 2 → ℕ) a ≤ S1024x1024.size a)
    (i3 : ∀ a, (![o, 768] : Fin 2 → ℕ) a + (![512, 256] : Fin 2 → ℕ) a ≤ S1024x1024.size a)
    (iB : ∀ a, (![o, 0] : Fin 2 → ℕ) a + (![512, 1024] : Fin 2 → ℕ) a ≤ S1024x1024.size a)
    (w0 w1 w2 w3 : Vec Ideal S512x256 .bf16) (L : List (View.Piece (Elt Ideal) S1024x1024 .bf16))
    (h0 : ∀ (r : Fin 512) (d : Fin 256), w0 (ix2 r d) = G r (col 0 d)) (h1 : ∀ (r : Fin 512) (d : Fin 256), w1 (ix2 r d) = G r (col 1 d))
    (h2 : ∀ (r : Fin 512) (d : Fin 256), w2 (ix2 r d) = G r (col 2 d)) (h3 : ∀ (r : Fin 512) (d : Fin 256), w3 (ix2 r d) = G r (col 3 d)) :
    (View.whole cc0_scratch0).readCov (Val := Elt Ideal)
        (⟨Rect.unit (s := S1024x1024) ![o, 768] ![512, 256] i3, w3⟩ :: ⟨Rect.unit (s := S1024x1024) ![o, 512] ![512, 256] i2, w2⟩ ::
          ⟨Rect.unit (s := S1024x1024) ![o, 256] ![512, 256] i1, w1⟩ :: ⟨Rect.unit (s := S1024x1024) ![o, 0] ![512, 256] i0, w0⟩ :: L)
        (Rect.unit (s := S1024x1024) ![o, 0] ![512, 1024] iB).toLoadRect
      = fun j : S512x1024.Idx => G (j 0) (j 1) := by
  rw [View.readCov_eq_canon']
  funext j
  have hj0 : (j 0).val < 512 := (j 0).isLt
  have hj1 : (j 1).val < 1024 := (j 1).isLt
  let GG : S1024x1024.Idx → EReal := fun y => if h : (y 0).val - o < 512 then G ⟨(y 0).val - o, h⟩ (y 1) else 0
  have piece : ∀ (hd : Fin 4) (w : Vec Ideal S512x256 .bf16) (hw : ∀ (r : Fin 512) (d : Fin 256), w (ix2 r d) = G r (col hd d)) (p : ℕ) (hp : p = 256 * hd.val)
      (i : ∀ a, (![o, p] : Fin 2 → ℕ) a + (![512, 256] : Fin 2 → ℕ) a ≤ S1024x1024.size a)
      (x : (Rect.unit (s := S1024x1024) ![o, p] ![512, 256] i).shape.Idx), w x = GG ((Rect.unit (s := S1024x1024) ![o, p] ![512, 256] i).emb x) := by
    intro hd w hw p hp i x
    have hx0 : (x 0).val < 512 := (x 0).isLt
    have hx1 : (x 1).val < 256 := (x 1).isLt
    have ex : x = ix2 (⟨(x 0).val, hx0⟩ : Fin 512) (⟨(x 1).val, hx1⟩ : Fin 256) := by funext a; fin_cases a <;> rfl
    have e0 : (((Rect.unit (s := S1024x1024) ![o, p] ![512, 256] i).emb x) 0).val = o + 1 * (x 0).val := rfl
    have e1 : (((Rect.unit (s := S1024x1024) ![o, p] ![512, 256] i).emb x) 1).val = p + 1 * (x 1).val := rfl
    show w x = dite _ _ _
    rw [dif_pos (by rw [e0]; omega)]
    refine (congrArg w ex).trans ((hw _ _).trans (congr (congrArg G (Fin.ext ?_)) (Fin.ext ?_)))
    · show (x 0).val = _ - o; rw [e0]; omega
    · show 256 * hd.val + (x 1).val = _; rw [e1]; omega
  have key := View.canon_append_of_piecesOf (Val := Elt Ideal) (s := S1024x1024) (e := .bf16) GG L
    [⟨Rect.unit (s := S1024x1024) ![o, 768] ![512, 256] i3, w3⟩, ⟨Rect.unit (s := S1024x1024) ![o, 512] ![512, 256] i2, w2⟩,
      ⟨Rect.unit (s := S1024x1024) ![o, 256] ![512, 256] i1, w1⟩, ⟨Rect.unit (s := S1024x1024) ![o, 0] ![512, 256] i0, w0⟩]
    ⟨piece 3 w3 h3 768 rfl i3, piece 2 w2 h2 512 rfl i2, piece 1 w1 h1 256 rfl i1, piece 0 w0 h0 0 rfl i0, trivial⟩
    ((Rect.unit (s := S1024x1024) ![o, 0] ![512, 1024] iB).toLoadRect.idx j) ?_
  · refine key.trans ?_
    have e0 : ((Rect.unit (s := S1024x1024) ![o, 0] ![512, 1024] iB).toLoadRect.idx j 0).val = o + 1 * (j 0).val := rfl
    have e1 : ((Rect.unit (s := S1024x1024) ![o, 0] ![512, 1024] iB).toLoadRect.idx j 1).val = 0 + 1 * (j 1).val := rfl
    show dite _ _ _ = _
    rw [dif_pos (by rw [e0]; omega)]
    refine congr (congrArg G (Fin.ext ?_)) (Fin.ext ?_)
    · show _ - o = (j 0).val; rw [e0]; omega
    · rw [e1]; omega
  · have mem : ∀ (p : ℕ) (i : ∀ a, (![o, p] : Fin 2 → ℕ) a + (![512, 256] : Fin 2 → ℕ) a ≤ S1024x1024.size a) (hp : p ≤ (j 1).val) (hp' : (j 1).val < p + 256),
        (Rect.unit (s := S1024x1024) ![o, 0] ![512, 1024] iB).toLoadRect.idx j ∈ (Rect.unit (s := S1024x1024) ![o, p] ![512, 256] i).set := by
      intro p i hp hp'
      rw [Rect.mem_set_unit]
      intro a
      fin_cases a
      · show o ≤ o + 1 * (j 0).val ∧ o + 1 * (j 0).val < o + 512; omega
      · show p ≤ 0 + 1 * (j 1).val ∧ 0 + 1 * (j 1).val < p + 256; omega
    by_cases c3 : 768 ≤ (j 1).val
    · exact ⟨_, List.mem_cons_self, mem 768 i3 c3 (by omega)⟩
    by_cases c2 : 512 ≤ (j 1).val
    · exact ⟨_, List.mem_cons_of_mem _ List.mem_cons_self, mem 512 i2 c2 (by omega)⟩
    by_cases c1 : 256 ≤ (j 1).val
    · exact ⟨_, List.mem_cons_of_mem _ (List.mem_cons_of_mem _ List.mem_cons_self), mem 256 i1 c1 (by omega)⟩
    · exact ⟨_, List.mem_cons_of_mem _ (List.mem_cons_of_mem _ (List.mem_cons_of_mem _ List.mem_cons_self)), mem 0 i0 (by omega) (by omega)⟩

end Cert.Post
-- ==== Proof.PostRouter.lean ====
/- The router pieces of the `post` kernel's body at an index, as the choice among 128 lanes of `PostRoute`, and so the
   routing row of `PostSpec`. -/
module

public import proofs.«01_k».proof.Proof.PostRows

@[expose] public section

set_option backward.proofsInPublic true
set_option maxRecDepth 16384

noncomputable section

namespace Cert.Post

open Idealize.ShloMosaic Idealize.SL.Sem
open Cert.PostIdeal Cert.PostIdeal.Gen

/-! ## Lane numbers as words -/

theorem toInt_lane : ∀ n : Fin 128, (BitVec.ofNat 32 n.val).toInt = (n.val : ℤ) := by decide +kernel
theorem toInt_shr : ∀ n : Fin 128, (IntOp.shrui ArithUnit.vector (BitVec.ofNat 32 n.val) 3#32).toInt = ((n.val / 8 : ℕ) : ℤ) := by decide +kernel
theorem mask_lane : ∀ n : Fin 128, IntOp.andi (IntOp.cmpi .sge (BitVec.ofNat 32 n.val) 32#32) (IntOp.cmpi .slt (BitVec.ofNat 32 n.val) 36#32)
    = if 32 ≤ n.val ∧ n.val < 36 then 1#1 else 0#1 := by decide +kernel

theorem sitofp_lane (n : Fin 128) : FloatOps.sitofp (F := Ideal) .f32 (BitVec.ofNat 32 n.val) = lane n.val := by
  show (((BitVec.ofNat 32 n.val).toInt : ℝ) : EReal) = _
  rw [toInt_lane]; simp [lane]

theorem sitofp_shr (n : Fin 128) :
    FloatOps.sitofp (F := Ideal) .f32 (IntOp.shrui ArithUnit.vector (BitVec.ofNat 32 n.val) 3#32) = lane (n.val / 8) := by
  show (((IntOp.shrui ArithUnit.vector (BitVec.ofNat 32 n.val) 3#32).toInt : ℝ) : EReal) = _
  rw [toInt_shr]; norm_cast

theorem select_mask (n : Fin 128) (a b : EReal) :
    Scalar.select (IntOp.andi (IntOp.cmpi .sge (BitVec.ofNat 32 n.val) 32#32) (IntOp.cmpi .slt (BitVec.ofNat 32 n.val) 36#32)) a b
      = if 32 ≤ n.val ∧ n.val < 36 then a else b := by
  rw [mask_lane]
  by_cases h : 32 ≤ n.val ∧ n.val < 36
  · rw [if_pos h, if_pos h]; rfl
  · rw [if_neg h, if_neg h]; rfl

theorem select_no (a b : EReal) : Scalar.select 0#1 a b = b := rfl

/-- Row `r` of the logits. -/
abbrev lrow (l : FVec Ideal S512x128 .f32) (r : Fin 512) : Fin 128 → EReal := fun d => l (ix2 r d)

section
variable (l : FVec Ideal S512x128 .f32) (r : Fin 512)

theorem pay_inside (e : Fin 128) : k0_pay26 l k0_pay19 k0_pay20 k0_pay21 k0_pay22 (ix2 r e) = kinside (lrow l r) e := by
  pointwise [k0_pay26, k0_pay23, k0_pay24, k0_pay19, k0_pay20, k0_pay21, k0_pay22]
  simp only [sitofp_lane, sitofp_shr, select_mask, bits_bot, bits_top, bits_32, bits_128]

theorem pay_gate : k0_pay25 l k0_pay21 k0_pay22 (ix2 r 0) = Ideal.div 1 (ksum (lrow l r)) := by
  pointwise [k0_pay25, k0_pay23, k0_pay24, k0_pay19, k0_pay20, k0_pay21, k0_pay22]
  simp only [sitofp_lane, sitofp_shr, select_mask, bits_bot, bits_top, bits_32, bits_128]

theorem pay_lane (e : Fin 128) : (k0_pay19 : FVec Ideal S512x128 .f32) (ix2 r e) = lane e.val := by
  pointwise [k0_pay19]
  simp only [sitofp_lane]

theorem pay_v1 : k0_pay27 l k0_pay19 k0_pay20 k0_pay21 k0_pay22 (ix2 r 0) = best (kinside (lrow l r)) := by
  pointwise [k0_pay27]
  simp only [pay_inside, bits_bot]

theorem pay_i1 : k0_pay28 l k0_pay19 k0_pay20 k0_pay21 k0_pay22 (ix2 r 0) = argbest (lane 128) (kinside (lrow l r)) := by
  pointwise [k0_pay28]
  simp only [pay_inside, pay_v1, pay_lane, bits_top, bits_128]

theorem pay_without (e : Fin 128) : k0_pay29 l k0_pay19 k0_pay20 k0_pay21 k0_pay22 (ix2 r e)
    = without (kinside (lrow l r)) (argbest (lane 128) (kinside (lrow l r))) e := by
  pointwise [k0_pay29]
  simp only [pay_inside, pay_i1, pay_lane, bits_bot]

theorem pay_v2 : k0_pay30 l k0_pay19 k0_pay20 k0_pay21 k0_pay22 (ix2 r 0)
    = best (without (kinside (lrow l r)) (argbest (lane 128) (kinside (lrow l r)))) := by
  pointwise [k0_pay30]
  simp only [pay_without, bits_bot]

theorem pay_i2 : k0_pay31 l k0_pay19 k0_pay20 k0_pay21 k0_pay22 (ix2 r 0)
    = argbest (lane 128) (without (kinside (lrow l r)) (argbest (lane 128) (kinside (lrow l r)))) := by
  pointwise [k0_pay31]
  simp only [pay_without, pay_v2, pay_lane, bits_top, bits_128]

/-- The routing block's lanes as the kernel computes them. -/
theorem pay_R0 : R l (ix2 r 0) = k0_pay28 l k0_pay19 k0_pay20 k0_pay21 k0_pay22 (ix2 r 0) := by
  unfold R lanes
  pointwise [k0_pay33]

theorem pay_R1 : R l (ix2 r 1) = k0_pay31 l k0_pay19 k0_pay20 k0_pay21 k0_pay22 (ix2 r 0) := by
  unfold R lanes
  pointwise [k0_pay33]
  rw [show IntOp.cmpi CmpIPredicate.eq 1#32 0#32 = 0#1 by decide, select_no]

theorem pay_R2 : R l (ix2 r 2) = Ideal.div (k0_pay25 l k0_pay21 k0_pay22 (ix2 r 0))
    (1 + Ideal.exp (k0_pay32 l k0_pay19 k0_pay20 k0_pay21 k0_pay22 (ix2 r 0))) := by
  unfold R lanes
  pointwise [k0_pay33]
  rw [show IntOp.cmpi CmpIPredicate.eq 2#32 0#32 = 0#1 by decide, show IntOp.cmpi CmpIPredicate.eq 2#32 1#32 = 0#1 by decide, select_no, select_no]

theorem pay_R3 : R l (ix2 r 3) = Ideal.div (k0_pay25 l k0_pay21 k0_pay22 (ix2 r 0) * Ideal.exp (k0_pay32 l k0_pay19 k0_pay20 k0_pay21 k0_pay22 (ix2 r 0)))
    (1 + Ideal.exp (k0_pay32 l k0_pay19 k0_pay20 k0_pay21 k0_pay22 (ix2 r 0))) := by
  unfold R lanes
  pointwise [k0_pay33]
  rw [show IntOp.cmpi CmpIPredicate.eq 3#32 0#32 = 0#1 by decide, show IntOp.cmpi CmpIPredicate.eq 3#32 1#32 = 0#1 by decide,
    show IntOp.cmpi CmpIPredicate.eq 3#32 2#32 = 0#1 by decide, select_no, select_no, select_no]

theorem pay_Rz (k : Fin 128) (hk : 4 ≤ k.val) : R l (ix2 r k) = 0 := by
  have h0 : ∀ k : Fin 128, 4 ≤ k.val → IntOp.cmpi .eq (BitVec.ofNat 32 k.val) 0#32 = 0#1 ∧ IntOp.cmpi .eq (BitVec.ofNat 32 k.val) 1#32 = 0#1
      ∧ IntOp.cmpi .eq (BitVec.ofNat 32 k.val) 2#32 = 0#1 ∧ IntOp.cmpi .eq (BitVec.ofNat 32 k.val) 3#32 = 0#1 := by decide +kernel
  obtain ⟨e0, e1, e2, e3⟩ := h0 k hk
  unfold R lanes
  pointwise [k0_pay33]
  rw [e0, e1, e2, e3]
  rfl

theorem pay_odds : k0_pay32 l k0_pay19 k0_pay20 k0_pay21 k0_pay22 (ix2 r 0)
    = best (without (kinside (lrow l r)) (argbest (lane 128) (kinside (lrow l r)))) - best (kinside (lrow l r)) := by
  pointwise [k0_pay32]
  rw [pay_v2, pay_v1]

variable (lg : Fin 4 → EReal) (le : Fin 32 → EReal) (hg : ∀ k : Fin 4, l (ix2 r ⟨32 + k.val, by omega⟩) = lg k)
  (he : ∀ k : Fin 32, l (ix2 r ⟨k.val, by omega⟩) = le k)
include hg he

/-- The routing block's row, from the group logits in lanes 32 to 35 and the expert logits in lanes 0 to 31. -/
theorem pay_route (k : Fin 8) : R l (ix2 r ⟨k.val, by omega⟩) = routed lg le k := by
  have b1 := best_inside (lrow l r) lg le hg he
  have f1 := first_inside (lrow l r) lg le hg he
  have b2 := best_rest (lrow l r) lg le hg he
  have f2 := first_rest (lrow l r) lg le hg he
  have s := sum_groups (lrow l r) lg hg
  have o : Ideal.exp (k0_pay32 l k0_pay19 k0_pay20 k0_pay21 k0_pay22 (ix2 r 0)) = odds (inside lg le) := by
    rw [pay_odds, f1, b2, b1]; rfl
  have o0 : (0 : EReal) ≤ odds (inside lg le) := exp_nonneg _
  unfold routed
  by_cases k0 : k = 0
  · rw [if_pos k0]; subst k0
    exact (pay_R0 l r).trans ((pay_i1 l r).trans f1)
  rw [if_neg k0]
  by_cases k1 : k = 1
  · rw [if_pos k1]; subst k1
    refine (pay_R1 l r).trans ((pay_i2 l r).trans ?_)
    rw [f1, f2]
  rw [if_neg k1]
  by_cases k2 : k = 2
  · rw [if_pos k2]; subst k2
    refine (pay_R2 l r).trans ?_
    rw [o, pay_gate, s, ← weight _ _ _ o0, mul_one]
  rw [if_neg k2]
  by_cases k3 : k = 3
  · rw [if_pos k3]; subst k3
    refine (pay_R3 l r).trans ?_
    rw [o, pay_gate, s, weight _ _ _ o0]
  rw [if_neg k3]
  exact pay_Rz l r _ (by show 4 ≤ k.val; omega)
end

end Cert.Post
-- ==== Proof.PostBlock.lean ====
/- Half a block of the `post` kernel, 512 rows: the pieces of its body put together, at an index, as the mathematics of
   one token. -/
module

public import proofs.«01_k».proof.Proof.PostReads
public import proofs.«01_k».proof.Proof.PostRouter

@[expose] public section

set_option backward.proofsInPublic true
set_option maxRecDepth 16384

noncomputable section

namespace Cert.Post

open Idealize.ShloMosaic Idealize.SL.Sem
open Cert.PostIdeal Cert.PostIdeal.Gen

/-- Softmax over the scaled queries' scores is a head's output. -/
theorem soft_head (q' q : Row 1024) (K : Vec Ideal S256x2048 .bf16) (hd : Fin 4) (o o' : ℕ) (h : o + 256 ≤ 2048) (h' : o' + 256 ≤ 2048)
    (ho : o = 256 * hd.val) (ho' : o' = 1024 + 256 * hd.val) (hq : ∀ d, q' d = q d * scale) (d : Fin 256) :
    soft (kscore q' (tab (cols K o h)) hd) (fun j => cols K o' h' (ix2 j d)) = attended q (tab K) (col hd d) := by
  have s : kscore q' (tab (cols K o h)) hd = score q (tab K) hd := by
    funext j
    unfold kscore score
    rw [← scaled]
    refine Finset.sum_congr rfl fun e _ => ?_
    rw [hq]
    refine congrArg₂ (fun u z : EReal => u * z) rfl ?_
    rw [tab, cols_apply]
    refine congrArg K (congrArg (ix2 j) (Fin.ext ?_))
    show o + e.val = 256 * hd.val + e.val; omega
  have v : (fun j => cols K o' h' (ix2 j d)) = fun j => tab K j (Post.val hd d) := by
    funext j
    rw [tab, cols_apply]
    refine congrArg K (congrArg (ix2 j) (Fin.ext ?_))
    show o' + d.val = 1024 + (256 * hd.val + d.val); omega
  rw [s, v]
  unfold attended head
  have e1 : (⟨(col hd d).val / 256, by omega⟩ : Fin 4) = hd := Fin.ext (by show (256 * hd.val + d.val) / 256 = hd.val; omega)
  have e2 : (⟨(col hd d).val % 256, by omega⟩ : Fin 256) = d := Fin.ext (by show (256 * hd.val + d.val) % 256 = d.val; omega)
  rw [e1, e2]

section
variable (a : Vec Ideal S512x256 .bf16) (b : Vec Ideal S256x1024 .bf16) (ga mb : Vec Ideal S512x1024 .bf16) (x : Vec Ideal S512x1024 .f32)
  (wo : Vec Ideal S1024x1024 .bf16) (g : Vec Ideal S1x1024 .f32) (wq : Vec Ideal S1024x1024 .bf16) (K : Vec Ideal S256x2048 .bf16)
  (wox : Vec Ideal S1024x1024 .bf16) (gm : Vec Ideal S1x1024 .f32) (wr : Vec Ideal S1024x128 .bf16) (br : Vec Ideal S1x128 .f32)

/-- The query row, unscaled. -/
def query (r : Fin 512) : Row 1024 := lin (rms (row g 0) (fun e => k0_pay4 a b ga mb x wo (ix2 r e))) (tab wq)

/-- The four heads' outputs side by side. -/
def att : Vec Ideal S512x1024 .bf16 := fun j => attended (query a b ga mb x wo g wq (j 0)) (tab K) (j 1)

theorem heads_att (o : ℕ)
    (i0 : ∀ a, (![o, 0] : Fin 2 → ℕ) a + (![512, 256] : Fin 2 → ℕ) a ≤ S1024x1024.size a)
    (i1 : ∀ a, (![o, 256] : Fin 2 → ℕ) a + (![512, 256] : Fin 2 → ℕ) a ≤ S1024x1024.size a)
    (i2 : ∀ a, (![o, 512] : Fin 2 → ℕ) a + (![512, 256] : Fin 2 → ℕ) a ≤ S1024x1024.size a)
    (i3 : ∀ a, (![o, 768] : Fin 2 → ℕ) a + (![512, 256] : Fin 2 → ℕ) a ≤ S1024x1024.size a)
    (iB : ∀ a, (![o, 0] : Fin 2 → ℕ) a + (![512, 1024] : Fin 2 → ℕ) a ≤ S1024x1024.size a)
    (L : List (View.Piece (Elt Ideal) S1024x1024 .bf16))
    (k0 : 0 + 256 ≤ 2048) (k1 : 256 + 256 ≤ 2048) (k2 : 512 + 256 ≤ 2048) (k3 : 768 + 256 ≤ 2048)
    (v0 : 1024 + 256 ≤ 2048) (v1 : 1280 + 256 ≤ 2048) (v2 : 1536 + 256 ≤ 2048) (v3 : 1792 + 256 ≤ 2048) :
    (View.whole cc0_scratch0).readCov (Val := Elt Ideal)
        (⟨Rect.unit (s := S1024x1024) ![o, 768] ![512, 256] i3, k0_pay14 (Q a b ga mb x wo g wq) (cols K 768 k3) (cols K 1792 v3)⟩ ::
          ⟨Rect.unit (s := S1024x1024) ![o, 512] ![512, 256] i2,
            k0_pay13 (k0_pay11 (Q a b ga mb x wo g wq) (cols K 512 k2)) (k0_pay12 (Q a b ga mb x wo g wq) (cols K 512 k2)) (cols K 1536 v2)⟩ ::
          ⟨Rect.unit (s := S1024x1024) ![o, 256] ![512, 256] i1, k0_pay9 (Q a b ga mb x wo g wq) (cols K 256 k1) (cols K 1280 v1)⟩ ::
          ⟨Rect.unit (s := S1024x1024) ![o, 0] ![512, 256] i0,
            k0_pay8 (k0_pay4 a b ga mb x wo) (k0_pay5 g) (k0_pay6 a b ga mb x wo) wq (cols K 0 k0) (cols K 1024 v0)⟩ :: L)
        (Rect.unit (s := S1024x1024) ![o, 0] ![512, 1024] iB).toLoadRect
      = att a b ga mb x wo g wq K := by
  have hq : ∀ (r : Fin 512) (d : Fin 1024), row (Q a b ga mb x wo g wq) r d = query a b ga mb x wo g wq r d * scale := fun r d => pay_q a b ga mb x wo g wq r d
  refine heads_read o (fun r e => attended (query a b ga mb x wo g wq r) (tab K) e) i0 i1 i2 i3 iB _ _ _ _ L (fun r d => ?_) (fun r d => ?_) (fun r d => ?_) (fun r d => ?_)
  · rw [pay_head0]; exact soft_head _ _ K 0 _ _ _ _ rfl rfl (hq r) d
  · rw [pay_head1]; exact soft_head _ _ K 1 _ _ _ _ rfl rfl (hq r) d
  · rw [pay_head2]; exact soft_head _ _ K 2 _ _ _ _ rfl rfl (hq r) d
  · rw [pay_head3]; exact soft_head _ _ K 3 _ _ _ _ rfl rfl (hq r) d

/-- The residual stream of 512 rows. -/
def H2 : FVec Ideal S512x1024 .f32 := k0_pay15 (k0_pay4 a b ga mb x wo) (att a b ga mb x wo g wq K) wox

theorem H2_at (r : Fin 512) (d : Fin 1024) : H2 a b ga mb x wo g wq K wox (ix2 r d)
    = stream (row a r) (row ga r) (row mb r) (row x r) (tab b) (tab wo) (row g 0) (tab wq) (tab K) (tab wox) d := by
  unfold H2
  rw [pay_res]
  have e : (fun e => k0_pay4 a b ga mb x wo (ix2 r e)) = mixed (row a r) (row ga r) (row mb r) (row x r) (tab b) (tab wo) := funext fun e => pay_h1 a b ga mb x wo r e
  unfold stream resid
  rw [pay_h1]
  refine congrArg₂ (fun u z : EReal => u + z) rfl ?_
  show lin (attended (query a b ga mb x wo g wq r) (tab K)) (tab wox) d = _
  unfold query
  rw [e]

theorem H2_row (r : Fin 512) : (fun d => H2 a b ga mb x wo g wq K wox (ix2 r d))
    = stream (row a r) (row ga r) (row mb r) (row x r) (tab b) (tab wo) (row g 0) (tab wq) (tab K) (tab wox) :=
  funext fun d => H2_at a b ga mb x wo g wq K wox r d

theorem packed_at (r : Fin 1024) (d : Fin 512) : k0_pay17 (H2 a b ga mb x wo g wq K wox) gm (ix2 r d)
    = normed (row a ⟨r.val / 2, by omega⟩) (row ga ⟨r.val / 2, by omega⟩) (row mb ⟨r.val / 2, by omega⟩) (row x ⟨r.val / 2, by omega⟩)
        (tab b) (tab wo) (row g 0) (tab wq) (tab K) (tab wox) (row gm 0) ⟨r.val % 2 * 512 + d.val, by omega⟩ := by
  rw [pay_packed]
  unfold normed
  rw [← H2_row]

/-- The logits of 512 rows, over 128 lanes. -/
def logits : FVec Ideal S512x128 .f32 := k0_pay18 (H2 a b ga mb x wo g wq K wox) gm wr br

/-- The routing rows, the expert's weights in lanes 0 to 31 of the router's matrix and the groups' in lanes 32 to 35. -/
theorem route_at (r : Fin 512) (k : Fin 8) : R (logits a b ga mb x wo g wq K wox gm wr br) (ix2 r ⟨k.val, by omega⟩)
    = route (row a r) (row ga r) (row mb r) (row x r) (tab b) (tab wo) (row g 0) (tab wq) (tab K) (tab wox) (row gm 0)
        (fun e k => wr (ix2 e ⟨32 + k.val, by omega⟩)) (fun k => br (ix2 0 ⟨32 + k.val, by omega⟩))
        (fun e k => wr (ix2 e ⟨k.val, by omega⟩)) (fun k => br (ix2 0 ⟨k.val, by omega⟩)) k := by
  have l : ∀ e : Fin 128, logits a b ga mb x wo g wq K wox gm wr br (ix2 r e)
      = lin (normed (row a r) (row ga r) (row mb r) (row x r) (tab b) (tab wo) (row g 0) (tab wq) (tab K) (tab wox) (row gm 0)) (tab wr) e + br (ix2 0 e) := by
    intro e
    unfold logits
    rw [pay_logits]
    unfold normed
    rw [← H2_row]
  unfold route
  exact pay_route _ r _ _ (fun k => (l ⟨32 + k.val, by omega⟩).trans rfl) (fun k => (l ⟨k.val, by omega⟩).trans rfl) k

theorem route_out (r : Fin 512) (k : Fin 8) (v : FVec Ideal S512x128 .f32) : k0_pay1 v (ix2 r k) = v (ix2 r ⟨k.val, by omega⟩) := by
  pointwise [k0_pay1]

theorem routeT_out (r : Fin 512) (k : Fin 8) (v : FVec Ideal S512x128 .f32) : k0_pay2 v (ix2 k r) = v (ix2 r ⟨k.val, by omega⟩) := by
  pointwise [k0_pay2]
end

end Cert.Post
-- ==== Proof.PostPoint.lean ====
/- One grid point of the `post` kernel: what each output block holds after it. -/
module

public import proofs.«01_k».proof.Proof.PostBlock
public import proofs.«01_k».proof.Proof.Gen.PostIdeal.Frame
public import Idealize.ShloMosaic.Lib.Pipeline.ValueKit
public import Idealize.ShloMosaic.Lib.Claim

@[expose] public section

set_option backward.proofsInPublic true
set_option maxRecDepth 16384

noncomputable section

namespace Cert.Post

open Idealize.ShloMosaic Idealize.ShloMosaic.TcCoe Idealize.ShloMosaic.Tactic
open Idealize.SL.Sem
open Idealize.ShloMosaic.Pipeline (Dat)
open Cert.PostIdeal Cert.PostIdeal.Gen

variable (m : (ℓ : Loc nD τ sig) → Buf (Elt Ideal) ℓ) (c : Dev nD)

theorem kv_A (t : Fin cfg0.N) (h : t.val % 4 = 0) :
    (outsAt0 m c t.val t.isLt).2.2.2.2 = k0_pay3 (iblk m c 4 t) (iblk m c 5 t) (iblk m c 6 t) := by
  rw [outsAt0_A m c t h]; frame_out

theorem kv_B (t : Fin cfg0.N) (h : ¬t.val % 4 = 0) :
    (outsAt0 m c t.val t.isLt).2.2.2.2 = (outsAt0 m c (t.val - 1) (by omega)).2.2.2.2 := by
  rw [outsAt0_B m c t h]; rfl

/-- The row of the block a half's row is. -/
theorem ld_row {n : ℕ} {e : EltTy} (X : Vec Ideal ⟨2, ![1024, n]⟩ e) (o : ℕ) (inb : ∀ a, (![o, 0] : Fin 2 → ℕ) a + (![512, n] : Fin 2 → ℕ) a ≤ (⟨2, ![1024, n]⟩ : Shape).size a)
    (r : Fin 512) (R : Fin 1024) (hR : R.val = o + r.val) :
    row (e := e) (fun j => X ((Rect.unit (s := ⟨2, ![1024, n]⟩) ![o, 0] ![512, n] inb).idx j)) r = row X R := by
  funext i
  show X _ = X _
  refine congrArg X (funext fun a => Fin.ext ?_)
  match a with
  | ⟨0, _⟩ => show o + 1 * r.val = R.val; omega
  | ⟨1, _⟩ => show 0 + 1 * i.val = i.val; omega

/-- The keys and values the scratch holds after point `t`. -/
def kvAt (t : Fin cfg0.N) : Vec Ideal S256x2048 .bf16 := (outsAt0 m c t.val t.isLt).2.2.2.2

theorem kvAt_A (t : Fin cfg0.N) (h : t.val % 4 = 0) : kvAt m c t = k0_pay3 (iblk m c 4 t) (iblk m c 5 t) (iblk m c 6 t) := kv_A m c t h
theorem kvAt_B (t : Fin cfg0.N) (h : ¬t.val % 4 = 0) : kvAt m c t = (outsAt0 m c (t.val - 1) (by omega)).2.2.2.2 := kv_B m c t h

theorem at15 (t : Fin cfg0.N) (r : Fin 1024) (d : Fin 1024) :
    (outsAt0 m c t.val t.isLt).1 (ix2 r d) = stream (row (iblk m c 0 t : Vec Ideal S1024x256 .bf16) r) (row (iblk m c 1 t : Vec Ideal S1024x1024 .bf16) r) (row (iblk m c 2 t : Vec Ideal S1024x1024 .bf16) r)
        (row (iblk m c 3 t : Vec Ideal S1024x1024 .f32) r) (tab (iblk m c 7 t : Vec Ideal S256x1024 .bf16)) (tab (iblk m c 8 t : Vec Ideal S1024x1024 .bf16))
        (row (iblk m c 9 t : Vec Ideal S1x1024 .f32) 0) (tab (iblk m c 10 t : Vec Ideal S1024x1024 .bf16)) (tab (kvAt m c t)) (tab (iblk m c 11 t : Vec Ideal S1024x1024 .bf16)) d := by
  by_cases ht : t.val % 4 = 0
  · rw [kvAt_A m c t ht]
    rw [outsAt0_A m c t ht]; frame_out
    rw [kv_fresh 0 0 0 rfl (by omega), kv_fresh 0 256 256 rfl (by omega), kv_fresh 0 512 512 rfl (by omega), kv_fresh 0 768 768 rfl (by omega), kv_fresh 1024 0 1024 rfl (by omega), kv_fresh 1024 256 1280 rfl (by omega), kv_fresh 1024 512 1536 rfl (by omega), kv_fresh 1024 768 1792 rfl (by omega)]
    rw [q_first, q_second, h1_second, head0_second, head1_second, head2_second, head3_second, res_second]
    rw [heads_att _ _ _ _ _ _ _ _ _ 0, heads_att _ _ _ _ _ _ _ _ _ 512]
    canon_tiles x h
    · idx_vars x
      refine (H2_at _ _ _ _ _ _ _ _ _ _ x0 x1).trans ?_
      have hR : (r : Fin 1024).val = 512 + (x0 : Fin 512).val := by omega
      have a0 := ld_row (iblk m c 0 t) 512 (by decide) x0 r hR
      have a1 := ld_row (iblk m c 1 t) 512 (by decide) x0 r hR
      have a2 := ld_row (iblk m c 2 t) 512 (by decide) x0 r hR
      have a3 := ld_row (iblk m c 3 t) 512 (by decide) x0 r hR
      unfold View.ld
      rw [a0, a1, a2, a3]
      rw [show x1 = d from Fin.ext h1.symm]
    · idx_vars x
      refine (H2_at _ _ _ _ _ _ _ _ _ _ x0 x1).trans ?_
      have hR : (r : Fin 1024).val = 0 + (x0 : Fin 512).val := by omega
      have a0 := ld_row (iblk m c 0 t) 0 (by decide) x0 r hR
      have a1 := ld_row (iblk m c 1 t) 0 (by decide) x0 r hR
      have a2 := ld_row (iblk m c 2 t) 0 (by decide) x0 r hR
      have a3 := ld_row (iblk m c 3 t) 0 (by decide) x0 r hR
      unfold View.ld
      rw [a0, a1, a2, a3]
      rw [show x1 = d from Fin.ext h1.symm]
  · rw [kvAt_B m c t ht]
    rw [outsAt0_B m c t ht]; frame_out
    rw [kv_carried 0 0 0 rfl (by omega), kv_carried 0 256 256 rfl (by omega), kv_carried 0 512 512 rfl (by omega), kv_carried 0 768 768 rfl (by omega), kv_carried 1024 0 1024 rfl (by omega), kv_carried 1024 256 1280 rfl (by omega), kv_carried 1024 512 1536 rfl (by omega), kv_carried 1024 768 1792 rfl (by omega)]
    rw [q_first, q_second, h1_second, head0_second, head1_second, head2_second, head3_second, res_second]
    rw [heads_att _ _ _ _ _ _ _ _ _ 0, heads_att _ _ _ _ _ _ _ _ _ 512]
    canon_tiles x h
    · idx_vars x
      refine (H2_at _ _ _ _ _ _ _ _ _ _ x0 x1).trans ?_
      have hR : (r : Fin 1024).val = 512 + (x0 : Fin 512).val := by omega
      have a0 := ld_row (iblk m c 0 t) 512 (by decide) x0 r hR
      have a1 := ld_row (iblk m c 1 t) 512 (by decide) x0 r hR
      have a2 := ld_row (iblk m c 2 t) 512 (by decide) x0 r hR
      have a3 := ld_row (iblk m c 3 t) 512 (by decide) x0 r hR
      unfold View.ld
      rw [a0, a1, a2, a3]
      rw [show x1 = d from Fin.ext h1.symm]
    · idx_vars x
      refine (H2_at _ _ _ _ _ _ _ _ _ _ x0 x1).trans ?_
      have hR : (r : Fin 1024).val = 0 + (x0 : Fin 512).val := by omega
      have a0 := ld_row (iblk m c 0 t) 0 (by decide) x0 r hR
      have a1 := ld_row (iblk m c 1 t) 0 (by decide) x0 r hR
      have a2 := ld_row (iblk m c 2 t) 0 (by decide) x0 r hR
      have a3 := ld_row (iblk m c 3 t) 0 (by decide) x0 r hR
      unfold View.ld
      rw [a0, a1, a2, a3]
      rw [show x1 = d from Fin.ext h1.symm]

theorem at16 (t : Fin cfg0.N) (r : Fin 2048) (d : Fin 512) :
    (outsAt0 m c t.val t.isLt).2.1 (ix2 r d) = normed (row (iblk m c 0 t : Vec Ideal S1024x256 .bf16) ⟨r.val / 2, by omega⟩) (row (iblk m c 1 t : Vec Ideal S1024x1024 .bf16) ⟨r.val / 2, by omega⟩) (row (iblk m c 2 t : Vec Ideal S1024x1024 .bf16) ⟨r.val / 2, by omega⟩)
        (row (iblk m c 3 t : Vec Ideal S1024x1024 .f32) ⟨r.val / 2, by omega⟩) (tab (iblk m c 7 t : Vec Ideal S256x1024 .bf16)) (tab (iblk m c 8 t : Vec Ideal S1024x1024 .bf16))
        (row (iblk m c 9 t : Vec Ideal S1x1024 .f32) 0) (tab (iblk m c 10 t : Vec Ideal S1024x1024 .bf16)) (tab (kvAt m c t)) (tab (iblk m c 11 t : Vec Ideal S1024x1024 .bf16))
        (row (iblk m c 12 t : Vec Ideal S1x1024 .f32) 0) ⟨r.val % 2 * 512 + d.val, by omega⟩ := by
  by_cases ht : t.val % 4 = 0
  · rw [kvAt_A m c t ht]
    rw [outsAt0_A m c t ht]; frame_out
    rw [kv_fresh 0 0 0 rfl (by omega), kv_fresh 0 256 256 rfl (by omega), kv_fresh 0 512 512 rfl (by omega), kv_fresh 0 768 768 rfl (by omega), kv_fresh 1024 0 1024 rfl (by omega), kv_fresh 1024 256 1280 rfl (by omega), kv_fresh 1024 512 1536 rfl (by omega), kv_fresh 1024 768 1792 rfl (by omega)]
    rw [q_first, q_second, h1_second, head0_second, head1_second, head2_second, head3_second, packed_second]
    rw [heads_att _ _ _ _ _ _ _ _ _ 0, heads_att _ _ _ _ _ _ _ _ _ 512]
    canon_tiles x h
    · idx_vars x
      refine (packed_at _ _ _ _ _ _ _ _ _ _ _ x0 x1).trans ?_
      have hR : (⟨r.val / 2, by omega⟩ : Fin 1024).val = 512 + (⟨x0.val / 2, by omega⟩ : Fin 512).val := by show r.val / 2 = 512 + x0.val / 2; omega
      have a0 := ld_row (iblk m c 0 t) 512 (by decide) ⟨x0.val / 2, by omega⟩ ⟨r.val / 2, by omega⟩ hR
      have a1 := ld_row (iblk m c 1 t) 512 (by decide) ⟨x0.val / 2, by omega⟩ ⟨r.val / 2, by omega⟩ hR
      have a2 := ld_row (iblk m c 2 t) 512 (by decide) ⟨x0.val / 2, by omega⟩ ⟨r.val / 2, by omega⟩ hR
      have a3 := ld_row (iblk m c 3 t) 512 (by decide) ⟨x0.val / 2, by omega⟩ ⟨r.val / 2, by omega⟩ hR
      unfold View.ld
      rw [a0, a1, a2, a3]
      refine congrArg _ (Fin.ext ?_)
      show x0.val % 2 * 512 + x1.val = r.val % 2 * 512 + d.val
      omega
    · idx_vars x
      refine (packed_at _ _ _ _ _ _ _ _ _ _ _ x0 x1).trans ?_
      have hR : (⟨r.val / 2, by omega⟩ : Fin 1024).val = 0 + (⟨x0.val / 2, by omega⟩ : Fin 512).val := by show r.val / 2 = 0 + x0.val / 2; omega
      have a0 := ld_row (iblk m c 0 t) 0 (by decide) ⟨x0.val / 2, by omega⟩ ⟨r.val / 2, by omega⟩ hR
      have a1 := ld_row (iblk m c 1 t) 0 (by decide) ⟨x0.val / 2, by omega⟩ ⟨r.val / 2, by omega⟩ hR
      have a2 := ld_row (iblk m c 2 t) 0 (by decide) ⟨x0.val / 2, by omega⟩ ⟨r.val / 2, by omega⟩ hR
      have a3 := ld_row (iblk m c 3 t) 0 (by decide) ⟨x0.val / 2, by omega⟩ ⟨r.val / 2, by omega⟩ hR
      unfold View.ld
      rw [a0, a1, a2, a3]
      refine congrArg _ (Fin.ext ?_)
      show x0.val % 2 * 512 + x1.val = r.val % 2 * 512 + d.val
      omega
  · rw [kvAt_B m c t ht]
    rw [outsAt0_B m c t ht]; frame_out
    rw [kv_carried 0 0 0 rfl (by omega), kv_carried 0 256 256 rfl (by omega), kv_carried 0 512 512 rfl (by omega), kv_carried 0 768 768 rfl (by omega), kv_carried 1024 0 1024 rfl (by omega), kv_carried 1024 256 1280 rfl (by omega), kv_carried 1024 512 1536 rfl (by omega), kv_carried 1024 768 1792 rfl (by omega)]
    rw [q_first, q_second, h1_second, head0_second, head1_second, head2_second, head3_second, packed_second]
    rw [heads_att _ _ _ _ _ _ _ _ _ 0, heads_att _ _ _ _ _ _ _ _ _ 512]
    canon_tiles x h
    · idx_vars x
      refine (packed_at _ _ _ _ _ _ _ _ _ _ _ x0 x1).trans ?_
      have hR : (⟨r.val / 2, by omega⟩ : Fin 1024).val = 512 + (⟨x0.val / 2, by omega⟩ : Fin 512).val := by show r.val / 2 = 512 + x0.val / 2; omega
      have a0 := ld_row (iblk m c 0 t) 512 (by decide) ⟨x0.val / 2, by omega⟩ ⟨r.val / 2, by omega⟩ hR
      have a1 := ld_row (iblk m c 1 t) 512 (by decide) ⟨x0.val / 2, by omega⟩ ⟨r.val / 2, by omega⟩ hR
      have a2 := ld_row (iblk m c 2 t) 512 (by decide) ⟨x0.val / 2, by omega⟩ ⟨r.val / 2, by omega⟩ hR
      have a3 := ld_row (iblk m c 3 t) 512 (by decide) ⟨x0.val / 2, by omega⟩ ⟨r.val / 2, by omega⟩ hR
      unfold View.ld
      rw [a0, a1, a2, a3]
      refine congrArg _ (Fin.ext ?_)
      show x0.val % 2 * 512 + x1.val = r.val % 2 * 512 + d.val
      omega
    · idx_vars x
      refine (packed_at _ _ _ _ _ _ _ _ _ _ _ x0 x1).trans ?_
      have hR : (⟨r.val / 2, by omega⟩ : Fin 1024).val = 0 + (⟨x0.val / 2, by omega⟩ : Fin 512).val := by show r.val / 2 = 0 + x0.val / 2; omega
      have a0 := ld_row (iblk m c 0 t) 0 (by decide) ⟨x0.val / 2, by omega⟩ ⟨r.val / 2, by omega⟩ hR
      have a1 := ld_row (iblk m c 1 t) 0 (by decide) ⟨x0.val / 2, by omega⟩ ⟨r.val / 2, by omega⟩ hR
      have a2 := ld_row (iblk m c 2 t) 0 (by decide) ⟨x0.val / 2, by omega⟩ ⟨r.val / 2, by omega⟩ hR
      have a3 := ld_row (iblk m c 3 t) 0 (by decide) ⟨x0.val / 2, by omega⟩ ⟨r.val / 2, by omega⟩ hR
      unfold View.ld
      rw [a0, a1, a2, a3]
      refine congrArg _ (Fin.ext ?_)
      show x0.val % 2 * 512 + x1.val = r.val % 2 * 512 + d.val
      omega

theorem at17 (t : Fin cfg0.N) (r : Fin 1024) (k : Fin 8) :
    (outsAt0 m c t.val t.isLt).2.2.1 (ix2 r k) = route (row (iblk m c 0 t : Vec Ideal S1024x256 .bf16) r) (row (iblk m c 1 t : Vec Ideal S1024x1024 .bf16) r) (row (iblk m c 2 t : Vec Ideal S1024x1024 .bf16) r)
        (row (iblk m c 3 t : Vec Ideal S1024x1024 .f32) r) (tab (iblk m c 7 t : Vec Ideal S256x1024 .bf16)) (tab (iblk m c 8 t : Vec Ideal S1024x1024 .bf16))
        (row (iblk m c 9 t : Vec Ideal S1x1024 .f32) 0) (tab (iblk m c 10 t : Vec Ideal S1024x1024 .bf16)) (tab (kvAt m c t)) (tab (iblk m c 11 t : Vec Ideal S1024x1024 .bf16)) (row (iblk m c 12 t : Vec Ideal S1x1024 .f32) 0)
        (fun e k => (iblk m c 13 t : Vec Ideal S1024x128 .bf16) (ix2 e ⟨32 + k.val, by omega⟩)) (fun k => (iblk m c 14 t : Vec Ideal S1x128 .f32) (ix2 0 ⟨32 + k.val, by omega⟩))
        (fun e k => (iblk m c 13 t : Vec Ideal S1024x128 .bf16) (ix2 e ⟨k.val, by omega⟩)) (fun k => (iblk m c 14 t : Vec Ideal S1x128 .f32) (ix2 0 ⟨k.val, by omega⟩)) k := by
  by_cases ht : t.val % 4 = 0
  · rw [kvAt_A m c t ht]
    rw [outsAt0_A m c t ht]; frame_out
    rw [kv_fresh 0 0 0 rfl (by omega), kv_fresh 0 256 256 rfl (by omega), kv_fresh 0 512 512 rfl (by omega), kv_fresh 0 768 768 rfl (by omega), kv_fresh 1024 0 1024 rfl (by omega), kv_fresh 1024 256 1280 rfl (by omega), kv_fresh 1024 512 1536 rfl (by omega), kv_fresh 1024 768 1792 rfl (by omega)]
    rw [q_first, q_second, h1_second, head0_second, head1_second, head2_second, head3_second, r_second, logits_second, route_first]
    rw [heads_att _ _ _ _ _ _ _ _ _ 0, heads_att _ _ _ _ _ _ _ _ _ 512]
    canon_tiles x h
    · idx_vars x
      refine ((route_out x0 x1 _).trans (route_at _ _ _ _ _ _ _ _ _ _ _ _ _ x0 x1)).trans ?_
      have hR : (r : Fin 1024).val = 512 + (x0 : Fin 512).val := by omega
      have a0 := ld_row (iblk m c 0 t) 512 (by decide) x0 r hR
      have a1 := ld_row (iblk m c 1 t) 512 (by decide) x0 r hR
      have a2 := ld_row (iblk m c 2 t) 512 (by decide) x0 r hR
      have a3 := ld_row (iblk m c 3 t) 512 (by decide) x0 r hR
      unfold View.ld
      rw [a0, a1, a2, a3]
      rw [show x1 = k from Fin.ext h1.symm]
    · idx_vars x
      refine ((route_out x0 x1 _).trans (route_at _ _ _ _ _ _ _ _ _ _ _ _ _ x0 x1)).trans ?_
      have hR : (r : Fin 1024).val = 0 + (x0 : Fin 512).val := by omega
      have a0 := ld_row (iblk m c 0 t) 0 (by decide) x0 r hR
      have a1 := ld_row (iblk m c 1 t) 0 (by decide) x0 r hR
      have a2 := ld_row (iblk m c 2 t) 0 (by decide) x0 r hR
      have a3 := ld_row (iblk m c 3 t) 0 (by decide) x0 r hR
      unfold View.ld
      rw [a0, a1, a2, a3]
      rw [show x1 = k from Fin.ext h1.symm]
  · rw [kvAt_B m c t ht]
    rw [outsAt0_B m c t ht]; frame_out
    rw [kv_carried 0 0 0 rfl (by omega), kv_carried 0 256 256 rfl (by omega), kv_carried 0 512 512 rfl (by omega), kv_carried 0 768 768 rfl (by omega), kv_carried 1024 0 1024 rfl (by omega), kv_carried 1024 256 1280 rfl (by omega), kv_carried 1024 512 1536 rfl (by omega), kv_carried 1024 768 1792 rfl (by omega)]
    rw [q_first, q_second, h1_second, head0_second, head1_second, head2_second, head3_second, r_second, logits_second, route_first]
    rw [heads_att _ _ _ _ _ _ _ _ _ 0, heads_att _ _ _ _ _ _ _ _ _ 512]
    canon_tiles x h
    · idx_vars x
      refine ((route_out x0 x1 _).trans (route_at _ _ _ _ _ _ _ _ _ _ _ _ _ x0 x1)).trans ?_
      have hR : (r : Fin 1024).val = 512 + (x0 : Fin 512).val := by omega
      have a0 := ld_row (iblk m c 0 t) 512 (by decide) x0 r hR
      have a1 := ld_row (iblk m c 1 t) 512 (by decide) x0 r hR
      have a2 := ld_row (iblk m c 2 t) 512 (by decide) x0 r hR
      have a3 := ld_row (iblk m c 3 t) 512 (by decide) x0 r hR
      unfold View.ld
      rw [a0, a1, a2, a3]
      rw [show x1 = k from Fin.ext h1.symm]
    · idx_vars x
      refine ((route_out x0 x1 _).trans (route_at _ _ _ _ _ _ _ _ _ _ _ _ _ x0 x1)).trans ?_
      have hR : (r : Fin 1024).val = 0 + (x0 : Fin 512).val := by omega
      have a0 := ld_row (iblk m c 0 t) 0 (by decide) x0 r hR
      have a1 := ld_row (iblk m c 1 t) 0 (by decide) x0 r hR
      have a2 := ld_row (iblk m c 2 t) 0 (by decide) x0 r hR
      have a3 := ld_row (iblk m c 3 t) 0 (by decide) x0 r hR
      unfold View.ld
      rw [a0, a1, a2, a3]
      rw [show x1 = k from Fin.ext h1.symm]

theorem at18 (t : Fin cfg0.N) (r : Fin 1024) (k : Fin 8) :
    (outsAt0 m c t.val t.isLt).2.2.2.1 (ix2 k r) = route (row (iblk m c 0 t : Vec Ideal S1024x256 .bf16) r) (row (iblk m c 1 t : Vec Ideal S1024x1024 .bf16) r) (row (iblk m c 2 t : Vec Ideal S1024x1024 .bf16) r)
        (row (iblk m c 3 t : Vec Ideal S1024x1024 .f32) r) (tab (iblk m c 7 t : Vec Ideal S256x1024 .bf16)) (tab (iblk m c 8 t : Vec Ideal S1024x1024 .bf16))
        (row (iblk m c 9 t : Vec Ideal S1x1024 .f32) 0) (tab (iblk m c 10 t : Vec Ideal S1024x1024 .bf16)) (tab (kvAt m c t)) (tab (iblk m c 11 t : Vec Ideal S1024x1024 .bf16)) (row (iblk m c 12 t : Vec Ideal S1x1024 .f32) 0)
        (fun e k => (iblk m c 13 t : Vec Ideal S1024x128 .bf16) (ix2 e ⟨32 + k.val, by omega⟩)) (fun k => (iblk m c 14 t : Vec Ideal S1x128 .f32) (ix2 0 ⟨32 + k.val, by omega⟩))
        (fun e k => (iblk m c 13 t : Vec Ideal S1024x128 .bf16) (ix2 e ⟨k.val, by omega⟩)) (fun k => (iblk m c 14 t : Vec Ideal S1x128 .f32) (ix2 0 ⟨k.val, by omega⟩)) k := by
  by_cases ht : t.val % 4 = 0
  · rw [kvAt_A m c t ht]
    rw [outsAt0_A m c t ht]; frame_out
    rw [kv_fresh 0 0 0 rfl (by omega), kv_fresh 0 256 256 rfl (by omega), kv_fresh 0 512 512 rfl (by omega), kv_fresh 0 768 768 rfl (by omega), kv_fresh 1024 0 1024 rfl (by omega), kv_fresh 1024 256 1280 rfl (by omega), kv_fresh 1024 512 1536 rfl (by omega), kv_fresh 1024 768 1792 rfl (by omega)]
    rw [q_first, q_second, h1_second, head0_second, head1_second, head2_second, head3_second, r_second, logits_second, routeT_first]
    rw [heads_att _ _ _ _ _ _ _ _ _ 0, heads_att _ _ _ _ _ _ _ _ _ 512]
    canon_tiles x h
    · idx_vars x
      refine ((routeT_out x1 x0 _).trans (route_at _ _ _ _ _ _ _ _ _ _ _ _ _ x1 x0)).trans ?_
      have hR : (r : Fin 1024).val = 512 + (x1 : Fin 512).val := by omega
      have a0 := ld_row (iblk m c 0 t) 512 (by decide) x1 r hR
      have a1 := ld_row (iblk m c 1 t) 512 (by decide) x1 r hR
      have a2 := ld_row (iblk m c 2 t) 512 (by decide) x1 r hR
      have a3 := ld_row (iblk m c 3 t) 512 (by decide) x1 r hR
      unfold View.ld
      rw [a0, a1, a2, a3]
      rw [show x0 = k from Fin.ext h0.symm]
    · idx_vars x
      refine ((routeT_out x1 x0 _).trans (route_at _ _ _ _ _ _ _ _ _ _ _ _ _ x1 x0)).trans ?_
      have hR : (r : Fin 1024).val = 0 + (x1 : Fin 512).val := by omega
      have a0 := ld_row (iblk m c 0 t) 0 (by decide) x1 r hR
      have a1 := ld_row (iblk m c 1 t) 0 (by decide) x1 r hR
      have a2 := ld_row (iblk m c 2 t) 0 (by decide) x1 r hR
      have a3 := ld_row (iblk m c 3 t) 0 (by decide) x1 r hR
      unfold View.ld
      rw [a0, a1, a2, a3]
      rw [show x0 = k from Fin.ext h0.symm]
  · rw [kvAt_B m c t ht]
    rw [outsAt0_B m c t ht]; frame_out
    rw [kv_carried 0 0 0 rfl (by omega), kv_carried 0 256 256 rfl (by omega), kv_carried 0 512 512 rfl (by omega), kv_carried 0 768 768 rfl (by omega), kv_carried 1024 0 1024 rfl (by omega), kv_carried 1024 256 1280 rfl (by omega), kv_carried 1024 512 1536 rfl (by omega), kv_carried 1024 768 1792 rfl (by omega)]
    rw [q_first, q_second, h1_second, head0_second, head1_second, head2_second, head3_second, r_second, logits_second, routeT_first]
    rw [heads_att _ _ _ _ _ _ _ _ _ 0, heads_att _ _ _ _ _ _ _ _ _ 512]
    canon_tiles x h
    · idx_vars x
      refine ((routeT_out x1 x0 _).trans (route_at _ _ _ _ _ _ _ _ _ _ _ _ _ x1 x0)).trans ?_
      have hR : (r : Fin 1024).val = 512 + (x1 : Fin 512).val := by omega
      have a0 := ld_row (iblk m c 0 t) 512 (by decide) x1 r hR
      have a1 := ld_row (iblk m c 1 t) 512 (by decide) x1 r hR
      have a2 := ld_row (iblk m c 2 t) 512 (by decide) x1 r hR
      have a3 := ld_row (iblk m c 3 t) 512 (by decide) x1 r hR
      unfold View.ld
      rw [a0, a1, a2, a3]
      rw [show x0 = k from Fin.ext h0.symm]
    · idx_vars x
      refine ((routeT_out x1 x0 _).trans (route_at _ _ _ _ _ _ _ _ _ _ _ _ _ x1 x0)).trans ?_
      have hR : (r : Fin 1024).val = 0 + (x1 : Fin 512).val := by omega
      have a0 := ld_row (iblk m c 0 t) 0 (by decide) x1 r hR
      have a1 := ld_row (iblk m c 1 t) 0 (by decide) x1 r hR
      have a2 := ld_row (iblk m c 2 t) 0 (by decide) x1 r hR
      have a3 := ld_row (iblk m c 3 t) 0 (by decide) x1 r hR
      unfold View.ld
      rw [a0, a1, a2, a3]
      rw [show x0 = k from Fin.ext h0.symm]

end Cert.Post
-- ==== Proof.PostIn.lean ====
/- The arrays of the `post` call and the mathematics of its results over them; and what the kernel's blocks read of
   the arrays at a grid point. -/
module

public import proofs.«01_k».proof.Proof.PostPoint

@[expose] public section

set_option backward.proofsInPublic true
set_option maxRecDepth 16384

noncomputable section

namespace Cert.Post

open Idealize.ShloMosaic Idealize.ShloMosaic.TcCoe Idealize.ShloMosaic.Tactic
open Idealize.SL.Sem
open Idealize.ShloMosaic.Pipeline (Dat)
open Cert.PostIdeal Cert.PostIdeal.Gen

section
variable (x0 : FVec Ideal S65536x256 .bf16) (x1 x2 : FVec Ideal S65536x1024 .bf16) (x3 : FVec Ideal S16x4096x1024 .f32)
  (x4 : FVec Ideal S16x256x1024 .f32) (x5 : FVec Ideal S1x1024 .f32) (x6 : FVec Ideal S1x1024x2048 .f32) (x7 : FVec Ideal S1x256x1024 .f32)
  (x8 : FVec Ideal S1x1024x1024 .f32) (x9 : FVec Ideal S1x1024 .f32) (x10 x11 : FVec Ideal S1x1024x1024 .f32) (x12 : FVec Ideal S1x1024 .f32)
  (x13 : FVec Ideal S1x1024x4 .f32) (x14 : FVec Ideal S1x4 .f32) (x15 : FVec Ideal S1x1024x32 .f32) (x16 : FVec Ideal S1x32 .f32)

/-- The keys and values of a batch row's memory. -/
def kvTab (b : Fin 16) : Tab 256 2048 := fun j e => lin (rms (fun d => x5 (ix2 0 d)) (fun d => x4 (ix3 b j d))) (fun d e => x6 (ix3 0 d e)) e

/-- Token `R` of the residual stream. -/
def streamAt (R : Fin 65536) : Row 1024 :=
  stream (fun e => x0 (ix2 R e)) (fun e => x1 (ix2 R e)) (fun e => x2 (ix2 R e)) (fun e => x3 (ix3 ⟨R.val / 4096, by omega⟩ ⟨R.val % 4096, by omega⟩ e))
    (fun d e => x7 (ix3 0 d e)) (fun d e => x8 (ix3 0 d e)) (fun e => x9 (ix2 0 e)) (fun d e => x10 (ix3 0 d e)) (kvTab x4 x5 x6 ⟨R.val / 4096, by omega⟩)
    (fun d e => x11 (ix3 0 d e))

/-- Token `R` normalised for the router and the experts. -/
def normedAt (R : Fin 65536) : Row 1024 := rms (fun e => x12 (ix2 0 e)) (streamAt x0 x1 x2 x3 x4 x5 x6 x7 x8 x9 x10 x11 R)

/-- Token `R`'s routing row. -/
def routeAt (R : Fin 65536) : Row 8 :=
  routed (fun k => lin (normedAt x0 x1 x2 x3 x4 x5 x6 x7 x8 x9 x10 x11 x12 R) (fun d e => x13 (ix3 0 d e)) k + x14 (ix2 0 k))
    (fun k => lin (normedAt x0 x1 x2 x3 x4 x5 x6 x7 x8 x9 x10 x11 x12 R) (fun d e => x15 (ix3 0 d e)) k + x16 (ix2 0 k))

/-- The four results. -/
def outH : FVec Ideal S65536x1024 .f32 := fun i => streamAt x0 x1 x2 x3 x4 x5 x6 x7 x8 x9 x10 x11 (i 0) (i 1)
def outN : FVec Ideal S131072x512 .bf16 := fun i => normedAt x0 x1 x2 x3 x4 x5 x6 x7 x8 x9 x10 x11 x12 ⟨(i 0).val / 2, by have := (i 0).isLt; change (i 0).val < 131072 at this; omega⟩
  ⟨(i 0).val % 2 * 512 + (i 1).val, by have := (i 1).isLt; change (i 1).val < 512 at this; omega⟩
def outR : FVec Ideal S65536x8 .f32 := fun i => routeAt x0 x1 x2 x3 x4 x5 x6 x7 x8 x9 x10 x11 x12 x13 x14 x15 x16 (i 0) (i 1)
def outT : FVec Ideal S8x65536 .f32 := fun i => routeAt x0 x1 x2 x3 x4 x5 x6 x7 x8 x9 x10 x11 x12 x13 x14 x15 x16 (i 1) (i 0)
end

variable (m : (ℓ : Loc nD τ sig) → Buf (Elt Ideal) ℓ) (c : Dev nD)

theorem idxs : ∀ t : Fin cfg0.N, win0_0.index t = ![t.val, 0] ∧ win0_1.index t = ![t.val, 0] ∧ win0_2.index t = ![t.val, 0] ∧ win0_3.index t = ![t.val, 0]
    ∧ win0_4.index t = ![t.val / 4, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![t.val, 0] ∧ win0_16.index t = ![t.val, 0] ∧ win0_17.index t = ![t.val, 0] ∧ win0_18.index t = ![0, t.val]
    ∧ t.val < 64 :=
  (by decide +kernel : ∀ t : Fin grid0.N, _)

theorem t_lt (t : Fin cfg0.N) : t.val < 64 := (idxs t).2.2.2.2.2.2.2.2.2.2.2.2.2.2.2.2.2.2.2

theorem in0 (t : Fin cfg0.N) (r : Fin 1024) (e : Fin 256) : (iblk m c 0 t : Vec Ideal S1024x256 .bf16) (ix2 r e)
    = m ((c : Thread nD τ).loc main_arg0) (ix2 ⟨t.val * 1024 + r.val, by have := t_lt t; omega⟩ e) := by blk_point [iblk, V, idxs t]
theorem in1 (t : Fin cfg0.N) (r : Fin 1024) (e : Fin 1024) : (iblk m c 1 t : Vec Ideal S1024x1024 .bf16) (ix2 r e)
    = m ((c : Thread nD τ).loc main_arg1) (ix2 ⟨t.val * 1024 + r.val, by have := t_lt t; omega⟩ e) := by blk_point [iblk, V, idxs t]
theorem in2 (t : Fin cfg0.N) (r : Fin 1024) (e : Fin 1024) : (iblk m c 2 t : Vec Ideal S1024x1024 .bf16) (ix2 r e)
    = m ((c : Thread nD τ).loc main_arg2) (ix2 ⟨t.val * 1024 + r.val, by have := t_lt t; omega⟩ e) := by blk_point [iblk, V, idxs t]

/-! ## What the host prepared -/

theorem host3 (i : Fin 65536) (e : Fin 1024) : V m c main_v0 (ix2 i e) = m ((c : Thread nD τ).loc main_arg3) (ix3 ⟨i.val / 4096, by omega⟩ ⟨i.val % 4096, by omega⟩ e) := by
  entry_read
  pointwise
theorem host4 (i : Fin 4096) (e : Fin 1024) : V m c main_v10 (ix2 i e) = m ((c : Thread nD τ).loc main_arg4) (ix3 ⟨i.val / 256, by omega⟩ ⟨i.val % 256, by omega⟩ e) := by
  entry_read
  pointwise
theorem host5 (e : Fin 1024) : V m c main_v12 (ix2 0 e) = m ((c : Thread nD τ).loc main_arg5) (ix2 0 e) := by
  entry_read
  pointwise
theorem host9 (e : Fin 1024) : V m c main_v20 (ix2 0 e) = m ((c : Thread nD τ).loc main_arg9) (ix2 0 e) := by
  entry_read
  pointwise
theorem host12 (e : Fin 1024) : V m c main_v26 (ix2 0 e) = m ((c : Thread nD τ).loc main_arg12) (ix2 0 e) := by
  entry_read
  pointwise
theorem host6 (d : Fin 1024) (e : Fin 2048) : V m c main_v14 (ix2 d e) = m ((c : Thread nD τ).loc main_arg6) (ix3 0 d e) := by
  entry_read
  pointwise
theorem host7 (d : Fin 256) (e : Fin 1024) : V m c main_v16 (ix2 d e) = m ((c : Thread nD τ).loc main_arg7) (ix3 0 d e) := by
  entry_read
  pointwise
theorem host8 (d : Fin 1024) (e : Fin 1024) : V m c main_v18 (ix2 d e) = m ((c : Thread nD τ).loc main_arg8) (ix3 0 d e) := by
  entry_read
  pointwise
theorem host10 (d : Fin 1024) (e : Fin 1024) : V m c main_v22 (ix2 d e) = m ((c : Thread nD τ).loc main_arg10) (ix3 0 d e) := by
  entry_read
  pointwise
theorem host11 (d : Fin 1024) (e : Fin 1024) : V m c main_v24 (ix2 d e) = m ((c : Thread nD τ).loc main_arg11) (ix3 0 d e) := by
  entry_read
  pointwise
theorem V27 : V m c main_v27 = truncf .bf16 (concatenate S1024x128 1 [⟨S1024x32, shapeCast S1024x32 (m ((c : Thread nD τ).loc main_arg15)) shapeCasts_S1x1024x32_S1024x32⟩,
    ⟨S1024x4, shapeCast S1024x4 (m ((c : Thread nD τ).loc main_arg13)) shapeCasts_S1x1024x4_S1024x4⟩,
    ⟨S1024x92, broadcastInDim S1024x92 ![] bcast_S_S1024x92 (constant (F := Ideal) S_ .f32 0x00000000#32)⟩] concatenates_S1024x32_S1024x4_S1024x92_S1024x128_d1) bitsLt_bf16_f32 := by
  show StableHlo.after hostOps0 _ (Proc.devRef .tc main_v27) = _
  after_results
  rfl
theorem V9 : V m c main_v9 = shapeCast S1x128 (concatenate S128 0 [⟨S32, shapeCast S32 (m ((c : Thread nD τ).loc main_arg16)) shapeCasts_S1x32_S32⟩,
    ⟨S4, shapeCast S4 (m ((c : Thread nD τ).loc main_arg14)) shapeCasts_S1x4_S4⟩,
    ⟨S92, broadcastInDim S92 ![] bcast_S_S92 (constant (F := Ideal) S_ .f32 0x00000000#32)⟩] concatenates_S32_S4_S92_S128_d0) shapeCasts_S128_S1x128 := by
  show StableHlo.after hostOps0 _ (Proc.devRef .tc main_v9) = _
  after_results
  rfl
theorem host15 (d : Fin 1024) (k : Fin 32) : V m c main_v27 (ix2 d ⟨k.val, by omega⟩) = m ((c : Thread nD τ).loc main_arg15) (ix3 0 d k) := by
  rw [V27]
  pointwise
theorem host13 (d : Fin 1024) (k : Fin 4) : V m c main_v27 (ix2 d ⟨32 + k.val, by omega⟩) = m ((c : Thread nD τ).loc main_arg13) (ix3 0 d k) := by
  rw [V27]
  pointwise
theorem host16 (k : Fin 32) : V m c main_v9 (ix2 0 ⟨k.val, by omega⟩) = m ((c : Thread nD τ).loc main_arg16) (ix2 0 k) := by
  rw [V9]
  pointwise
theorem host14 (k : Fin 4) : V m c main_v9 (ix2 0 ⟨32 + k.val, by omega⟩) = m ((c : Thread nD τ).loc main_arg14) (ix2 0 k) := by
  rw [V9]
  pointwise

theorem in3 (t : Fin cfg0.N) (r : Fin 1024) (e : Fin 1024) : (iblk m c 3 t : Vec Ideal S1024x1024 .f32) (ix2 r e)
    = V m c main_v0 (ix2 ⟨t.val * 1024 + r.val, by have := t_lt t; omega⟩ e) := by blk_ext [iblk, idxs t]
theorem in4 (t : Fin cfg0.N) (r : Fin 256) (e : Fin 1024) : (iblk m c 4 t : Vec Ideal S256x1024 .f32) (ix2 r e)
    = V m c main_v10 (ix2 ⟨t.val / 4 * 256 + r.val, by have := t_lt t; omega⟩ e) := by blk_ext [iblk, idxs t]
theorem in5 (t : Fin cfg0.N) (r : Fin 1) (e : Fin 1024) : (iblk m c 5 t : Vec Ideal S1x1024 .f32) (ix2 r e) = V m c main_v12 (ix2 r e) := by blk_ext [iblk, idxs t]
theorem in6 (t : Fin cfg0.N) (r : Fin 1024) (e : Fin 2048) : (iblk m c 6 t : Vec Ideal S1024x2048 .bf16) (ix2 r e) = V m c main_v14 (ix2 r e) := by blk_ext [iblk, idxs t]
theorem in7 (t : Fin cfg0.N) (r : Fin 256) (e : Fin 1024) : (iblk m c 7 t : Vec Ideal S256x1024 .bf16) (ix2 r e) = V m c main_v16 (ix2 r e) := by blk_ext [iblk, idxs t]
theorem in8 (t : Fin cfg0.N) (r : Fin 1024) (e : Fin 1024) : (iblk m c 8 t : Vec Ideal S1024x1024 .bf16) (ix2 r e) = V m c main_v18 (ix2 r e) := by blk_ext [iblk, idxs t]
theorem in9 (t : Fin cfg0.N) (r : Fin 1) (e : Fin 1024) : (iblk m c 9 t : Vec Ideal S1x1024 .f32) (ix2 r e) = V m c main_v20 (ix2 r e) := by blk_ext [iblk, idxs t]
theorem in10 (t : Fin cfg0.N) (r : Fin 1024) (e : Fin 1024) : (iblk m c 10 t : Vec Ideal S1024x1024 .bf16) (ix2 r e) = V m c main_v22 (ix2 r e) := by blk_ext [iblk, idxs t]
theorem in11 (t : Fin cfg0.N) (r : Fin 1024) (e : Fin 1024) : (iblk m c 11 t : Vec Ideal S1024x1024 .bf16) (ix2 r e) = V m c main_v24 (ix2 r e) := by blk_ext [iblk, idxs t]
theorem in12 (t : Fin cfg0.N) (r : Fin 1) (e : Fin 1024) : (iblk m c 12 t : Vec Ideal S1x1024 .f32) (ix2 r e) = V m c main_v26 (ix2 r e) := by blk_ext [iblk, idxs t]
theorem in13 (t : Fin cfg0.N) (r : Fin 1024) (e : Fin 128) : (iblk m c 13 t : Vec Ideal S1024x128 .bf16) (ix2 r e) = V m c main_v27 (ix2 r e) := by blk_ext [iblk, idxs t]
theorem in14 (t : Fin cfg0.N) (r : Fin 1) (e : Fin 128) : (iblk m c 14 t : Vec Ideal S1x128 .f32) (ix2 r e) = V m c main_v9 (ix2 r e) := by blk_ext [iblk, idxs t]

end Cert.Post
-- ==== Proof.PostRun.lean ====
/- The run of the `post` call over exact real arithmetic: the four result arrays as the mathematics of the arguments. -/
module

public import proofs.«01_k».proof.Proof.PostIn
public import proofs.«01_k».proof.Proof.Gen.PostIdeal.Value

@[expose] public section

set_option backward.proofsInPublic true
set_option maxRecDepth 16384

noncomputable section

namespace Cert.Post

open Idealize.ShloMosaic Idealize.ShloMosaic.TcCoe Idealize.ShloMosaic.Tactic
open Idealize.SL.Sem
open Idealize.ShloMosaic.Pipeline (Dat)
open Cert.PostIdeal Cert.PostIdeal.Gen

variable (m : (ℓ : Loc nD τ sig) → Buf (Elt Ideal) ℓ) (c : Dev nD)

/-! ## The carried keys and values -/

theorem kv_eq (t : Fin cfg0.N) : k0_pay3 (iblk m c 4 t) (iblk m c 5 t) (iblk m c 6 t)
    = fun j => kvTab (m ((c : Thread nD τ).loc main_arg4)) (m ((c : Thread nD τ).loc main_arg5)) (m ((c : Thread nD τ).loc main_arg6)) ⟨t.val / 4, by have := t_lt t; omega⟩ (j 0) (j 1) := by
  funext j
  idx_vars j
  rw [pay_kv]
  have a4 : row (iblk m c 4 t : Vec Ideal S256x1024 .f32) j0 = fun d => (m ((c : Thread nD τ).loc main_arg4)) (ix3 ⟨t.val / 4, by have := t_lt t; omega⟩ j0 d) := by
    funext d
    refine (in4 m c t j0 d).trans ((host4 m c _ d).trans (congrArg₂ (fun a b => (m ((c : Thread nD τ).loc main_arg4)) (ix3 a b d)) (Fin.ext ?_) (Fin.ext ?_)))
    · show (t.val / 4 * 256 + j0.val) / 256 = t.val / 4; omega
    · show (t.val / 4 * 256 + j0.val) % 256 = j0.val; omega
  have a5 : row (iblk m c 5 t : Vec Ideal S1x1024 .f32) 0 = fun d => (m ((c : Thread nD τ).loc main_arg5)) (ix2 0 d) := funext fun d => (in5 m c t 0 d).trans (host5 m c d)
  have a6 : tab (iblk m c 6 t : Vec Ideal S1024x2048 .bf16) = fun d e => (m ((c : Thread nD τ).loc main_arg6)) (ix3 0 d e) := funext fun d => funext fun e => (in6 m c t d e).trans (host6 m c d e)
  rw [a4, a5, a6]
  rfl

theorem kvAt_all : ∀ (n : ℕ) (hn : n < cfg0.N), (outsAt0 m c n hn).2.2.2.2
    = fun j => kvTab (m ((c : Thread nD τ).loc main_arg4)) (m ((c : Thread nD τ).loc main_arg5)) (m ((c : Thread nD τ).loc main_arg6)) ⟨n / 4, by have := t_lt ⟨n, hn⟩; change n < 64 at this; omega⟩ (j 0) (j 1) := by
  intro n
  induction n with
  | zero => intro hn; exact (kvAt_A m c ⟨0, hn⟩ rfl).trans (kv_eq m c ⟨0, hn⟩)
  | succ n ih =>
    intro hn
    by_cases h : (n + 1) % 4 = 0
    · exact (kvAt_A m c ⟨n + 1, hn⟩ h).trans (kv_eq m c ⟨n + 1, hn⟩)
    · refine (kvAt_B m c ⟨n + 1, hn⟩ h).trans ((ih (by omega)).trans ?_)
      have e : n / 4 = (n + 1) / 4 := by omega
      simp only [e]

/-! ## A block's rows are the arrays' rows -/

theorem block_stream (t : Fin cfg0.N) (r : Fin 1024) : stream (row (iblk m c 0 t : Vec Ideal S1024x256 .bf16) r) (row (iblk m c 1 t : Vec Ideal S1024x1024 .bf16) r) (row (iblk m c 2 t : Vec Ideal S1024x1024 .bf16) r)
        (row (iblk m c 3 t : Vec Ideal S1024x1024 .f32) r) (tab (iblk m c 7 t : Vec Ideal S256x1024 .bf16)) (tab (iblk m c 8 t : Vec Ideal S1024x1024 .bf16))
        (row (iblk m c 9 t : Vec Ideal S1x1024 .f32) 0) (tab (iblk m c 10 t : Vec Ideal S1024x1024 .bf16)) (tab (kvAt m c t)) (tab (iblk m c 11 t : Vec Ideal S1024x1024 .bf16))
    = streamAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨t.val * 1024 + r.val, by have := t_lt t; omega⟩ := by
  have a0 : row (iblk m c 0 t : Vec Ideal S1024x256 .bf16) r = _ := funext fun e => in0 m c t r e
  have a1 : row (iblk m c 1 t : Vec Ideal S1024x1024 .bf16) r = _ := funext fun e => in1 m c t r e
  have a2 : row (iblk m c 2 t : Vec Ideal S1024x1024 .bf16) r = _ := funext fun e => in2 m c t r e
  have a3 : row (iblk m c 3 t : Vec Ideal S1024x1024 .f32) r = _ := funext fun e => (in3 m c t r e).trans (host3 m c _ e)
  have a7 : tab (iblk m c 7 t : Vec Ideal S256x1024 .bf16) = _ := funext fun d => funext fun e => (in7 m c t d e).trans (host7 m c d e)
  have a8 : tab (iblk m c 8 t : Vec Ideal S1024x1024 .bf16) = _ := funext fun d => funext fun e => (in8 m c t d e).trans (host8 m c d e)
  have a9 : row (iblk m c 9 t : Vec Ideal S1x1024 .f32) 0 = _ := funext fun e => (in9 m c t 0 e).trans (host9 m c e)
  have a10 : tab (iblk m c 10 t : Vec Ideal S1024x1024 .bf16) = _ := funext fun d => funext fun e => (in10 m c t d e).trans (host10 m c d e)
  have a11 : tab (iblk m c 11 t : Vec Ideal S1024x1024 .bf16) = _ := funext fun d => funext fun e => (in11 m c t d e).trans (host11 m c d e)
  have ak : tab (kvAt m c t) = kvTab (m ((c : Thread nD τ).loc main_arg4)) (m ((c : Thread nD τ).loc main_arg5)) (m ((c : Thread nD τ).loc main_arg6)) ⟨(t.val * 1024 + r.val) / 4096, by have := t_lt t; omega⟩ := by
    have e : (⟨(t.val * 1024 + r.val) / 4096, by have := t_lt t; omega⟩ : Fin 16) = ⟨t.val / 4, by have := t_lt t; omega⟩ := Fin.ext (by show (t.val * 1024 + r.val) / 4096 = t.val / 4; omega)
    rw [e]
    unfold kvAt
    rw [kvAt_all m c t.val t.isLt]
    rfl
  rw [a0, a1, a2, a3, a7, a8, a9, a10, a11, ak]
  rfl

theorem block_gain (t : Fin cfg0.N) : row (iblk m c 12 t : Vec Ideal S1x1024 .f32) 0 = fun e => (m ((c : Thread nD τ).loc main_arg12)) (ix2 0 e) :=
  funext fun e => (in12 m c t 0 e).trans (host12 m c e)

theorem block_normed (t : Fin cfg0.N) (r : Fin 1024) : normed (row (iblk m c 0 t : Vec Ideal S1024x256 .bf16) r) (row (iblk m c 1 t : Vec Ideal S1024x1024 .bf16) r) (row (iblk m c 2 t : Vec Ideal S1024x1024 .bf16) r)
        (row (iblk m c 3 t : Vec Ideal S1024x1024 .f32) r) (tab (iblk m c 7 t : Vec Ideal S256x1024 .bf16)) (tab (iblk m c 8 t : Vec Ideal S1024x1024 .bf16))
        (row (iblk m c 9 t : Vec Ideal S1x1024 .f32) 0) (tab (iblk m c 10 t : Vec Ideal S1024x1024 .bf16)) (tab (kvAt m c t)) (tab (iblk m c 11 t : Vec Ideal S1024x1024 .bf16)) (row (iblk m c 12 t : Vec Ideal S1x1024 .f32) 0)
    = normedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) ⟨t.val * 1024 + r.val, by have := t_lt t; omega⟩ := by
  unfold normed
  rw [block_stream, block_gain]
  rfl

theorem block_route (t : Fin cfg0.N) (r : Fin 1024) : route (row (iblk m c 0 t : Vec Ideal S1024x256 .bf16) r) (row (iblk m c 1 t : Vec Ideal S1024x1024 .bf16) r) (row (iblk m c 2 t : Vec Ideal S1024x1024 .bf16) r)
        (row (iblk m c 3 t : Vec Ideal S1024x1024 .f32) r) (tab (iblk m c 7 t : Vec Ideal S256x1024 .bf16)) (tab (iblk m c 8 t : Vec Ideal S1024x1024 .bf16))
        (row (iblk m c 9 t : Vec Ideal S1x1024 .f32) 0) (tab (iblk m c 10 t : Vec Ideal S1024x1024 .bf16)) (tab (kvAt m c t)) (tab (iblk m c 11 t : Vec Ideal S1024x1024 .bf16)) (row (iblk m c 12 t : Vec Ideal S1x1024 .f32) 0)
        (fun e k => (iblk m c 13 t : Vec Ideal S1024x128 .bf16) (ix2 e ⟨32 + k.val, by omega⟩)) (fun k => (iblk m c 14 t : Vec Ideal S1x128 .f32) (ix2 0 ⟨32 + k.val, by omega⟩))
        (fun e k => (iblk m c 13 t : Vec Ideal S1024x128 .bf16) (ix2 e ⟨k.val, by omega⟩)) (fun k => (iblk m c 14 t : Vec Ideal S1x128 .f32) (ix2 0 ⟨k.val, by omega⟩))
    = routeAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) ⟨t.val * 1024 + r.val, by have := t_lt t; omega⟩ := by
  have b13 : (fun e k => (iblk m c 13 t : Vec Ideal S1024x128 .bf16) (ix2 e ⟨32 + k.val, by omega⟩) : Tab 1024 4) = fun e k => (m ((c : Thread nD τ).loc main_arg13)) (ix3 0 e k) :=
    funext fun d => funext fun k => (in13 m c t d _).trans (host13 m c d k)
  have b14 : (fun k => (iblk m c 14 t : Vec Ideal S1x128 .f32) (ix2 0 ⟨32 + k.val, by omega⟩) : Row 4) = fun k => (m ((c : Thread nD τ).loc main_arg14)) (ix2 0 k) :=
    funext fun k => (in14 m c t 0 _).trans (host14 m c k)
  have b15 : (fun e k => (iblk m c 13 t : Vec Ideal S1024x128 .bf16) (ix2 e ⟨k.val, by omega⟩) : Tab 1024 32) = fun e k => (m ((c : Thread nD τ).loc main_arg15)) (ix3 0 e k) :=
    funext fun d => funext fun k => (in13 m c t d _).trans (host15 m c d k)
  have b16 : (fun k => (iblk m c 14 t : Vec Ideal S1x128 .f32) (ix2 0 ⟨k.val, by omega⟩) : Row 32) = fun k => (m ((c : Thread nD τ).loc main_arg16)) (ix2 0 k) :=
    funext fun k => (in14 m c t 0 _).trans (host16 m c k)
  unfold route
  rw [block_normed]
  rw [b13, b14, b15, b16]
  rfl

/-! ## The result arrays -/

theorem fin15 : (dats m 0 c).arrAt 15 cfg0.N = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t hf y => ?_
  blk_simp
  rw [after0_15]
  have ht := t_lt t
  idx_vars y
  have e0 : ((View.whole main_v28_0).slice (win0_15.rect t)).emb (ix2 y0 y1) 0 = (⟨t.val * 1024 + y0.val, by omega⟩ : Fin 65536) := by
    apply Fin.ext; blk_simp [idxs t]
  have e1 : ((View.whole main_v28_0).slice (win0_15.rect t)).emb (ix2 y0 y1) 1 = y1 := by
    apply Fin.ext; blk_simp [idxs t]

  unfold outH
  rw [at15, block_stream, e0, e1]

theorem fin16 : (dats m 0 c).arrAt 16 cfg0.N = outN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 16 _ (by decide +kernel) fun t hf y => ?_
  blk_simp
  rw [after0_16]
  have ht := t_lt t
  idx_vars y
  have e0 : ((View.whole main_v28_1).slice (win0_16.rect t)).emb (ix2 y0 y1) 0 = (⟨t.val * 2048 + y0.val, by omega⟩ : Fin 131072) := by
    apply Fin.ext; blk_simp [idxs t]
  have e1 : ((View.whole main_v28_1).slice (win0_16.rect t)).emb (ix2 y0 y1) 1 = y1 := by
    apply Fin.ext; blk_simp [idxs t]

  unfold outN
  rw [at16, block_normed]
  simp only [e0, e1]
  refine congr (congrArg _ (Fin.ext ?_)) (Fin.ext ?_)
  · show t.val * 1024 + y0.val / 2 = (t.val * 2048 + y0.val) / 2; omega
  · show y0.val % 2 * 512 + y1.val = (t.val * 2048 + y0.val) % 2 * 512 + y1.val; omega

theorem fin17 : (dats m 0 c).arrAt 17 cfg0.N = outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 17 _ (by decide +kernel) fun t hf y => ?_
  blk_simp
  rw [after0_17]
  have ht := t_lt t
  idx_vars y
  have e0 : ((View.whole main_v28_2).slice (win0_17.rect t)).emb (ix2 y0 y1) 0 = (⟨t.val * 1024 + y0.val, by omega⟩ : Fin 65536) := by
    apply Fin.ext; blk_simp [idxs t]
  have e1 : ((View.whole main_v28_2).slice (win0_17.rect t)).emb (ix2 y0 y1) 1 = y1 := by
    apply Fin.ext; blk_simp [idxs t]

  unfold outR
  rw [at17, block_route, e0, e1]

theorem fin18 : (dats m 0 c).arrAt 18 cfg0.N = outT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 18 _ (by decide +kernel) fun t hf y => ?_
  blk_simp
  rw [after0_18]
  have ht := t_lt t
  idx_vars y
  have e0 : ((View.whole main_v28_3).slice (win0_18.rect t)).emb (ix2 y0 y1) 0 = y0 := by
    apply Fin.ext; blk_simp [idxs t]
  have e1 : ((View.whole main_v28_3).slice (win0_18.rect t)).emb (ix2 y0 y1) 1 = (⟨t.val * 1024 + y1.val, by omega⟩ : Fin 65536) := by
    apply Fin.ext; blk_simp [idxs t]

  unfold outT
  rw [at18, block_route, e0, e1]

end Cert.Post
-- ==== Proof.PostRef.lean ====
/- The reference of the `post` call up to the normalised residual stream, stage by stage, as the mathematics of one
   token. -/
module

public import proofs.«01_k».proof.Proof.PostIn
public import proofs.«01_k».proof.Proof.Gen.PostReferenceIdeal.Read
public import Idealize.ShloMosaic.Lib.Pipeline.ValueKit
public import Idealize.ShloMosaic.Lib.Claim

@[expose] public section

set_option backward.proofsInPublic true
set_option maxRecDepth 16384

noncomputable section

namespace Cert.Post

open Idealize.ShloMosaic Idealize.ShloMosaic.TcCoe Idealize.ShloMosaic.Tactic
open Idealize.SL.Sem
open Cert.PostReferenceIdeal Cert.PostReferenceIdeal.Gen Cert.PostReferenceIdeal.Read

variable (x0 : (⟨S65536x256, .bf16⟩ : BufTy).Contents (Elt Ideal)) (x1 x2 : (⟨S65536x1024, .bf16⟩ : BufTy).Contents (Elt Ideal))
  (x3 : (⟨S16x4096x1024, .f32⟩ : BufTy).Contents (Elt Ideal)) (x4 : (⟨S16x256x1024, .f32⟩ : BufTy).Contents (Elt Ideal))
  (x5 : (⟨S1x1024, .f32⟩ : BufTy).Contents (Elt Ideal)) (x6 : (⟨S1x1024x2048, .f32⟩ : BufTy).Contents (Elt Ideal))
  (x7 : (⟨S1x256x1024, .f32⟩ : BufTy).Contents (Elt Ideal)) (x8 : (⟨S1x1024x1024, .f32⟩ : BufTy).Contents (Elt Ideal))
  (x9 : (⟨S1x1024, .f32⟩ : BufTy).Contents (Elt Ideal)) (x10 x11 : (⟨S1x1024x1024, .f32⟩ : BufTy).Contents (Elt Ideal))
  (x12 : (⟨S1x1024, .f32⟩ : BufTy).Contents (Elt Ideal)) (x13 : (⟨S1x1024x4, .f32⟩ : BufTy).Contents (Elt Ideal))
  (x14 : (⟨S1x4, .f32⟩ : BufTy).Contents (Elt Ideal)) (x15 : (⟨S1x1024x32, .f32⟩ : BufTy).Contents (Elt Ideal))
  (x16 : (⟨S1x32, .f32⟩ : BufTy).Contents (Elt Ideal))

/-- The mixers' merge. -/
theorem r10 (R : Fin 65536) (d : Fin 1024) : val_main_v10 (F := Ideal) x0 x1 x2 x3 x7 x8 (ix2 R d)
    = mixed (fun e => x0 (ix2 R e)) (fun e => x1 (ix2 R e)) (fun e => x2 (ix2 R e)) (fun e => x3 (ix3 ⟨R.val / 4096, by omega⟩ ⟨R.val % 4096, by omega⟩ e)) (fun d e => x7 (ix3 0 d e)) (fun d e => x8 (ix3 0 d e)) d := by
  unfold mixed lin
  pointwise [val_main_v0, val_main_v1, val_main_v2, val_main_v3, val_main_v4, val_main_v5, val_main_v6, val_main_v7, val_main_v8, val_main_v9, val_main_v10]

theorem r24 (R : Fin 65536) (d : Fin 1024) : val_main_v24 (F := Ideal) x0 x1 x2 x3 x7 x8 x9 (ix2 R d) = rms (fun e => x9 (ix2 0 e)) (fun e => val_main_v10 (F := Ideal) x0 x1 x2 x3 x7 x8 (ix2 R e)) d := by
  unfold rms
  pointwise [val_main_v11, val_main_v12, val_main_cst, val_main_v13, val_main_v14, val_main_cst_0, val_main_v15, val_main_v16, val_main_cst_1, val_main_v17, val_main_v18, val_main_v19, val_main_v20, val_main_v21, val_main_v22, val_main_v23, val_main_v24]

theorem r26 (R : Fin 65536) (d : Fin 1024) : val_main_v26 (F := Ideal) x0 x1 x2 x3 x7 x8 x9 x10 (ix2 R d) = lin (fun e => val_main_v24 (F := Ideal) x0 x1 x2 x3 x7 x8 x9 (ix2 R e)) (fun d e => x10 (ix3 0 d e)) d := by
  unfold lin
  pointwise [val_main_v25, val_main_v26]

/-- The keys and values. -/
theorem r43 (b : Fin 16) (j : Fin 256) (e : Fin 2048) : val_main_v43 (F := Ideal) x4 x5 x6 (ix3 b j e) = kvTab x4 x5 x6 b j e := by
  unfold kvTab lin rms
  pointwise [val_main_v28, val_main_v29, val_main_cst_2, val_main_v30, val_main_v31, val_main_cst_3, val_main_v32, val_main_v33, val_main_cst_4, val_main_v34, val_main_v35, val_main_v36, val_main_v37, val_main_v38, val_main_v39, val_main_v40, val_main_v41, val_main_v42, val_main_v43]

theorem r51 (b : Fin 16) (h : Fin 4) (s : Fin 4096) (j : Fin 256) : val_main_v51 (F := Ideal) x0 x1 x2 x3 x4 x5 x6 x7 x8 x9 x10 (ix4 b h s j)
    = score (fun e => val_main_v26 (F := Ideal) x0 x1 x2 x3 x7 x8 x9 x10 (ix2 ⟨b.val * 4096 + s.val, by omega⟩ e)) (fun j e => val_main_v43 (F := Ideal) x4 x5 x6 (ix3 b j e)) h j := by
  unfold score
  pointwise [val_main_v44, val_main_v45, val_main_v46, val_main_v49, val_main_cst_5, val_main_v50, val_main_v51, val_main_v27]
  have c1 : ∀ x : Fin 256, (⟨h.val * 256 + x.val, by omega⟩ : Fin 1024) = col h x := fun x => Fin.ext (by show h.val * 256 + x.val = 256 * h.val + x.val; omega)
  have c2 : ∀ x : Fin 256, (⟨h.val * 256 + x.val, by omega⟩ : Fin 2048) = key h x := fun x => Fin.ext (by show h.val * 256 + x.val = 256 * h.val + x.val; omega)
  simp only [c1, c2]

theorem r61 (b : Fin 16) (h : Fin 4) (s : Fin 4096) (d : Fin 256) : val_main_v61 (F := Ideal) x0 x1 x2 x3 x4 x5 x6 x7 x8 x9 x10 (ix4 b h s d)
    = soft (fun j => val_main_v51 (F := Ideal) x0 x1 x2 x3 x4 x5 x6 x7 x8 x9 x10 (ix4 b h s j)) (fun j => val_main_v43 (F := Ideal) x4 x5 x6 (ix3 b j (Post.val h d))) := by
  unfold soft
  pointwise [val_main_cst_6, val_main_v52, val_main_v53, val_main_v54, val_main_v55, val_main_v56, val_main_v57, val_main_cst_7, val_main_v58, val_main_v59, val_main_v60, val_main_v61, val_main_v48, val_main_v47, val_main_v44]
  have c1 : (⟨1024 + h.val * 256 + d.val, by omega⟩ : Fin 2048) = Post.val h d := Fin.ext (by show 1024 + h.val * 256 + d.val = 1024 + (256 * h.val + d.val); omega)
  simp only [c1, bits_bot]

theorem r63 (R : Fin 65536) (e : Fin 1024) : val_main_v63 (F := Ideal) x0 x1 x2 x3 x4 x5 x6 x7 x8 x9 x10 (ix2 R e)
    = val_main_v61 (F := Ideal) x0 x1 x2 x3 x4 x5 x6 x7 x8 x9 x10 (ix4 ⟨R.val / 4096, by omega⟩ ⟨e.val / 256, by omega⟩ ⟨R.val % 4096, by omega⟩ ⟨e.val % 256, by omega⟩) := by
  pointwise [val_main_v63, val_main_v62]

theorem r66 (R : Fin 65536) (d : Fin 1024) : val_main_v66 (F := Ideal) x0 x1 x2 x3 x4 x5 x6 x7 x8 x9 x10 x11 (ix2 R d)
    = val_main_v10 (F := Ideal) x0 x1 x2 x3 x7 x8 (ix2 R d) + lin (fun e => val_main_v63 (F := Ideal) x0 x1 x2 x3 x4 x5 x6 x7 x8 x9 x10 (ix2 R e)) (fun d e => x11 (ix3 0 d e)) d := by
  unfold lin
  pointwise [val_main_v64, val_main_v65, val_main_v66]

theorem r80 (R : Fin 65536) (d : Fin 1024) : val_main_v80 (F := Ideal) x0 x1 x2 x3 x4 x5 x6 x7 x8 x9 x10 x11 x12 (ix2 R d) = rms (fun e => x12 (ix2 0 e)) (fun e => val_main_v66 (F := Ideal) x0 x1 x2 x3 x4 x5 x6 x7 x8 x9 x10 x11 (ix2 R e)) d := by
  unfold rms
  pointwise [val_main_v67, val_main_v68, val_main_cst_8, val_main_v69, val_main_v70, val_main_cst_9, val_main_v71, val_main_v72, val_main_cst_10, val_main_v73, val_main_v74, val_main_v75, val_main_v76, val_main_v77, val_main_v78, val_main_v79, val_main_v80]

theorem r154 (R : Fin 131072) (d : Fin 512) : val_main_v155 (F := Ideal) x0 x1 x2 x3 x4 x5 x6 x7 x8 x9 x10 x11 x12 (ix2 R d) = val_main_v80 (F := Ideal) x0 x1 x2 x3 x4 x5 x6 x7 x8 x9 x10 x11 x12 (ix2 ⟨R.val / 2, by omega⟩ ⟨R.val % 2 * 512 + d.val, by omega⟩) := by
  pointwise [val_main_v155, val_main_v154]

/-! ## The residual stream of a token -/

theorem ref_stream (R : Fin 65536) (d : Fin 1024) : val_main_v66 (F := Ideal) x0 x1 x2 x3 x4 x5 x6 x7 x8 x9 x10 x11 (ix2 R d) = streamAt x0 x1 x2 x3 x4 x5 x6 x7 x8 x9 x10 x11 R d := by
  have e10 : (fun e => val_main_v10 (F := Ideal) x0 x1 x2 x3 x7 x8 (ix2 R e)) = _ := funext fun e => r10 x0 x1 x2 x3 x7 x8 R e
  have e24 : (fun e => val_main_v24 (F := Ideal) x0 x1 x2 x3 x7 x8 x9 (ix2 R e)) = _ := funext fun e => r24 x0 x1 x2 x3 x7 x8 x9 R e
  have e26 : (fun e => val_main_v26 (F := Ideal) x0 x1 x2 x3 x7 x8 x9 x10 (ix2 R e)) = _ := funext fun e => r26 x0 x1 x2 x3 x7 x8 x9 x10 R e
  have e43 : (fun j e => val_main_v43 (F := Ideal) x4 x5 x6 (ix3 ⟨R.val / 4096, by omega⟩ j e)) = kvTab x4 x5 x6 ⟨R.val / 4096, by omega⟩ :=
    funext fun j => funext fun e => r43 x4 x5 x6 _ j e
  have e63 : (fun e => val_main_v63 (F := Ideal) x0 x1 x2 x3 x4 x5 x6 x7 x8 x9 x10 (ix2 R e)) = attended (fun e => val_main_v26 (F := Ideal) x0 x1 x2 x3 x7 x8 x9 x10 (ix2 R e)) (kvTab x4 x5 x6 ⟨R.val / 4096, by omega⟩) := by
    funext e
    rw [r63, r61]
    have hR : (⟨(⟨R.val / 4096, by omega⟩ : Fin 16).val * 4096 + (⟨R.val % 4096, by omega⟩ : Fin 4096).val, by show R.val / 4096 * 4096 + R.val % 4096 < 65536; omega⟩ : Fin 65536) = R :=
      Fin.ext (by show R.val / 4096 * 4096 + R.val % 4096 = R.val; omega)
    simp only [r51, hR]
    unfold attended head
    rw [e43, ← e43]
  unfold streamAt stream resid
  rw [r66, e63, e26, e24, e10, r10]

theorem ref_normed (R : Fin 65536) (d : Fin 1024) : val_main_v80 (F := Ideal) x0 x1 x2 x3 x4 x5 x6 x7 x8 x9 x10 x11 x12 (ix2 R d) = normedAt x0 x1 x2 x3 x4 x5 x6 x7 x8 x9 x10 x11 x12 R d := by
  have e66 : (fun e => val_main_v66 (F := Ideal) x0 x1 x2 x3 x4 x5 x6 x7 x8 x9 x10 x11 (ix2 R e)) = streamAt x0 x1 x2 x3 x4 x5 x6 x7 x8 x9 x10 x11 R := funext fun e => ref_stream x0 x1 x2 x3 x4 x5 x6 x7 x8 x9 x10 x11 R e
  unfold normedAt
  rw [r80, e66]

end Cert.Post
-- ==== Proof.PostRefRoute.lean ====
/- The reference's router, stage by stage, as the mathematics of one token. -/
module

public import proofs.«01_k».proof.Proof.PostRef

@[expose] public section

set_option backward.proofsInPublic true
set_option maxRecDepth 16384

noncomputable section

namespace Cert.Post

open Idealize.ShloMosaic Idealize.ShloMosaic.TcCoe Idealize.ShloMosaic.Tactic
open Idealize.SL.Sem
open Cert.PostReferenceIdeal Cert.PostReferenceIdeal.Gen Cert.PostReferenceIdeal.Read

/-! ## Words as numbers -/

theorem ref_lane32 (n : Fin 32) : FloatOps.sitofp (F := Ideal) .f32 (BitVec.ofNat 32 n.val) = lane n.val :=
  sitofp_lane (Fin.castLE (by omega) n)

theorem ref_lane4 (n : Fin 4) : FloatOps.sitofp (F := Ideal) .f32 (BitVec.ofNat 32 n.val) = lane n.val :=
  sitofp_lane (Fin.castLE (by omega) n)

theorem toInt_div : ∀ n : Fin 32, (IntOp.divsi ArithUnit.host (BitVec.ofNat 32 n.val) 8#32).toInt = ((n.val / 8 : ℕ) : ℤ) := by decide +kernel

theorem ref_div (n : Fin 32) : FloatOps.sitofp (F := Ideal) .f32 (IntOp.divsi ArithUnit.host (BitVec.ofNat 32 n.val) 8#32) = lane (n.val / 8) := by
  show (((IntOp.divsi ArithUnit.host (BitVec.ofNat 32 n.val) 8#32).toInt : ℝ) : EReal) = _
  rw [toInt_div]; norm_cast

theorem fill_at (b : BitVec 32) : (constant S_ FTy.f32 b : FVec Ideal S_ .f32) ix0 = Ideal.ofBits .f32 b := rfl

theorem select_both (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq] <;> rfl

/-! ## The stages after the masked logits, over any arrays -/

theorem arg_at (f : FVec Ideal S65536x32 .f32) (w : FVec Ideal S65536 .f32) (R : Fin 65536) (h : w (ix1 R) = best fun k => f (ix2 R k)) :
    (Host.reduce (FloatOps.minimumf (F := Ideal)) (select (cmpf .oeq f (broadcastInDim S65536x32 ![0, 1] bcast_S65536x1_S65536x32_0_1 (broadcastInDim S65536x1 ![0] bcast_S65536_S65536x1_0 w)))
      (sitofp FTy.f32 (iotaInDim S65536x32 32 1)) (broadcastInDim S65536x32 ![] bcast_S_S65536x32 (id (constant S_ FTy.f32 1107296256#32))))
      (constant S_ FTy.f32 2139095040#32) reducesTo_S65536x32_S65536_d1 h_S_ : FVec Ideal S65536 .f32) (ix1 R) = argbest (lane 32) fun k => f (ix2 R k) := by
  pointwise []
  rw [h]
  simp only [ref_lane32, id_eq, fill_at, bits_top, bits_32]

theorem best_at (f : FVec Ideal S65536x32 .f32) (R : Fin 65536) :
    Host.reduce FloatOps.maximumf f (constant S_ FTy.f32 4286578688#32) reducesTo_S65536x32_S65536_d1 h_S_ (ix1 R) = best fun k => f (ix2 R k) := by
  pointwise []
  simp only [bits_bot]

theorem without_at (f : FVec Ideal S65536x32 .f32) (i : FVec Ideal S65536 .f32) (R : Fin 65536) (k : Fin 32) :
    select (cmpf .oeq (sitofp FTy.f32 (iotaInDim S65536x32 32 1)) (broadcastInDim S65536x32 ![0, 1] bcast_S65536x1_S65536x32_0_1 (broadcastInDim S65536x1 ![0] bcast_S65536_S65536x1_0 i)))
      (broadcastInDim S65536x32 ![] bcast_S_S65536x32 (id (constant S_ FTy.f32 4286578688#32))) f (ix2 R k) = without (fun k => f (ix2 R k)) (i (ix1 R)) k := by
  pointwise []
  simp only [ref_lane32, id_eq, fill_at, bits_bot]

theorem exp_at (a b : FVec Ideal S65536 .f32) (R : Fin 65536) :
    Host.exp (subf (broadcastInDim S65536x1 ![0] bcast_S65536_S65536x1_0 a) (broadcastInDim S65536x1 ![0] bcast_S65536_S65536x1_0 b)) (ix2 R 0)
      = Ideal.exp (a (ix1 R) - b (ix1 R)) := by
  pointwise []

theorem first_at (a e : FVec Ideal S65536x1 .f32) (R : Fin 65536) :
    mulf a (Host.divf (broadcastInDim S65536x1 ![] bcast_S_S65536x1 (constant S_ .f32 0x3F800000#32))
      (addf (broadcastInDim S65536x1 ![] bcast_S_S65536x1 (constant S_ .f32 0x3F800000#32)) e)) (ix2 R 0) = a (ix2 R 0) * Ideal.div 1 (1 + e (ix2 R 0)) := by
  pointwise []

theorem second_at (a e : FVec Ideal S65536x1 .f32) (R : Fin 65536) :
    mulf a (Host.divf e (addf (broadcastInDim S65536x1 ![] bcast_S_S65536x1 (constant S_ .f32 0x3F800000#32)) e)) (ix2 R 0)
      = a (ix2 R 0) * Ideal.div (e (ix2 R 0)) (1 + e (ix2 R 0)) := by
  pointwise []

variable (x0 : (⟨S65536x256, .bf16⟩ : BufTy).Contents (Elt Ideal)) (x1 x2 : (⟨S65536x1024, .bf16⟩ : BufTy).Contents (Elt Ideal))
  (x3 : (⟨S16x4096x1024, .f32⟩ : BufTy).Contents (Elt Ideal)) (x4 : (⟨S16x256x1024, .f32⟩ : BufTy).Contents (Elt Ideal))
  (x5 : (⟨S1x1024, .f32⟩ : BufTy).Contents (Elt Ideal)) (x6 : (⟨S1x1024x2048, .f32⟩ : BufTy).Contents (Elt Ideal))
  (x7 : (⟨S1x256x1024, .f32⟩ : BufTy).Contents (Elt Ideal)) (x8 : (⟨S1x1024x1024, .f32⟩ : BufTy).Contents (Elt Ideal))
  (x9 : (⟨S1x1024, .f32⟩ : BufTy).Contents (Elt Ideal)) (x10 x11 : (⟨S1x1024x1024, .f32⟩ : BufTy).Contents (Elt Ideal))
  (x12 : (⟨S1x1024, .f32⟩ : BufTy).Contents (Elt Ideal)) (x13 : (⟨S1x1024x4, .f32⟩ : BufTy).Contents (Elt Ideal))
  (x14 : (⟨S1x4, .f32⟩ : BufTy).Contents (Elt Ideal)) (x15 : (⟨S1x1024x32, .f32⟩ : BufTy).Contents (Elt Ideal))
  (x16 : (⟨S1x32, .f32⟩ : BufTy).Contents (Elt Ideal))

theorem r86 (R : Fin 65536) (k : Fin 4) : val_main_v86 (F := Ideal) x0 x1 x2 x3 x4 x5 x6 x7 x8 x9 x10 x11 x12 x13 x14 (ix2 R k)
    = lin (fun e => val_main_v80 (F := Ideal) x0 x1 x2 x3 x4 x5 x6 x7 x8 x9 x10 x11 x12 (ix2 R e)) (fun d e => x13 (ix3 0 d e)) k + x14 (ix2 0 k) := by
  unfold lin
  pointwise [val_main_v81, val_main_v82, val_main_v83, val_main_v84, val_main_v85, val_main_v86]

theorem r117 (R : Fin 65536) (k : Fin 32) : val_main_v117 (F := Ideal) x0 x1 x2 x3 x4 x5 x6 x7 x8 x9 x10 x11 x12 x15 x16 (ix2 R k)
    = lin (fun e => val_main_v80 (F := Ideal) x0 x1 x2 x3 x4 x5 x6 x7 x8 x9 x10 x11 x12 (ix2 R e)) (fun d e => x15 (ix3 0 d e)) k + x16 (ix2 0 k) := by
  unfold lin
  pointwise [val_main_v112, val_main_v113, val_main_v114, val_main_v115, val_main_v116, val_main_v117]

theorem r119 (R : Fin 65536) : val_main_v119 (F := Ideal) x0 x1 x2 x3 x4 x5 x6 x7 x8 x9 x10 x11 x12 x13 x14 x15 x16 (ix1 R) = best fun k => val_main_v118 (F := Ideal) x0 x1 x2 x3 x4 x5 x6 x7 x8 x9 x10 x11 x12 x13 x14 x15 x16 (ix2 R k) :=
  best_at _ R

theorem r147 (R : Fin 65536) : val_main_v147 (F := Ideal) x0 x1 x2 x3 x4 x5 x6 x7 x8 x9 x10 x11 x12 x13 x14 x15 x16 (ix2 R 0) = val_main_v105 (F := Ideal) x0 x1 x2 x3 x4 x5 x6 x7 x8 x9 x10 x11 x12 x13 x14 (ix2 R 0) * Ideal.div 1 (1 + val_main_v142 (F := Ideal) x0 x1 x2 x3 x4 x5 x6 x7 x8 x9 x10 x11 x12 x13 x14 x15 x16 (ix2 R 0)) :=
  first_at _ _ R

theorem r151 (R : Fin 65536) : val_main_v151 (F := Ideal) x0 x1 x2 x3 x4 x5 x6 x7 x8 x9 x10 x11 x12 x13 x14 x15 x16 (ix2 R 0) = val_main_v105 (F := Ideal) x0 x1 x2 x3 x4 x5 x6 x7 x8 x9 x10 x11 x12 x13 x14 (ix2 R 0) * Ideal.div (val_main_v142 (F := Ideal) x0 x1 x2 x3 x4 x5 x6 x7 x8 x9 x10 x11 x12 x13 x14 x15 x16 (ix2 R 0)) (1 + val_main_v142 (F := Ideal) x0 x1 x2 x3 x4 x5 x6 x7 x8 x9 x10 x11 x12 x13 x14 x15 x16 (ix2 R 0)) :=
  second_at _ _ R

theorem r156 (R : Fin 65536) (k : Fin 8) : val_main_v156 (F := Ideal) x0 x1 x2 x3 x4 x5 x6 x7 x8 x9 x10 x11 x12 x13 x14 x15 x16 (ix2 k R) = val_main_v153 (F := Ideal) x0 x1 x2 x3 x4 x5 x6 x7 x8 x9 x10 x11 x12 x13 x14 x15 x16 (ix2 R k) := by
  unfold val_main_v156
  generalize val_main_v153 (F := Ideal) x0 x1 x2 x3 x4 x5 x6 x7 x8 x9 x10 x11 x12 x13 x14 x15 x16 = a
  pointwise []

theorem r97 (R : Fin 65536) : val_main_v97 (F := Ideal) x0 x1 x2 x3 x4 x5 x6 x7 x8 x9 x10 x11 x12 x13 x14 (ix1 R) = group (fun k => val_main_v86 (F := Ideal) x0 x1 x2 x3 x4 x5 x6 x7 x8 x9 x10 x11 x12 x13 x14 (ix2 R k)) := by
  pointwise [val_main_cst_11, val_main_v87, val_main_v88, val_main_v89, val_main_v90, val_main_cst_12, val_main_v91, val_main_v92, val_main_v93, val_main_v94, val_main_v95, val_main_cst_13, val_main_call0_v0, val_main_call0_v1, val_main_v96, val_main_cst_14, val_main_v97]
  simp only [select_both, ref_lane4, id_eq, fill_at, bits_bot, bits_top, bits_4]

theorem r105 (R : Fin 65536) : val_main_v105 (F := Ideal) x0 x1 x2 x3 x4 x5 x6 x7 x8 x9 x10 x11 x12 x13 x14 (ix2 R 0) = Ideal.div 1 (gsum fun k => val_main_v86 (F := Ideal) x0 x1 x2 x3 x4 x5 x6 x7 x8 x9 x10 x11 x12 x13 x14 (ix2 R k)) := by
  pointwise [val_main_v99, val_main_v100, val_main_v101, val_main_cst_15, val_main_v102, val_main_v103, val_main_cst_16, val_main_v104, val_main_v105, val_main_cst_11, val_main_v87, val_main_v88]
  simp only [bits_bot]

theorem r118 (R : Fin 65536) (k : Fin 32) : val_main_v118 (F := Ideal) x0 x1 x2 x3 x4 x5 x6 x7 x8 x9 x10 x11 x12 x13 x14 x15 x16 (ix2 R k) = inside (fun k => val_main_v86 (F := Ideal) x0 x1 x2 x3 x4 x5 x6 x7 x8 x9 x10 x11 x12 x13 x14 (ix2 R k)) (fun k => val_main_v117 (F := Ideal) x0 x1 x2 x3 x4 x5 x6 x7 x8 x9 x10 x11 x12 x15 x16 (ix2 R k)) k := by
  pointwise [val_main_cst_17, val_main_call1_v0, val_main_call1_v1, val_main_v118, val_main_v106, val_main_c, val_main_v107, val_main_v108, val_main_v109, val_main_v110, val_main_v111, val_main_v98]
  simp only [ref_div, id_eq, fill_at, bits_bot]
  rw [r97]

theorem r131 (R : Fin 65536) (k : Fin 32) : val_main_v131 (F := Ideal) x0 x1 x2 x3 x4 x5 x6 x7 x8 x9 x10 x11 x12 x13 x14 x15 x16 (ix2 R k) = without (fun k => val_main_v118 (F := Ideal) x0 x1 x2 x3 x4 x5 x6 x7 x8 x9 x10 x11 x12 x13 x14 x15 x16 (ix2 R k)) (val_main_v126 (F := Ideal) x0 x1 x2 x3 x4 x5 x6 x7 x8 x9 x10 x11 x12 x13 x14 x15 x16 (ix1 R)) k :=
  without_at _ _ R k

theorem r153 (R : Fin 65536) (k : Fin 8) : val_main_v153 (F := Ideal) x0 x1 x2 x3 x4 x5 x6 x7 x8 x9 x10 x11 x12 x13 x14 x15 x16 (ix2 R k) = if k = 0 then val_main_v126 (F := Ideal) x0 x1 x2 x3 x4 x5 x6 x7 x8 x9 x10 x11 x12 x13 x14 x15 x16 (ix1 R) else if k = 1 then val_main_v139 (F := Ideal) x0 x1 x2 x3 x4 x5 x6 x7 x8 x9 x10 x11 x12 x13 x14 x15 x16 (ix1 R)
    else if k = 2 then val_main_v147 (F := Ideal) x0 x1 x2 x3 x4 x5 x6 x7 x8 x9 x10 x11 x12 x13 x14 x15 x16 (ix2 R 0) else if k = 3 then val_main_v151 (F := Ideal) x0 x1 x2 x3 x4 x5 x6 x7 x8 x9 x10 x11 x12 x13 x14 x15 x16 (ix2 R 0) else 0 := by
  unfold val_main_v153 val_main_v152 val_main_cst_28 val_main_v127 val_main_v140
  generalize val_main_v126 (F := Ideal) x0 x1 x2 x3 x4 x5 x6 x7 x8 x9 x10 x11 x12 x13 x14 x15 x16 = a
  generalize val_main_v139 (F := Ideal) x0 x1 x2 x3 x4 x5 x6 x7 x8 x9 x10 x11 x12 x13 x14 x15 x16 = b
  generalize val_main_v147 (F := Ideal) x0 x1 x2 x3 x4 x5 x6 x7 x8 x9 x10 x11 x12 x13 x14 x15 x16 = d
  generalize val_main_v151 (F := Ideal) x0 x1 x2 x3 x4 x5 x6 x7 x8 x9 x10 x11 x12 x13 x14 x15 x16 = e
  pointwise []
  fin_cases k <;> rfl

theorem r126 (R : Fin 65536) : val_main_v126 (F := Ideal) x0 x1 x2 x3 x4 x5 x6 x7 x8 x9 x10 x11 x12 x13 x14 x15 x16 (ix1 R) = argbest (lane 32) fun k => val_main_v118 (F := Ideal) x0 x1 x2 x3 x4 x5 x6 x7 x8 x9 x10 x11 x12 x13 x14 x15 x16 (ix2 R k) :=
  arg_at _ _ R (r119 x0 x1 x2 x3 x4 x5 x6 x7 x8 x9 x10 x11 x12 x13 x14 x15 x16 R)

theorem r132 (R : Fin 65536) : val_main_v132 (F := Ideal) x0 x1 x2 x3 x4 x5 x6 x7 x8 x9 x10 x11 x12 x13 x14 x15 x16 (ix1 R) = best fun k => val_main_v131 (F := Ideal) x0 x1 x2 x3 x4 x5 x6 x7 x8 x9 x10 x11 x12 x13 x14 x15 x16 (ix2 R k) :=
  best_at _ R

theorem r139 (R : Fin 65536) : val_main_v139 (F := Ideal) x0 x1 x2 x3 x4 x5 x6 x7 x8 x9 x10 x11 x12 x13 x14 x15 x16 (ix1 R) = argbest (lane 32) fun k => val_main_v131 (F := Ideal) x0 x1 x2 x3 x4 x5 x6 x7 x8 x9 x10 x11 x12 x13 x14 x15 x16 (ix2 R k) :=
  arg_at _ _ R (r132 x0 x1 x2 x3 x4 x5 x6 x7 x8 x9 x10 x11 x12 x13 x14 x15 x16 R)

theorem r142 (R : Fin 65536) : val_main_v142 (F := Ideal) x0 x1 x2 x3 x4 x5 x6 x7 x8 x9 x10 x11 x12 x13 x14 x15 x16 (ix2 R 0) = Ideal.exp (val_main_v132 (F := Ideal) x0 x1 x2 x3 x4 x5 x6 x7 x8 x9 x10 x11 x12 x13 x14 x15 x16 (ix1 R) - val_main_v119 (F := Ideal) x0 x1 x2 x3 x4 x5 x6 x7 x8 x9 x10 x11 x12 x13 x14 x15 x16 (ix1 R)) :=
  exp_at _ _ R

/-! ## The routing row of a token -/

theorem ref_route (R : Fin 65536) (k : Fin 8) : val_main_v153 (F := Ideal) x0 x1 x2 x3 x4 x5 x6 x7 x8 x9 x10 x11 x12 x13 x14 x15 x16 (ix2 R k) = routeAt x0 x1 x2 x3 x4 x5 x6 x7 x8 x9 x10 x11 x12 x13 x14 x15 x16 R k := by
  have e80 : (fun e => val_main_v80 (F := Ideal) x0 x1 x2 x3 x4 x5 x6 x7 x8 x9 x10 x11 x12 (ix2 R e)) = normedAt x0 x1 x2 x3 x4 x5 x6 x7 x8 x9 x10 x11 x12 R := funext fun e => ref_normed x0 x1 x2 x3 x4 x5 x6 x7 x8 x9 x10 x11 x12 R e
  have e86 : (fun k => val_main_v86 (F := Ideal) x0 x1 x2 x3 x4 x5 x6 x7 x8 x9 x10 x11 x12 x13 x14 (ix2 R k)) = fun k => lin (normedAt x0 x1 x2 x3 x4 x5 x6 x7 x8 x9 x10 x11 x12 R) (fun d e => x13 (ix3 0 d e)) k + x14 (ix2 0 k) :=
    funext fun k => by rw [r86, e80]
  have e117 : (fun k => val_main_v117 (F := Ideal) x0 x1 x2 x3 x4 x5 x6 x7 x8 x9 x10 x11 x12 x15 x16 (ix2 R k)) = fun k => lin (normedAt x0 x1 x2 x3 x4 x5 x6 x7 x8 x9 x10 x11 x12 R) (fun d e => x15 (ix3 0 d e)) k + x16 (ix2 0 k) :=
    funext fun k => by rw [r117, e80]
  have e118 : (fun k => val_main_v118 (F := Ideal) x0 x1 x2 x3 x4 x5 x6 x7 x8 x9 x10 x11 x12 x13 x14 x15 x16 (ix2 R k)) = inside (fun k => val_main_v86 (F := Ideal) x0 x1 x2 x3 x4 x5 x6 x7 x8 x9 x10 x11 x12 x13 x14 (ix2 R k)) (fun k => val_main_v117 (F := Ideal) x0 x1 x2 x3 x4 x5 x6 x7 x8 x9 x10 x11 x12 x15 x16 (ix2 R k)) :=
    funext fun k => r118 x0 x1 x2 x3 x4 x5 x6 x7 x8 x9 x10 x11 x12 x13 x14 x15 x16 R k
  have e131 : (fun k => val_main_v131 (F := Ideal) x0 x1 x2 x3 x4 x5 x6 x7 x8 x9 x10 x11 x12 x13 x14 x15 x16 (ix2 R k)) = without (fun k => val_main_v118 (F := Ideal) x0 x1 x2 x3 x4 x5 x6 x7 x8 x9 x10 x11 x12 x13 x14 x15 x16 (ix2 R k)) (val_main_v126 (F := Ideal) x0 x1 x2 x3 x4 x5 x6 x7 x8 x9 x10 x11 x12 x13 x14 x15 x16 (ix1 R)) :=
    funext fun k => r131 x0 x1 x2 x3 x4 x5 x6 x7 x8 x9 x10 x11 x12 x13 x14 x15 x16 R k
  unfold routeAt routed odds
  rw [r153, r147, r151, r142, r105, r139, r132, e131, r126, r119, e118, e86, e117]

/-! ## The four results -/

theorem res_stream : val_main_v66 (F := Ideal) x0 x1 x2 x3 x4 x5 x6 x7 x8 x9 x10 x11 = outH x0 x1 x2 x3 x4 x5 x6 x7 x8 x9 x10 x11 := by
  funext i
  rw [show i = ix2 (i 0) (i 1) from funext fun a => by fin_cases a <;> rfl]
  exact ref_stream x0 x1 x2 x3 x4 x5 x6 x7 x8 x9 x10 x11 (i 0) (i 1)

theorem res_normed : val_main_v155 (F := Ideal) x0 x1 x2 x3 x4 x5 x6 x7 x8 x9 x10 x11 x12 = outN x0 x1 x2 x3 x4 x5 x6 x7 x8 x9 x10 x11 x12 := by
  funext i
  rw [show i = ix2 (i 0) (i 1) from funext fun a => by fin_cases a <;> rfl]
  exact (r154 x0 x1 x2 x3 x4 x5 x6 x7 x8 x9 x10 x11 x12 (i 0) (i 1)).trans (ref_normed x0 x1 x2 x3 x4 x5 x6 x7 x8 x9 x10 x11 x12 _ _)

theorem res_route : val_main_v153 (F := Ideal) x0 x1 x2 x3 x4 x5 x6 x7 x8 x9 x10 x11 x12 x13 x14 x15 x16 = outR x0 x1 x2 x3 x4 x5 x6 x7 x8 x9 x10 x11 x12 x13 x14 x15 x16 := by
  funext i
  rw [show i = ix2 (i 0) (i 1) from funext fun a => by fin_cases a <;> rfl]
  exact ref_route x0 x1 x2 x3 x4 x5 x6 x7 x8 x9 x10 x11 x12 x13 x14 x15 x16 (i 0) (i 1)

theorem res_turned : val_main_v156 (F := Ideal) x0 x1 x2 x3 x4 x5 x6 x7 x8 x9 x10 x11 x12 x13 x14 x15 x16 = outT x0 x1 x2 x3 x4 x5 x6 x7 x8 x9 x10 x11 x12 x13 x14 x15 x16 := by
  funext i
  rw [show i = ix2 (i 0) (i 1) from funext fun a => by fin_cases a <;> rfl]
  exact (r156 x0 x1 x2 x3 x4 x5 x6 x7 x8 x9 x10 x11 x12 x13 x14 x15 x16 (i 1) (i 0)).trans (ref_route x0 x1 x2 x3 x4 x5 x6 x7 x8 x9 x10 x11 x12 x13 x14 x15 x16 (i 1) (i 0))

end Cert.Post
-- ==== Proof.PostClaims.lean ====
/- The claims about the `post` call. -/
module

public import proofs.«01_k».proof.Defs
public import proofs.«01_k».proof.Proof.PostRun
public import proofs.«01_k».proof.Proof.PostRefRoute
public import proofs.«01_k».proof.Proof.Gen.Post.Frame
public import proofs.«01_k».proof.Proof.Gen.PostReferenceIdeal.Run
public import Idealize.ShloMosaic.Lib.Quiescent
public import Idealize.ShloMosaic.Lib.Bf16Pair

@[expose] public section

set_option backward.proofsInPublic true
set_option maxRecDepth 16384

noncomputable section

namespace Cert.Post

open Idealize.ShloMosaic Idealize.ShloMosaic.TcCoe Idealize.SL.Sem

section
open Cert.PostReferenceIdeal Cert.PostReferenceIdeal.Gen Cert.PostReferenceIdeal.Read
variable {x0 : (⟨S65536x256, .bf16⟩ : BufTy).Contents (Elt Ideal)} {x1 x2 : (⟨S65536x1024, .bf16⟩ : BufTy).Contents (Elt Ideal)}
  {x3 : (⟨S16x4096x1024, .f32⟩ : BufTy).Contents (Elt Ideal)} {x4 : (⟨S16x256x1024, .f32⟩ : BufTy).Contents (Elt Ideal)}
  {x5 : (⟨S1x1024, .f32⟩ : BufTy).Contents (Elt Ideal)} {x6 : (⟨S1x1024x2048, .f32⟩ : BufTy).Contents (Elt Ideal)}
  {x7 : (⟨S1x256x1024, .f32⟩ : BufTy).Contents (Elt Ideal)} {x8 : (⟨S1x1024x1024, .f32⟩ : BufTy).Contents (Elt Ideal)}
  {x9 : (⟨S1x1024, .f32⟩ : BufTy).Contents (Elt Ideal)} {x10 x11 : (⟨S1x1024x1024, .f32⟩ : BufTy).Contents (Elt Ideal)}
  {x12 : (⟨S1x1024, .f32⟩ : BufTy).Contents (Elt Ideal)} {x13 : (⟨S1x1024x4, .f32⟩ : BufTy).Contents (Elt Ideal)}
  {x14 : (⟨S1x4, .f32⟩ : BufTy).Contents (Elt Ideal)} {x15 : (⟨S1x1024x32, .f32⟩ : BufTy).Contents (Elt Ideal)}
  {x16 : (⟨S1x32, .f32⟩ : BufTy).Contents (Elt Ideal)}
variable {y0 : (⟨S65536x256, .bf16⟩ : BufTy).Contents (Elt Ideal)} {y1 y2 : (⟨S65536x1024, .bf16⟩ : BufTy).Contents (Elt Ideal)}
  {y3 : (⟨S16x4096x1024, .f32⟩ : BufTy).Contents (Elt Ideal)} {y4 : (⟨S16x256x1024, .f32⟩ : BufTy).Contents (Elt Ideal)}
  {y5 : (⟨S1x1024, .f32⟩ : BufTy).Contents (Elt Ideal)} {y6 : (⟨S1x1024x2048, .f32⟩ : BufTy).Contents (Elt Ideal)}
  {y7 : (⟨S1x256x1024, .f32⟩ : BufTy).Contents (Elt Ideal)} {y8 : (⟨S1x1024x1024, .f32⟩ : BufTy).Contents (Elt Ideal)}
  {y9 : (⟨S1x1024, .f32⟩ : BufTy).Contents (Elt Ideal)} {y10 y11 : (⟨S1x1024x1024, .f32⟩ : BufTy).Contents (Elt Ideal)}
  {y12 : (⟨S1x1024, .f32⟩ : BufTy).Contents (Elt Ideal)} {y13 : (⟨S1x1024x4, .f32⟩ : BufTy).Contents (Elt Ideal)}
  {y14 : (⟨S1x4, .f32⟩ : BufTy).Contents (Elt Ideal)} {y15 : (⟨S1x1024x32, .f32⟩ : BufTy).Contents (Elt Ideal)}
  {y16 : (⟨S1x32, .f32⟩ : BufTy).Contents (Elt Ideal)}

theorem same_stream (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) : val_main_v66 (F := Ideal) y0 y1 y2 y3 y4 y5 y6 y7 y8 y9 y10 y11 = outH x0 x1 x2 x3 x4 x5 x6 x7 x8 x9 x10 x11 := by
  subst h0 h1 h2 h3 h4 h5 h6 h7 h8 h9 h10 h11; exact res_stream _ _ _ _ _ _ _ _ _ _ _ _

theorem same_normed (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) : val_main_v155 (F := Ideal) y0 y1 y2 y3 y4 y5 y6 y7 y8 y9 y10 y11 y12 = outN x0 x1 x2 x3 x4 x5 x6 x7 x8 x9 x10 x11 x12 := by
  subst h0 h1 h2 h3 h4 h5 h6 h7 h8 h9 h10 h11 h12; exact res_normed _ _ _ _ _ _ _ _ _ _ _ _ _

theorem same_route (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h14 : y14 = x14) (h15 : y15 = x15) (h16 : y16 = x16) : val_main_v153 (F := Ideal) y0 y1 y2 y3 y4 y5 y6 y7 y8 y9 y10 y11 y12 y13 y14 y15 y16 = outR x0 x1 x2 x3 x4 x5 x6 x7 x8 x9 x10 x11 x12 x13 x14 x15 x16 := by
  subst h0 h1 h2 h3 h4 h5 h6 h7 h8 h9 h10 h11 h12 h13 h14 h15 h16; exact res_route _ _ _ _ _ _ _ _ _ _ _ _ _ _ _ _ _

theorem same_turned (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h14 : y14 = x14) (h15 : y15 = x15) (h16 : y16 = x16) : val_main_v156 (F := Ideal) y0 y1 y2 y3 y4 y5 y6 y7 y8 y9 y10 y11 y12 y13 y14 y15 y16 = outT x0 x1 x2 x3 x4 x5 x6 x7 x8 x9 x10 x11 x12 x13 x14 x15 x16 := by
  subst h0 h1 h2 h3 h4 h5 h6 h7 h8 h9 h10 h11 h12 h13 h14 h15 h16; exact res_turned _ _ _ _ _ _ _ _ _ _ _ _ _ _ _ _ _
end

theorem frame_kernel : Cert.quiescent_Post := fun m ρ _ => Cert.Post.Gen.frame m ρ
theorem frame_ideal : Cert.quiescent_PostIdeal := fun m ρ _ => Cert.PostIdeal.Gen.frame m ρ
theorem frame_reference : Cert.quiescent_PostReferenceIdeal := fun m ρ _ =>
  (θ_run Cert.PostReferenceIdeal.defs _ _).mono (fun r h => ⟨fun c => (h c).2.2.2.2, Idealize.ShloMosaic.sem_eq_zero_of_no_sems (by decide) r.2⟩)
    (Cert.PostReferenceIdeal.Value.run (F := Ideal) m ρ)

/-- The pack of two bf16 columns into a word, and the store of the words through the bf16 buffer's word view. -/
theorem preserves : Cert.preserves_Post_PostIdeal :=
  ⟨IdealRules.bf16_pair.packStatement _, IdealRules.bf16_pair.statement _ _⟩

/-- The `post` call computes the reference's four results. -/
theorem algebraic : Cert.algebraic_PostIdeal_PostReferenceIdeal := by
  intro m ρ m' ρ' _ hagree
  refine ⟨fun c => outH (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)),
    fun c => outN (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)),
    fun c => outR (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13)) (m ((c.tc : Thread Cert.PostIdeal.nD Cert.PostIdeal.τ).loc Cert.PostIdeal.main_arg14)) (m ((c.tc : Thread Cert.PostIdeal.nD Cert.PostIdeal.τ).loc Cert.PostIdeal.main_arg15)) (m ((c.tc : Thread Cert.PostIdeal.nD Cert.PostIdeal.τ).loc Cert.PostIdeal.main_arg16)),
    fun c => outT (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13)) (m ((c.tc : Thread Cert.PostIdeal.nD Cert.PostIdeal.τ).loc Cert.PostIdeal.main_arg14)) (m ((c.tc : Thread Cert.PostIdeal.nD Cert.PostIdeal.τ).loc Cert.PostIdeal.main_arg15)) (m ((c.tc : Thread Cert.PostIdeal.nD Cert.PostIdeal.τ).loc Cert.PostIdeal.main_arg16)), ?_, ?_⟩
  · refine (θ_run Cert.PostIdeal.defs _ _).mono (fun _ h c => ?_) (Cert.PostIdeal.Value.run_blocks (F := Ideal) m ρ)
    obtain ⟨k0, k1, k2, k3, k⟩ := h c
    exact ⟨k0.trans (fin15 m c), k1.trans (fin16 m c), k2.trans (fin17 m c), k3.trans (fin18 m c), k⟩
  · refine (θ_run Cert.PostReferenceIdeal.defs _ _).mono (fun _ h c => ?_) (Cert.PostReferenceIdeal.Value.run (F := Ideal) m' ρ')
    obtain ⟨k0, k1, k2, k3, k⟩ := h c
    obtain ⟨h0, h1, h2, h3, h4, h5, h6, h7, h8, h9, h10, h11, h12, h13, h14, h15, h16⟩ := hagree c
    exact ⟨(k0.trans (Cert.PostReferenceIdeal.Read.val_main_v66_eq _)).trans (same_stream h0 h1 h2 h3 h4 h5 h6 h7 h8 h9 h10 h11),
      (k1.trans (Cert.PostReferenceIdeal.Read.val_main_v155_eq _)).trans (same_normed h0 h1 h2 h3 h4 h5 h6 h7 h8 h9 h10 h11 h12),
      (k2.trans (Cert.PostReferenceIdeal.Read.val_main_v153_eq _)).trans (same_route h0 h1 h2 h3 h4 h5 h6 h7 h8 h9 h10 h11 h12 h13 h14 h15 h16),
      (k3.trans (Cert.PostReferenceIdeal.Read.val_main_v156_eq _)).trans (same_turned h0 h1 h2 h3 h4 h5 h6 h7 h8 h9 h10 h11 h12 h13 h14 h15 h16), k⟩

end Cert.Post

end
-- ==== Proof.InRows.lean ====
/- What one half of a block of the input projection computes, entry by entry: the normalised row, the gate, the activations, the
   gating over a chunk of 128 positions, and the output of the second mixer. -/
module

public import proofs.«01_k».proof.Proof.Gen.InprojIdeal.Skeleton
public import proofs.«01_k».proof.Proof.PostRows

@[expose] public section

set_option backward.proofsInPublic true
set_option maxRecDepth 16384

noncomputable section

namespace Cert.Inproj

open Idealize.ShloMosaic Idealize.SL.Sem
open Cert.Post (Row Tab rms lin)
open Cert.InprojIdeal Cert.InprojIdeal.Gen

/-- Row `r` of a matrix, and the matrix as a table of rows. -/
abbrev row {m n : ℕ} (a : (⟨2, ![m, n]⟩ : Shape).Idx → EReal) (r : Fin m) : Row n := fun d => a (ix2 r d)
abbrev tab {m n : ℕ} (a : (⟨2, ![m, n]⟩ : Shape).Idx → EReal) : Tab m n := fun r d => a (ix2 r d)

/-- A choice by the order of two positions of a chunk. -/
theorem pick_causal (i s : Fin 128) (a : EReal) :
    Scalar.select (IntOp.cmpi CmpIPredicate.sge (BitVec.ofNat 32 i.val) (BitVec.ofNat 32 s.val)) a 0 = if s ≤ i then a else 0 := by
  have h : IntOp.cmpi CmpIPredicate.sge (BitVec.ofNat 32 i.val) (BitVec.ofNat 32 s.val) = if s ≤ i then 1#1 else 0#1 := by
    have e : ∀ x : Fin 128, (BitVec.ofNat 32 x.val).toInt = x.val := fun x => by
      rw [BitVec.toInt_eq_toNat_of_lt (by rw [BitVec.toNat_ofNat]; omega), BitVec.toNat_ofNat]; omega
    unfold IntOp.cmpi
    by_cases hs : s ≤ i
    · simp [BitVec.sle, e, hs]
    · simp [BitVec.sle, e, hs]
  rw [h]
  by_cases hs : s ≤ i <;> simp [hs, Scalar.select]

/-- The smooth activation, in its hyperbolic tangent form. -/
def gelu (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * (a * a))))))

/-- A row less its mean. -/
def centred (z : Row 512) : Row 512 := fun d => z d - Ideal.div (∑ e, z e) (Ideal.ofBits .f32 0x44000000#32)

/-- A row normalised to mean zero and variance one, with gain and bias. -/
def lnorm (g b z : Row 512) : Row 512 := fun d =>
  centred z d * Ideal.rsqrt (Ideal.div (∑ e, centred z e * centred z e) (Ideal.ofBits .f32 0x44000000#32) + Ideal.ofBits .f32 0x3727C5AC#32) * g d + b d

theorem pay_norm (x : Vec Ideal S512x1024 .f32) (g : Vec Ideal S1x1024 .f32) (r : Fin 512) (d : Fin 1024) :
    k0_pay1 x g (ix2 r d) = rms (row g 0) (row x r) d := by
  unfold rms row
  pointwise [k0_pay1]

theorem pay_gate (z : FVec Ideal S512x1024 .bf16) (w : Vec Ideal S1024x1024 .bf16) (b : Vec Ideal S1x1024 .f32) (r : Fin 512) (d : Fin 1024) :
    k0_pay204 z w b (ix2 r d) = Ideal.logistic (lin (row z r) (tab w) d + b (ix2 0 d)) := by
  unfold lin row tab
  pointwise [k0_pay204]

theorem pay_out (z : FVec Ideal S512x1024 .bf16) (w : Vec Ideal S1024x1024 .bf16) (b : Vec Ideal S1x1024 .f32)
    (y : Vec Ideal S512x512 .bf16) (wo : Vec Ideal S512x1024 .bf16) (r : Fin 512) (d : Fin 1024) :
    k0_pay206 (k0_pay205 z w) b y wo (ix2 r d) = Ideal.logistic (lin (row z r) (tab w) d + b (ix2 0 d)) * lin (row y r) (tab wo) d := by
  unfold lin row tab
  pointwise [k0_pay206, k0_pay205]

theorem pay_u (z : FVec Ideal S512x1024 .bf16) (w : Vec Ideal S1024x512 .bf16) (r : Fin 512) (d : Fin 512) :
    k0_pay176 (k0_pay6 z w) (ix2 r d) = gelu (lin (row z r) (tab w) d) := by
  unfold gelu lin row tab
  pointwise [k0_pay176, k0_pay6]

theorem pay_centred (z : FVec Ideal S512x1024 .bf16) (w : Vec Ideal S1024x512 .bf16) (r : Fin 512) (d : Fin 512) :
    k0_pay177 (k0_pay7 z w) (ix2 r d) = centred (fun e => gelu (lin (row z r) (tab w) e)) d := by
  unfold centred gelu lin row tab
  pointwise [k0_pay177, k0_pay7]

theorem pay_v (z : FVec Ideal S512x1024 .bf16) (w : Vec Ideal S1024x512 .bf16) (g b : Vec Ideal S1x512 .f32) (r : Fin 512) (d : Fin 512) :
    k0_pay179 (k0_pay177 (k0_pay7 z w)) (k0_pay178 (k0_pay7 z w)) g b (ix2 r d)
      = lnorm (row g 0) (row b 0) (fun e => gelu (lin (row z r) (tab w) e)) d := by
  unfold lnorm
  simp only [← pay_centred]
  unfold row
  pointwise [k0_pay179, k0_pay178]

/-- An entry of the gated activations: position `i` of chunk `c`, column `j` of group `g`. -/
def cell (U VN : FVec Ideal S512x512 .f32) (ws : Vec Ideal S1x128x128 .f32) (bs : Vec Ideal S128x1 .f32) (c g : Fin 4) (i j : Fin 128) : EReal :=
  U (ix2 ⟨128 * c.val + i.val, by omega⟩ ⟨128 * g.val + j.val, by omega⟩)
    * (∑ s : Fin 128, (if s ≤ i then ws (ix3 0 i s) else 0) * VN (ix2 ⟨128 * c.val + s.val, by omega⟩ ⟨128 * g.val + j.val, by omega⟩) + bs (ix2 i 0))

/-! ## The sixteen cells of each half: group, then chunk -/

theorem cell_000 (U zc : FVec Ideal S512x512 .f32) (v : FVec Ideal S512x1 .f32) (g b : Vec Ideal S1x512 .f32) (ws : Vec Ideal S1x128x128 .f32) (bs : Vec Ideal S128x1 .f32) (i j : Fin 128) :
    k0_pay182 U zc v g b ws bs (ix2 i j) = cell U (k0_pay179 zc v g b) ws bs 0 0 i j := by
  unfold cell
  pointwise [k0_pay182, k0_pay181, k0_pay180]
  simp only [pick_causal, ite_mul, zero_mul]

theorem cell_001 (U zc : FVec Ideal S512x512 .f32) (v : FVec Ideal S512x1 .f32) (g b : Vec Ideal S1x512 .f32) (ws : Vec Ideal S1x128x128 .f32) (bs : Vec Ideal S128x1 .f32) (i j : Fin 128) :
    k0_pay184 (k0_pay183 U zc v g b ws bs) (ix2 i j) = cell U (k0_pay179 zc v g b) ws bs 1 0 i j := by
  unfold cell
  pointwise [k0_pay184, k0_pay183, k0_pay181, k0_pay180]
  simp only [pick_causal, ite_mul, zero_mul]

theorem cell_002 (U zc : FVec Ideal S512x512 .f32) (v : FVec Ideal S512x1 .f32) (g b : Vec Ideal S1x512 .f32) (ws : Vec Ideal S1x128x128 .f32) (bs : Vec Ideal S128x1 .f32) (i j : Fin 128) :
    k0_pay185 U (k0_pay181 zc v g b ws bs) (ix2 i j) = cell U (k0_pay179 zc v g b) ws bs 2 0 i j := by
  unfold cell
  pointwise [k0_pay185, k0_pay181, k0_pay180]
  simp only [pick_causal, ite_mul, zero_mul]
  all_goals simp only [show ¬(256 + j.val < 128) by omega, show ¬(256 + j.val - 128 < 128) by omega, show 256 + j.val - 128 - 128 < 128 by omega, show j.val < 128 by omega, dite_false, dite_true,
    show 256 + j.val - 128 - 128 = j.val by omega]

theorem cell_003 (U zc : FVec Ideal S512x512 .f32) (v : FVec Ideal S512x1 .f32) (g b : Vec Ideal S1x512 .f32) (ws : Vec Ideal S1x128x128 .f32) (bs : Vec Ideal S128x1 .f32) (i j : Fin 128) :
    k0_pay186 U (k0_pay181 zc v g b ws bs) (ix2 i j) = cell U (k0_pay179 zc v g b) ws bs 3 0 i j := by
  unfold cell
  pointwise [k0_pay186, k0_pay181, k0_pay180]
  simp only [pick_causal, ite_mul, zero_mul]
  all_goals simp only [show ¬(384 + j.val < 128) by omega, show ¬(384 + j.val - 128 < 128) by omega, show ¬(384 + j.val - 128 - 128 < 128) by omega, show j.val < 128 by omega, dite_false, dite_true,
    show 384 + j.val - 128 - 128 - 128 = j.val by omega]

theorem cell_010 (U VN : FVec Ideal S512x512 .f32) (ws : Vec Ideal S1x128x128 .f32) (bs : Vec Ideal S128x1 .f32) (i j : Fin 128) :
    k0_pay188 U VN k0_pay180 ws bs (ix2 i j) = cell U VN ws bs 0 1 i j := by
  unfold cell
  pointwise [k0_pay188, k0_pay187, k0_pay180]
  simp only [pick_causal, ite_mul, zero_mul]

theorem cell_011 (U VN : FVec Ideal S512x512 .f32) (ws : Vec Ideal S1x128x128 .f32) (bs : Vec Ideal S128x1 .f32) (i j : Fin 128) :
    k0_pay190 (k0_pay187 VN k0_pay180 ws bs) (k0_pay189 U) (ix2 i j) = cell U VN ws bs 1 1 i j := by
  unfold cell
  pointwise [k0_pay190, k0_pay187, k0_pay189, k0_pay180]
  simp only [pick_causal, ite_mul, zero_mul]

theorem cell_012 (U VN : FVec Ideal S512x512 .f32) (ws : Vec Ideal S1x128x128 .f32) (bs : Vec Ideal S128x1 .f32) (i j : Fin 128) :
    k0_pay191 U (k0_pay187 VN k0_pay180 ws bs) (ix2 i j) = cell U VN ws bs 2 1 i j := by
  unfold cell
  pointwise [k0_pay191, k0_pay187, k0_pay180]
  simp only [pick_causal, ite_mul, zero_mul]
  all_goals simp only [show ¬(256 + j.val < 128) by omega, show ¬(256 + j.val - 128 < 128) by omega, show 256 + j.val - 128 - 128 < 128 by omega, show j.val < 128 by omega, dite_false, dite_true,
    show 256 + j.val - 128 - 128 = j.val by omega]

theorem cell_013 (U VN : FVec Ideal S512x512 .f32) (ws : Vec Ideal S1x128x128 .f32) (bs : Vec Ideal S128x1 .f32) (i j : Fin 128) :
    k0_pay192 U (k0_pay187 VN k0_pay180 ws bs) (ix2 i j) = cell U VN ws bs 3 1 i j := by
  unfold cell
  pointwise [k0_pay192, k0_pay187, k0_pay180]
  simp only [pick_causal, ite_mul, zero_mul]
  all_goals simp only [show ¬(384 + j.val < 128) by omega, show ¬(384 + j.val - 128 < 128) by omega, show ¬(384 + j.val - 128 - 128 < 128) by omega, show j.val < 128 by omega, dite_false, dite_true,
    show 384 + j.val - 128 - 128 - 128 = j.val by omega]

theorem cell_020 (U VN : FVec Ideal S512x512 .f32) (ws : Vec Ideal S1x128x128 .f32) (bs : Vec Ideal S128x1 .f32) (i j : Fin 128) :
    k0_pay194 U VN k0_pay180 ws bs (ix2 i j) = cell U VN ws bs 0 2 i j := by
  unfold cell
  pointwise [k0_pay194, k0_pay193, k0_pay180]
  simp only [pick_causal, ite_mul, zero_mul]

theorem cell_021 (U VN : FVec Ideal S512x512 .f32) (ws : Vec Ideal S1x128x128 .f32) (bs : Vec Ideal S128x1 .f32) (i j : Fin 128) :
    k0_pay195 U (k0_pay193 VN k0_pay180 ws bs) (ix2 i j) = cell U VN ws bs 1 2 i j := by
  unfold cell
  pointwise [k0_pay195, k0_pay193, k0_pay180]
  simp only [pick_causal, ite_mul, zero_mul]

theorem cell_022 (U VN : FVec Ideal S512x512 .f32) (ws : Vec Ideal S1x128x128 .f32) (bs : Vec Ideal S128x1 .f32) (i j : Fin 128) :
    k0_pay196 U (k0_pay193 VN k0_pay180 ws bs) (ix2 i j) = cell U VN ws bs 2 2 i j := by
  unfold cell
  pointwise [k0_pay196, k0_pay193, k0_pay180]
  simp only [pick_causal, ite_mul, zero_mul]
  all_goals simp only [show ¬(256 + j.val < 128) by omega, show ¬(256 + j.val - 128 < 128) by omega, show 256 + j.val - 128 - 128 < 128 by omega, show j.val < 128 by omega, dite_false, dite_true,
    show 256 + j.val - 128 - 128 = j.val by omega]

theorem cell_023 (U VN : FVec Ideal S512x512 .f32) (ws : Vec Ideal S1x128x128 .f32) (bs : Vec Ideal S128x1 .f32) (i j : Fin 128) :
    k0_pay197 U (k0_pay193 VN k0_pay180 ws bs) (ix2 i j) = cell U VN ws bs 3 2 i j := by
  unfold cell
  pointwise [k0_pay197, k0_pay193, k0_pay180]
  simp only [pick_causal, ite_mul, zero_mul]
  all_goals simp only [show ¬(384 + j.val < 128) by omega, show ¬(384 + j.val - 128 < 128) by omega, show ¬(384 + j.val - 128 - 128 < 128) by omega, show j.val < 128 by omega, dite_false, dite_true,
    show 384 + j.val - 128 - 128 - 128 = j.val by omega]

theorem cell_030 (U VN : FVec Ideal S512x512 .f32) (ws : Vec Ideal S1x128x128 .f32) (bs : Vec Ideal S128x1 .f32) (i j : Fin 128) :
    k0_pay200 (k0_pay199 U VN k0_pay180 ws bs) (ix2 i j) = cell U VN ws bs 0 3 i j := by
  unfold cell
  pointwise [k0_pay200, k0_pay199, k0_pay198, k0_pay180]
  simp only [pick_causal, ite_mul, zero_mul]

theorem cell_031 (U VN : FVec Ideal S512x512 .f32) (ws : Vec Ideal S1x128x128 .f32) (bs : Vec Ideal S128x1 .f32) (i j : Fin 128) :
    k0_pay201 U (k0_pay198 VN k0_pay180 ws bs) (ix2 i j) = cell U VN ws bs 1 3 i j := by
  unfold cell
  pointwise [k0_pay201, k0_pay198, k0_pay180]
  simp only [pick_causal, ite_mul, zero_mul]

theorem cell_032 (U VN : FVec Ideal S512x512 .f32) (ws : Vec Ideal S1x128x128 .f32) (bs : Vec Ideal S128x1 .f32) (i j : Fin 128) :
    k0_pay202 U (k0_pay198 VN k0_pay180 ws bs) (ix2 i j) = cell U VN ws bs 2 3 i j := by
  unfold cell
  pointwise [k0_pay202, k0_pay198, k0_pay180]
  simp only [pick_causal, ite_mul, zero_mul]
  all_goals simp only [show ¬(256 + j.val < 128) by omega, show ¬(256 + j.val - 128 < 128) by omega, show 256 + j.val - 128 - 128 < 128 by omega, show j.val < 128 by omega, dite_false, dite_true,
    show 256 + j.val - 128 - 128 = j.val by omega]

theorem cell_033 (U VN : FVec Ideal S512x512 .f32) (ws : Vec Ideal S1x128x128 .f32) (bs : Vec Ideal S128x1 .f32) (i j : Fin 128) :
    k0_pay203 U (k0_pay198 VN k0_pay180 ws bs) (ix2 i j) = cell U VN ws bs 3 3 i j := by
  unfold cell
  pointwise [k0_pay203, k0_pay198, k0_pay180]
  simp only [pick_causal, ite_mul, zero_mul]
  all_goals simp only [show ¬(384 + j.val < 128) by omega, show ¬(384 + j.val - 128 < 128) by omega, show ¬(384 + j.val - 128 - 128 < 128) by omega, show j.val < 128 by omega, dite_false, dite_true,
    show 384 + j.val - 128 - 128 - 128 = j.val by omega]

theorem cell_100 (U t h : FVec Ideal S512x512 .f32) (one : EReal) (g b : Vec Ideal S1x512 .f32) (ws : Vec Ideal S1x128x128 .f32) (bs : Vec Ideal S128x1 .f32) (i j : Fin 128) :
    k0_pay394 U (k0_pay392 t h one g b ws) bs (ix2 i j) = cell U (k0_pay390 t h one g b) ws bs 0 0 i j := by
  unfold cell
  pointwise [k0_pay394, k0_pay393, k0_pay392, k0_pay391]
  simp only [pick_causal, ite_mul, zero_mul]

theorem cell_101 (U t h : FVec Ideal S512x512 .f32) (one : EReal) (g b : Vec Ideal S1x512 .f32) (ws : Vec Ideal S1x128x128 .f32) (bs : Vec Ideal S128x1 .f32) (i j : Fin 128) :
    k0_pay395 U (k0_pay392 t h one g b ws) bs (ix2 i j) = cell U (k0_pay390 t h one g b) ws bs 1 0 i j := by
  unfold cell
  pointwise [k0_pay395, k0_pay393, k0_pay392, k0_pay391]
  simp only [pick_causal, ite_mul, zero_mul]

theorem cell_102 (U t h : FVec Ideal S512x512 .f32) (one : EReal) (g b : Vec Ideal S1x512 .f32) (ws : Vec Ideal S1x128x128 .f32) (bs : Vec Ideal S128x1 .f32) (i j : Fin 128) :
    k0_pay396 U (k0_pay392 t h one g b ws) bs (ix2 i j) = cell U (k0_pay390 t h one g b) ws bs 2 0 i j := by
  unfold cell
  pointwise [k0_pay396, k0_pay393, k0_pay392, k0_pay391]
  simp only [pick_causal, ite_mul, zero_mul]
  all_goals simp only [show ¬(256 + j.val < 128) by omega, show ¬(256 + j.val - 128 < 128) by omega, show 256 + j.val - 128 - 128 < 128 by omega, show j.val < 128 by omega, dite_false, dite_true,
    show 256 + j.val - 128 - 128 = j.val by omega]

theorem cell_103 (U t h : FVec Ideal S512x512 .f32) (one : EReal) (g b : Vec Ideal S1x512 .f32) (ws : Vec Ideal S1x128x128 .f32) (bs : Vec Ideal S128x1 .f32) (i j : Fin 128) :
    k0_pay397 U (k0_pay392 t h one g b ws) bs (ix2 i j) = cell U (k0_pay390 t h one g b) ws bs 3 0 i j := by
  unfold cell
  pointwise [k0_pay397, k0_pay393, k0_pay392, k0_pay391]
  simp only [pick_causal, ite_mul, zero_mul]
  all_goals simp only [show ¬(384 + j.val < 128) by omega, show ¬(384 + j.val - 128 < 128) by omega, show ¬(384 + j.val - 128 - 128 < 128) by omega, show j.val < 128 by omega, dite_false, dite_true,
    show 384 + j.val - 128 - 128 - 128 = j.val by omega]

theorem cell_110 (U VN : FVec Ideal S512x512 .f32) (ws : Vec Ideal S1x128x128 .f32) (bs : Vec Ideal S128x1 .f32) (i j : Fin 128) :
    k0_pay401 U (k0_pay398 k0_pay391 ws) (k0_pay399 VN) (constant S128x512 .f32 0x00000000#32) bs (ix2 i j) = cell U VN ws bs 0 1 i j := by
  unfold cell
  pointwise [k0_pay401, k0_pay400, k0_pay398, k0_pay399, k0_pay391]
  simp only [pick_causal, ite_mul, zero_mul]

theorem cell_111 (U VN : FVec Ideal S512x512 .f32) (ws : Vec Ideal S1x128x128 .f32) (bs : Vec Ideal S128x1 .f32) (i j : Fin 128) :
    k0_pay402 U (k0_pay398 k0_pay391 ws) (k0_pay399 VN) (constant S128x512 .f32 0x00000000#32) bs (ix2 i j) = cell U VN ws bs 1 1 i j := by
  unfold cell
  pointwise [k0_pay402, k0_pay400, k0_pay398, k0_pay399, k0_pay391]
  simp only [pick_causal, ite_mul, zero_mul]

theorem cell_112 (U VN : FVec Ideal S512x512 .f32) (ws : Vec Ideal S1x128x128 .f32) (bs : Vec Ideal S128x1 .f32) (i j : Fin 128) :
    k0_pay403 U (k0_pay398 k0_pay391 ws) (k0_pay399 VN) (constant S128x512 .f32 0x00000000#32) bs (ix2 i j) = cell U VN ws bs 2 1 i j := by
  unfold cell
  pointwise [k0_pay403, k0_pay400, k0_pay398, k0_pay399, k0_pay391]
  simp only [pick_causal, ite_mul, zero_mul]
  all_goals simp only [show ¬(256 + j.val < 128) by omega, show ¬(256 + j.val - 128 < 128) by omega, show 256 + j.val - 128 - 128 < 128 by omega, show j.val < 128 by omega, dite_false, dite_true,
    show 256 + j.val - 128 - 128 = j.val by omega]

theorem cell_113 (U VN : FVec Ideal S512x512 .f32) (ws : Vec Ideal S1x128x128 .f32) (bs : Vec Ideal S128x1 .f32) (i j : Fin 128) :
    k0_pay404 U (k0_pay398 k0_pay391 ws) (k0_pay399 VN) (constant S128x512 .f32 0x00000000#32) bs (ix2 i j) = cell U VN ws bs 3 1 i j := by
  unfold cell
  pointwise [k0_pay404, k0_pay400, k0_pay398, k0_pay399, k0_pay391]
  simp only [pick_causal, ite_mul, zero_mul]
  all_goals simp only [show ¬(384 + j.val < 128) by omega, show ¬(384 + j.val - 128 < 128) by omega, show ¬(384 + j.val - 128 - 128 < 128) by omega, show j.val < 128 by omega, dite_false, dite_true,
    show 384 + j.val - 128 - 128 - 128 = j.val by omega]

theorem cell_120 (U VN : FVec Ideal S512x512 .f32) (ws : Vec Ideal S1x128x128 .f32) (bs : Vec Ideal S128x1 .f32) (i j : Fin 128) :
    k0_pay411 U (k0_pay405 k0_pay391 ws) (k0_pay406 VN) (k0_pay407 VN) (k0_pay408 VN) (k0_pay409 VN) bs (ix2 i j) = cell U VN ws bs 0 2 i j := by
  unfold cell
  pointwise [k0_pay411, k0_pay410, k0_pay405, k0_pay406, k0_pay407, k0_pay408, k0_pay409, k0_pay391]
  simp only [pick_causal, ite_mul, zero_mul]

theorem cell_121 (U VN : FVec Ideal S512x512 .f32) (ws : Vec Ideal S1x128x128 .f32) (bs : Vec Ideal S128x1 .f32) (i j : Fin 128) :
    k0_pay412 U (k0_pay405 k0_pay391 ws) (k0_pay406 VN) (k0_pay407 VN) (k0_pay408 VN) (k0_pay409 VN) bs (ix2 i j) = cell U VN ws bs 1 2 i j := by
  unfold cell
  pointwise [k0_pay412, k0_pay410, k0_pay405, k0_pay406, k0_pay407, k0_pay408, k0_pay409, k0_pay391]
  simp only [pick_causal, ite_mul, zero_mul]

theorem cell_122 (U VN : FVec Ideal S512x512 .f32) (ws : Vec Ideal S1x128x128 .f32) (bs : Vec Ideal S128x1 .f32) (i j : Fin 128) :
    k0_pay413 U (k0_pay405 k0_pay391 ws) (k0_pay406 VN) (k0_pay407 VN) (k0_pay408 VN) (k0_pay409 VN) bs (ix2 i j) = cell U VN ws bs 2 2 i j := by
  unfold cell
  pointwise [k0_pay413, k0_pay410, k0_pay405, k0_pay406, k0_pay407, k0_pay408, k0_pay409, k0_pay391]
  simp only [pick_causal, ite_mul, zero_mul]
  all_goals simp only [show ¬(256 + j.val < 128) by omega, show ¬(256 + j.val - 128 < 128) by omega, show 256 + j.val - 128 - 128 < 128 by omega, show j.val < 128 by omega, dite_false, dite_true,
    show 256 + j.val - 128 - 128 = j.val by omega]

theorem cell_123 (U VN : FVec Ideal S512x512 .f32) (ws : Vec Ideal S1x128x128 .f32) (bs : Vec Ideal S128x1 .f32) (i j : Fin 128) :
    k0_pay414 U (k0_pay405 k0_pay391 ws) (k0_pay406 VN) (k0_pay407 VN) (k0_pay408 VN) (k0_pay409 VN) bs (ix2 i j) = cell U VN ws bs 3 2 i j := by
  unfold cell
  pointwise [k0_pay414, k0_pay410, k0_pay405, k0_pay406, k0_pay407, k0_pay408, k0_pay409, k0_pay391]
  simp only [pick_causal, ite_mul, zero_mul]
  all_goals simp only [show ¬(384 + j.val < 128) by omega, show ¬(384 + j.val - 128 < 128) by omega, show ¬(384 + j.val - 128 - 128 < 128) by omega, show j.val < 128 by omega, dite_false, dite_true,
    show 384 + j.val - 128 - 128 - 128 = j.val by omega]

theorem cell_130 (U VN : FVec Ideal S512x512 .f32) (ws : Vec Ideal S1x128x128 .f32) (bs : Vec Ideal S128x1 .f32) (i j : Fin 128) :
    k0_pay419 U VN (k0_pay415 k0_pay391 ws) (k0_pay416 VN) (k0_pay417 VN) bs (ix2 i j) = cell U VN ws bs 0 3 i j := by
  unfold cell
  pointwise [k0_pay419, k0_pay418, k0_pay415, k0_pay416, k0_pay417, k0_pay391]
  simp only [pick_causal, ite_mul, zero_mul]

theorem cell_131 (U VN : FVec Ideal S512x512 .f32) (ws : Vec Ideal S1x128x128 .f32) (bs : Vec Ideal S128x1 .f32) (i j : Fin 128) :
    k0_pay420 U VN (k0_pay415 k0_pay391 ws) (k0_pay416 VN) (k0_pay417 VN) bs (ix2 i j) = cell U VN ws bs 1 3 i j := by
  unfold cell
  pointwise [k0_pay420, k0_pay418, k0_pay415, k0_pay416, k0_pay417, k0_pay391]
  simp only [pick_causal, ite_mul, zero_mul]

theorem cell_132 (U VN : FVec Ideal S512x512 .f32) (ws : Vec Ideal S1x128x128 .f32) (bs : Vec Ideal S128x1 .f32) (i j : Fin 128) :
    k0_pay421 U VN (k0_pay415 k0_pay391 ws) (k0_pay416 VN) (k0_pay417 VN) bs (ix2 i j) = cell U VN ws bs 2 3 i j := by
  unfold cell
  pointwise [k0_pay421, k0_pay418, k0_pay415, k0_pay416, k0_pay417, k0_pay391]
  simp only [pick_causal, ite_mul, zero_mul]
  all_goals simp only [show ¬(256 + j.val < 128) by omega, show ¬(256 + j.val - 128 < 128) by omega, show 256 + j.val - 128 - 128 < 128 by omega, show j.val < 128 by omega, dite_false, dite_true,
    show 256 + j.val - 128 - 128 = j.val by omega]

theorem cell_133 (U VN : FVec Ideal S512x512 .f32) (ws : Vec Ideal S1x128x128 .f32) (bs : Vec Ideal S128x1 .f32) (i j : Fin 128) :
    k0_pay422 U VN (k0_pay415 k0_pay391 ws) (k0_pay416 VN) (k0_pay417 VN) bs (ix2 i j) = cell U VN ws bs 3 3 i j := by
  unfold cell
  pointwise [k0_pay422, k0_pay418, k0_pay415, k0_pay416, k0_pay417, k0_pay391]
  simp only [pick_causal, ite_mul, zero_mul]
  all_goals simp only [show ¬(384 + j.val < 128) by omega, show ¬(384 + j.val - 128 < 128) by omega, show ¬(384 + j.val - 128 - 128 < 128) by omega, show j.val < 128 by omega, dite_false, dite_true,
    show 384 + j.val - 128 - 128 - 128 = j.val by omega]

/-! ## The second half is the first -/

theorem norm_second (x : Vec Ideal S512x1024 .f32) (g : Vec Ideal S1x1024 .f32) : k0_pay207 x g = k0_pay1 x g := rfl
theorem u_second (z : FVec Ideal S512x1024 .bf16) (w : Vec Ideal S1024x512 .bf16) : k0_pay388 (k0_pay214 z w) = k0_pay176 (k0_pay6 z w) := rfl
theorem v_second (z : FVec Ideal S512x1024 .bf16) (w : Vec Ideal S1024x512 .bf16) (g b : Vec Ideal S1x512 .f32) :
    k0_pay390 (k0_pay215 z w) (k0_pay389 (k0_pay215 z w)) (Scalar.ofBits .f32 0x3F800000#32) g b
      = k0_pay179 (k0_pay177 (k0_pay7 z w)) (k0_pay178 (k0_pay7 z w)) g b := rfl
theorem gate_second (z : FVec Ideal S512x1024 .bf16) (w : Vec Ideal S1024x1024 .bf16) (b : Vec Ideal S1x1024 .f32) :
    k0_pay424 (k0_pay423 z w) b = k0_pay204 z w b := rfl
theorem out_second (z : FVec Ideal S512x1024 .bf16) (w : Vec Ideal S1024x1024 .bf16) (b : Vec Ideal S1x1024 .f32)
    (y : Vec Ideal S512x512 .bf16) (wo : Vec Ideal S512x1024 .bf16) : k0_pay425 z w b y wo = k0_pay206 (k0_pay205 z w) b y wo := rfl

end Cert.Inproj
-- ==== Proof.InCells.lean ====
/- The gated activations of one half: sixteen square blocks stored side by side and read back together. -/
module

public import proofs.«01_k».proof.Proof.InRows
public import Idealize.ShloMosaic.Lib.Pipeline.ValueKit
public import Idealize.ShloMosaic.Lib.Pipeline.ReadBack

@[expose] public section

set_option backward.proofsInPublic true
set_option maxRecDepth 16384

noncomputable section

namespace Cert.Inproj

open Idealize.ShloMosaic Idealize.SL.Sem
open Cert.Post (Row Tab rms lin)
open Cert.InprojIdeal Cert.InprojIdeal.Gen

/-- Position `i` of chunk `c`. -/
def at4 (c : Fin 4) (i : Fin 128) : Fin 512 := ⟨128 * c.val + i.val, by omega⟩

/-- Sixteen blocks of 128 by 128 in rows `o` to `o + 511`, read back together. -/
theorem cells_read (o q0 q1 q2 q3 : ℕ) (hq0 : q0 = o) (hq1 : q1 = o + 128) (hq2 : q2 = o + 256) (hq3 : q3 = o + 384) (G : Fin 512 → Fin 512 → EReal)
    (i00 : ∀ a, (![q0, 0] : Fin 2 → ℕ) a + (![128, 128] : Fin 2 → ℕ) a ≤ S1024x512.size a)
    (i01 : ∀ a, (![q1, 0] : Fin 2 → ℕ) a + (![128, 128] : Fin 2 → ℕ) a ≤ S1024x512.size a)
    (i02 : ∀ a, (![q2, 0] : Fin 2 → ℕ) a + (![128, 128] : Fin 2 → ℕ) a ≤ S1024x512.size a)
    (i03 : ∀ a, (![q3, 0] : Fin 2 → ℕ) a + (![128, 128] : Fin 2 → ℕ) a ≤ S1024x512.size a)
    (i10 : ∀ a, (![q0, 128] : Fin 2 → ℕ) a + (![128, 128] : Fin 2 → ℕ) a ≤ S1024x512.size a)
    (i11 : ∀ a, (![q1, 128] : Fin 2 → ℕ) a + (![128, 128] : Fin 2 → ℕ) a ≤ S1024x512.size a)
    (i12 : ∀ a, (![q2, 128] : Fin 2 → ℕ) a + (![128, 128] : Fin 2 → ℕ) a ≤ S1024x512.size a)
    (i13 : ∀ a, (![q3, 128] : Fin 2 → ℕ) a + (![128, 128] : Fin 2 → ℕ) a ≤ S1024x512.size a)
    (i20 : ∀ a, (![q0, 256] : Fin 2 → ℕ) a + (![128, 128] : Fin 2 → ℕ) a ≤ S1024x512.size a)
    (i21 : ∀ a, (![q1, 256] : Fin 2 → ℕ) a + (![128, 128] : Fin 2 → ℕ) a ≤ S1024x512.size a)
    (i22 : ∀ a, (![q2, 256] : Fin 2 → ℕ) a + (![128, 128] : Fin 2 → ℕ) a ≤ S1024x512.size a)
    (i23 : ∀ a, (![q3, 256] : Fin 2 → ℕ) a + (![128, 128] : Fin 2 → ℕ) a ≤ S1024x512.size a)
    (i30 : ∀ a, (![q0, 384] : Fin 2 → ℕ) a + (![128, 128] : Fin 2 → ℕ) a ≤ S1024x512.size a)
    (i31 : ∀ a, (![q1, 384] : Fin 2 → ℕ) a + (![128, 128] : Fin 2 → ℕ) a ≤ S1024x512.size a)
    (i32 : ∀ a, (![q2, 384] : Fin 2 → ℕ) a + (![128, 128] : Fin 2 → ℕ) a ≤ S1024x512.size a)
    (i33 : ∀ a, (![q3, 384] : Fin 2 → ℕ) a + (![128, 128] : Fin 2 → ℕ) a ≤ S1024x512.size a)
    (iB : ∀ a, (![o, 0] : Fin 2 → ℕ) a + (![512, 512] : Fin 2 → ℕ) a ≤ S1024x512.size a)
    (w00 w01 w02 w03 w10 w11 w12 w13 w20 w21 w22 w23 w30 w31 w32 w33 : Vec Ideal S128x128 .bf16) (L : List (View.Piece (Elt Ideal) S1024x512 .bf16))
    (h00 : ∀ i j : Fin 128, w00 (ix2 i j) = G (at4 0 i) (at4 0 j))
    (h01 : ∀ i j : Fin 128, w01 (ix2 i j) = G (at4 1 i) (at4 0 j))
    (h02 : ∀ i j : Fin 128, w02 (ix2 i j) = G (at4 2 i) (at4 0 j))
    (h03 : ∀ i j : Fin 128, w03 (ix2 i j) = G (at4 3 i) (at4 0 j))
    (h10 : ∀ i j : Fin 128, w10 (ix2 i j) = G (at4 0 i) (at4 1 j))
    (h11 : ∀ i j : Fin 128, w11 (ix2 i j) = G (at4 1 i) (at4 1 j))
    (h12 : ∀ i j : Fin 128, w12 (ix2 i j) = G (at4 2 i) (at4 1 j))
    (h13 : ∀ i j : Fin 128, w13 (ix2 i j) = G (at4 3 i) (at4 1 j))
    (h20 : ∀ i j : Fin 128, w20 (ix2 i j) = G (at4 0 i) (at4 2 j))
    (h21 : ∀ i j : Fin 128, w21 (ix2 i j) = G (at4 1 i) (at4 2 j))
    (h22 : ∀ i j : Fin 128, w22 (ix2 i j) = G (at4 2 i) (at4 2 j))
    (h23 : ∀ i j : Fin 128, w23 (ix2 i j) = G (at4 3 i) (at4 2 j))
    (h30 : ∀ i j : Fin 128, w30 (ix2 i j) = G (at4 0 i) (at4 3 j))
    (h31 : ∀ i j : Fin 128, w31 (ix2 i j) = G (at4 1 i) (at4 3 j))
    (h32 : ∀ i j : Fin 128, w32 (ix2 i j) = G (at4 2 i) (at4 3 j))
    (h33 : ∀ i j : Fin 128, w33 (ix2 i j) = G (at4 3 i) (at4 3 j)) :
    (View.whole cc0_scratch1).readCov (Val := Elt Ideal)
        (List.cons (α := View.Piece (Elt Ideal) S1024x512 .bf16) (⟨Rect.unit (s := S1024x512) ![q3, 384] ![128, 128] i33, w33⟩ : View.Piece (Elt Ideal) S1024x512 .bf16)
          (List.cons (α := View.Piece (Elt Ideal) S1024x512 .bf16) (⟨Rect.unit (s := S1024x512) ![q2, 384] ![128, 128] i32, w32⟩ : View.Piece (Elt Ideal) S1024x512 .bf16)
          (List.cons (α := View.Piece (Elt Ideal) S1024x512 .bf16) (⟨Rect.unit (s := S1024x512) ![q1, 384] ![128, 128] i31, w31⟩ : View.Piece (Elt Ideal) S1024x512 .bf16)
          (List.cons (α := View.Piece (Elt Ideal) S1024x512 .bf16) (⟨Rect.unit (s := S1024x512) ![q0, 384] ![128, 128] i30, w30⟩ : View.Piece (Elt Ideal) S1024x512 .bf16)
          (List.cons (α := View.Piece (Elt Ideal) S1024x512 .bf16) (⟨Rect.unit (s := S1024x512) ![q3, 256] ![128, 128] i23, w23⟩ : View.Piece (Elt Ideal) S1024x512 .bf16)
          (List.cons (α := View.Piece (Elt Ideal) S1024x512 .bf16) (⟨Rect.unit (s := S1024x512) ![q2, 256] ![128, 128] i22, w22⟩ : View.Piece (Elt Ideal) S1024x512 .bf16)
          (List.cons (α := View.Piece (Elt Ideal) S1024x512 .bf16) (⟨Rect.unit (s := S1024x512) ![q1, 256] ![128, 128] i21, w21⟩ : View.Piece (Elt Ideal) S1024x512 .bf16)
          (List.cons (α := View.Piece (Elt Ideal) S1024x512 .bf16) (⟨Rect.unit (s := S1024x512) ![q0, 256] ![128, 128] i20, w20⟩ : View.Piece (Elt Ideal) S1024x512 .bf16)
          (List.cons (α := View.Piece (Elt Ideal) S1024x512 .bf16) (⟨Rect.unit (s := S1024x512) ![q3, 128] ![128, 128] i13, w13⟩ : View.Piece (Elt Ideal) S1024x512 .bf16)
          (List.cons (α := View.Piece (Elt Ideal) S1024x512 .bf16) (⟨Rect.unit (s := S1024x512) ![q2, 128] ![128, 128] i12, w12⟩ : View.Piece (Elt Ideal) S1024x512 .bf16)
          (List.cons (α := View.Piece (Elt Ideal) S1024x512 .bf16) (⟨Rect.unit (s := S1024x512) ![q1, 128] ![128, 128] i11, w11⟩ : View.Piece (Elt Ideal) S1024x512 .bf16)
          (List.cons (α := View.Piece (Elt Ideal) S1024x512 .bf16) (⟨Rect.unit (s := S1024x512) ![q0, 128] ![128, 128] i10, w10⟩ : View.Piece (Elt Ideal) S1024x512 .bf16)
          (List.cons (α := View.Piece (Elt Ideal) S1024x512 .bf16) (⟨Rect.unit (s := S1024x512) ![q3, 0] ![128, 128] i03, w03⟩ : View.Piece (Elt Ideal) S1024x512 .bf16)
          (List.cons (α := View.Piece (Elt Ideal) S1024x512 .bf16) (⟨Rect.unit (s := S1024x512) ![q2, 0] ![128, 128] i02, w02⟩ : View.Piece (Elt Ideal) S1024x512 .bf16)
          (List.cons (α := View.Piece (Elt Ideal) S1024x512 .bf16) (⟨Rect.unit (s := S1024x512) ![q1, 0] ![128, 128] i01, w01⟩ : View.Piece (Elt Ideal) S1024x512 .bf16)
          (List.cons (α := View.Piece (Elt Ideal) S1024x512 .bf16) (⟨Rect.unit (s := S1024x512) ![q0, 0] ![128, 128] i00, w00⟩ : View.Piece (Elt Ideal) S1024x512 .bf16) L))))))))))))))))
        (Rect.unit (s := S1024x512) ![o, 0] ![512, 512] iB).toLoadRect
      = fun j : S512x512.Idx => G (j 0) (j 1) := by
  rw [View.readCov_eq_canon']
  funext j
  have hj0 : (j 0).val < 512 := (j 0).isLt
  have hj1 : (j 1).val < 512 := (j 1).isLt
  let GG : S1024x512.Idx → EReal := fun y => if h : (y 0).val - o < 512 then G ⟨(y 0).val - o, h⟩ (y 1) else 0
  have piece : ∀ (g c : Fin 4) (w : Vec Ideal S128x128 .bf16)
      (hw : ∀ i j : Fin 128, w (ix2 i j) = G (at4 c i) (at4 g j)) (q p : ℕ) (hq : q = o + 128 * c.val) (hp : p = 128 * g.val)
      (i : ∀ a, (![q, p] : Fin 2 → ℕ) a + (![128, 128] : Fin 2 → ℕ) a ≤ S1024x512.size a)
      (x : (Rect.unit (s := S1024x512) ![q, p] ![128, 128] i).shape.Idx), w x = GG ((Rect.unit (s := S1024x512) ![q, p] ![128, 128] i).emb x) := by
    intro g c w hw q p hq hp i x
    have hx0 : (x 0).val < 128 := (x 0).isLt
    have hx1 : (x 1).val < 128 := (x 1).isLt
    have ex : x = ix2 (⟨(x 0).val, hx0⟩ : Fin 128) (⟨(x 1).val, hx1⟩ : Fin 128) := by funext a; fin_cases a <;> rfl
    have e0 : (((Rect.unit (s := S1024x512) ![q, p] ![128, 128] i).emb x) 0).val = q + 1 * (x 0).val := rfl
    have e1 : (((Rect.unit (s := S1024x512) ![q, p] ![128, 128] i).emb x) 1).val = p + 1 * (x 1).val := rfl
    show w x = dite _ _ _
    rw [dif_pos (by rw [e0]; omega)]
    refine (congrArg w ex).trans ((hw _ _).trans (congr (congrArg G (Fin.ext ?_)) (Fin.ext ?_)))
    · show 128 * c.val + (x 0).val = _ - o; rw [e0]; omega
    · show 128 * g.val + (x 1).val = _; rw [e1]; omega
  have key := View.canon_append_of_piecesOf (Val := Elt Ideal) (s := S1024x512) (e := .bf16) GG L
    (List.cons (α := View.Piece (Elt Ideal) S1024x512 .bf16) (⟨Rect.unit (s := S1024x512) ![q3, 384] ![128, 128] i33, w33⟩ : View.Piece (Elt Ideal) S1024x512 .bf16)
          (List.cons (α := View.Piece (Elt Ideal) S1024x512 .bf16) (⟨Rect.unit (s := S1024x512) ![q2, 384] ![128, 128] i32, w32⟩ : View.Piece (Elt Ideal) S1024x512 .bf16)
          (List.cons (α := View.Piece (Elt Ideal) S1024x512 .bf16) (⟨Rect.unit (s := S1024x512) ![q1, 384] ![128, 128] i31, w31⟩ : View.Piece (Elt Ideal) S1024x512 .bf16)
          (List.cons (α := View.Piece (Elt Ideal) S1024x512 .bf16) (⟨Rect.unit (s := S1024x512) ![q0, 384] ![128, 128] i30, w30⟩ : View.Piece (Elt Ideal) S1024x512 .bf16)
          (List.cons (α := View.Piece (Elt Ideal) S1024x512 .bf16) (⟨Rect.unit (s := S1024x512) ![q3, 256] ![128, 128] i23, w23⟩ : View.Piece (Elt Ideal) S1024x512 .bf16)
          (List.cons (α := View.Piece (Elt Ideal) S1024x512 .bf16) (⟨Rect.unit (s := S1024x512) ![q2, 256] ![128, 128] i22, w22⟩ : View.Piece (Elt Ideal) S1024x512 .bf16)
          (List.cons (α := View.Piece (Elt Ideal) S1024x512 .bf16) (⟨Rect.unit (s := S1024x512) ![q1, 256] ![128, 128] i21, w21⟩ : View.Piece (Elt Ideal) S1024x512 .bf16)
          (List.cons (α := View.Piece (Elt Ideal) S1024x512 .bf16) (⟨Rect.unit (s := S1024x512) ![q0, 256] ![128, 128] i20, w20⟩ : View.Piece (Elt Ideal) S1024x512 .bf16)
          (List.cons (α := View.Piece (Elt Ideal) S1024x512 .bf16) (⟨Rect.unit (s := S1024x512) ![q3, 128] ![128, 128] i13, w13⟩ : View.Piece (Elt Ideal) S1024x512 .bf16)
          (List.cons (α := View.Piece (Elt Ideal) S1024x512 .bf16) (⟨Rect.unit (s := S1024x512) ![q2, 128] ![128, 128] i12, w12⟩ : View.Piece (Elt Ideal) S1024x512 .bf16)
          (List.cons (α := View.Piece (Elt Ideal) S1024x512 .bf16) (⟨Rect.unit (s := S1024x512) ![q1, 128] ![128, 128] i11, w11⟩ : View.Piece (Elt Ideal) S1024x512 .bf16)
          (List.cons (α := View.Piece (Elt Ideal) S1024x512 .bf16) (⟨Rect.unit (s := S1024x512) ![q0, 128] ![128, 128] i10, w10⟩ : View.Piece (Elt Ideal) S1024x512 .bf16)
          (List.cons (α := View.Piece (Elt Ideal) S1024x512 .bf16) (⟨Rect.unit (s := S1024x512) ![q3, 0] ![128, 128] i03, w03⟩ : View.Piece (Elt Ideal) S1024x512 .bf16)
          (List.cons (α := View.Piece (Elt Ideal) S1024x512 .bf16) (⟨Rect.unit (s := S1024x512) ![q2, 0] ![128, 128] i02, w02⟩ : View.Piece (Elt Ideal) S1024x512 .bf16)
          (List.cons (α := View.Piece (Elt Ideal) S1024x512 .bf16) (⟨Rect.unit (s := S1024x512) ![q1, 0] ![128, 128] i01, w01⟩ : View.Piece (Elt Ideal) S1024x512 .bf16)
          (List.cons (α := View.Piece (Elt Ideal) S1024x512 .bf16) (⟨Rect.unit (s := S1024x512) ![q0, 0] ![128, 128] i00, w00⟩ : View.Piece (Elt Ideal) S1024x512 .bf16) []))))))))))))))))
    ⟨piece 3 3 w33 h33 q3 384 hq3 rfl i33,
      piece 3 2 w32 h32 q2 384 hq2 rfl i32,
      piece 3 1 w31 h31 q1 384 hq1 rfl i31,
      piece 3 0 w30 h30 q0 384 hq0 rfl i30,
      piece 2 3 w23 h23 q3 256 hq3 rfl i23,
      piece 2 2 w22 h22 q2 256 hq2 rfl i22,
      piece 2 1 w21 h21 q1 256 hq1 rfl i21,
      piece 2 0 w20 h20 q0 256 hq0 rfl i20,
      piece 1 3 w13 h13 q3 128 hq3 rfl i13,
      piece 1 2 w12 h12 q2 128 hq2 rfl i12,
      piece 1 1 w11 h11 q1 128 hq1 rfl i11,
      piece 1 0 w10 h10 q0 128 hq0 rfl i10,
      piece 0 3 w03 h03 q3 0 hq3 rfl i03,
      piece 0 2 w02 h02 q2 0 hq2 rfl i02,
      piece 0 1 w01 h01 q1 0 hq1 rfl i01,
      piece 0 0 w00 h00 q0 0 hq0 rfl i00, trivial⟩
    ((Rect.unit (s := S1024x512) ![o, 0] ![512, 512] iB).toLoadRect.idx j) ?_
  · refine key.trans ?_
    have e0 : ((Rect.unit (s := S1024x512) ![o, 0] ![512, 512] iB).toLoadRect.idx j 0).val = o + 1 * (j 0).val := rfl
    have e1 : ((Rect.unit (s := S1024x512) ![o, 0] ![512, 512] iB).toLoadRect.idx j 1).val = 0 + 1 * (j 1).val := rfl
    show dite _ _ _ = _
    rw [dif_pos (by rw [e0]; omega)]
    refine congr (congrArg G (Fin.ext ?_)) (Fin.ext ?_)
    · show _ - o = (j 0).val; rw [e0]; omega
    · rw [e1]; omega
  · have mem : ∀ (q p : ℕ) (i : ∀ a, (![q, p] : Fin 2 → ℕ) a + (![128, 128] : Fin 2 → ℕ) a ≤ S1024x512.size a)
        (hq : q ≤ o + (j 0).val) (hq' : o + (j 0).val < q + 128) (hp : p ≤ (j 1).val) (hp' : (j 1).val < p + 128),
        (Rect.unit (s := S1024x512) ![o, 0] ![512, 512] iB).toLoadRect.idx j ∈ (Rect.unit (s := S1024x512) ![q, p] ![128, 128] i).set := by
      intro q p i hq hq' hp hp'
      rw [Rect.mem_set_unit]
      intro a
      fin_cases a
      · show q ≤ o + 1 * (j 0).val ∧ o + 1 * (j 0).val < q + 128; omega
      · show p ≤ 0 + 1 * (j 1).val ∧ 0 + 1 * (j 1).val < p + 128; omega
    have c0 : (0 ≤ (j 0).val ∧ (j 0).val < 128) ∨ (128 ≤ (j 0).val ∧ (j 0).val < 256) ∨ (256 ≤ (j 0).val ∧ (j 0).val < 384) ∨ (384 ≤ (j 0).val ∧ (j 0).val < 512) := by omega
    have c1 : (0 ≤ (j 1).val ∧ (j 1).val < 128) ∨ (128 ≤ (j 1).val ∧ (j 1).val < 256) ∨ (256 ≤ (j 1).val ∧ (j 1).val < 384) ∨ (384 ≤ (j 1).val ∧ (j 1).val < 512) := by omega
    clear piece h00 h01 h02 h03 h10 h11 h12 h13 h20 h21 h22 h23 h30 h31 h32 h33
    rcases c0 with c0 | c0 | c0 | c0 <;> rcases c1 with c1 | c1 | c1 | c1
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem q0 0 i00 (by omega) (by omega) c1.1 c1.2⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem q0 128 i10 (by omega) (by omega) c1.1 c1.2⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem q0 256 i20 (by omega) (by omega) c1.1 c1.2⟩
    · exact ⟨_, (List.mem_cons_of_mem _ (List.mem_cons_of_mem _ (List.mem_cons_of_mem _ List.mem_cons_self))), mem q0 384 i30 (by omega) (by omega) c1.1 c1.2⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem q1 0 i01 (by omega) (by omega) c1.1 c1.2⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem q1 128 i11 (by omega) (by omega) c1.1 c1.2⟩
    · exact ⟨_, (List.mem_cons_of_mem _ (List.mem_cons_of_mem _ (List.mem_cons_of_mem _ (List.mem_cons_of_mem _ (List.mem_cons_of_mem _ (List.mem_cons_of_mem _ List.mem_cons_self)))))), mem q1 256 i21 (by omega) (by omega) c1.1 c1.2⟩
    · exact ⟨_, (List.mem_cons_of_mem _ (List.mem_cons_of_mem _ List.mem_cons_self)), mem q1 384 i31 (by omega) (by omega) c1.1 c1.2⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem q2 0 i02 (by omega) (by omega) c1.1 c1.2⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem q2 128 i12 (by omega) (by omega) c1.1 c1.2⟩
    · exact ⟨_, (List.mem_cons_of_mem _ (List.mem_cons_of_mem _ (List.mem_cons_of_mem _ (List.mem_cons_of_mem _ (List.mem_cons_of_mem _ List.mem_cons_self))))), mem q2 256 i22 (by omega) (by omega) c1.1 c1.2⟩
    · exact ⟨_, (List.mem_cons_of_mem _ List.mem_cons_self), mem q2 384 i32 (by omega) (by omega) c1.1 c1.2⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem q3 0 i03 (by omega) (by omega) c1.1 c1.2⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem q3 128 i13 (by omega) (by omega) c1.1 c1.2⟩
    · exact ⟨_, (List.mem_cons_of_mem _ (List.mem_cons_of_mem _ (List.mem_cons_of_mem _ (List.mem_cons_of_mem _ List.mem_cons_self)))), mem q3 256 i23 (by omega) (by omega) c1.1 c1.2⟩
    · exact ⟨_, List.mem_cons_self, mem q3 384 i33 (by omega) (by omega) c1.1 c1.2⟩

/-- The gated activations of a half, from the activations `U`, the normalised `VN`, and each group's weights and biases. -/
def gated (U VN : FVec Ideal S512x512 .f32) (ws : Fin 4 → Vec Ideal S1x128x128 .f32) (bs : Fin 4 → Vec Ideal S128x1 .f32) (r d : Fin 512) : EReal :=
  cell U VN (ws ⟨d.val / 128, by omega⟩) (bs ⟨d.val / 128, by omega⟩) ⟨r.val / 128, by omega⟩ ⟨d.val / 128, by omega⟩ ⟨r.val % 128, by omega⟩ ⟨d.val % 128, by omega⟩

theorem gated_at (U VN : FVec Ideal S512x512 .f32) (ws : Fin 4 → Vec Ideal S1x128x128 .f32) (bs : Fin 4 → Vec Ideal S128x1 .f32) (c g : Fin 4) (i j : Fin 128)
    (r d : Fin 512) (hr : r.val = 128 * c.val + i.val) (hd : d.val = 128 * g.val + j.val) : gated U VN ws bs r d = cell U VN (ws g) (bs g) c g i j := by
  unfold gated
  rw [show (⟨d.val / 128, by omega⟩ : Fin 4) = g from Fin.ext (by show d.val / 128 = g.val; omega),
    show (⟨r.val / 128, by omega⟩ : Fin 4) = c from Fin.ext (by show r.val / 128 = c.val; omega),
    show (⟨r.val % 128, by omega⟩ : Fin 128) = i from Fin.ext (by show r.val % 128 = i.val; omega),
    show (⟨d.val % 128, by omega⟩ : Fin 128) = j from Fin.ext (by show d.val % 128 = j.val; omega)]

theorem cells_first (U zc : FVec Ideal S512x512 .f32) (v : FVec Ideal S512x1 .f32) (g b : Vec Ideal S1x512 .f32)
    (ws0 ws1 ws2 ws3 : Vec Ideal S1x128x128 .f32) (bs0 bs1 bs2 bs3 : Vec Ideal S128x1 .f32)
    (i00 : ∀ a, (![0, 0] : Fin 2 → ℕ) a + (![128, 128] : Fin 2 → ℕ) a ≤ S1024x512.size a)
    (i01 : ∀ a, (![128, 0] : Fin 2 → ℕ) a + (![128, 128] : Fin 2 → ℕ) a ≤ S1024x512.size a)
    (i02 : ∀ a, (![256, 0] : Fin 2 → ℕ) a + (![128, 128] : Fin 2 → ℕ) a ≤ S1024x512.size a)
    (i03 : ∀ a, (![384, 0] : Fin 2 → ℕ) a + (![128, 128] : Fin 2 → ℕ) a ≤ S1024x512.size a)
    (i10 : ∀ a, (![0, 128] : Fin 2 → ℕ) a + (![128, 128] : Fin 2 → ℕ) a ≤ S1024x512.size a)
    (i11 : ∀ a, (![128, 128] : Fin 2 → ℕ) a + (![128, 128] : Fin 2 → ℕ) a ≤ S1024x512.size a)
    (i12 : ∀ a, (![256, 128] : Fin 2 → ℕ) a + (![128, 128] : Fin 2 → ℕ) a ≤ S1024x512.size a)
    (i13 : ∀ a, (![384, 128] : Fin 2 → ℕ) a + (![128, 128] : Fin 2 → ℕ) a ≤ S1024x512.size a)
    (i20 : ∀ a, (![0, 256] : Fin 2 → ℕ) a + (![128, 128] : Fin 2 → ℕ) a ≤ S1024x512.size a)
    (i21 : ∀ a, (![128, 256] : Fin 2 → ℕ) a + (![128, 128] : Fin 2 → ℕ) a ≤ S1024x512.size a)
    (i22 : ∀ a, (![256, 256] : Fin 2 → ℕ) a + (![128, 128] : Fin 2 → ℕ) a ≤ S1024x512.size a)
    (i23 : ∀ a, (![384, 256] : Fin 2 → ℕ) a + (![128, 128] : Fin 2 → ℕ) a ≤ S1024x512.size a)
    (i30 : ∀ a, (![0, 384] : Fin 2 → ℕ) a + (![128, 128] : Fin 2 → ℕ) a ≤ S1024x512.size a)
    (i31 : ∀ a, (![128, 384] : Fin 2 → ℕ) a + (![128, 128] : Fin 2 → ℕ) a ≤ S1024x512.size a)
    (i32 : ∀ a, (![256, 384] : Fin 2 → ℕ) a + (![128, 128] : Fin 2 → ℕ) a ≤ S1024x512.size a)
    (i33 : ∀ a, (![384, 384] : Fin 2 → ℕ) a + (![128, 128] : Fin 2 → ℕ) a ≤ S1024x512.size a)
    (iB : ∀ a, (![0, 0] : Fin 2 → ℕ) a + (![512, 512] : Fin 2 → ℕ) a ≤ S1024x512.size a) :
    (View.whole cc0_scratch1).readCov (Val := Elt Ideal)
        (List.cons (α := View.Piece (Elt Ideal) S1024x512 .bf16) (⟨Rect.unit (s := S1024x512) ![384, 384] ![128, 128] i33, k0_pay203 U (k0_pay198 (k0_pay179 zc v g b) k0_pay180 ws3 bs3)⟩ : View.Piece (Elt Ideal) S1024x512 .bf16)
          (List.cons (α := View.Piece (Elt Ideal) S1024x512 .bf16) (⟨Rect.unit (s := S1024x512) ![256, 384] ![128, 128] i32, k0_pay202 U (k0_pay198 (k0_pay179 zc v g b) k0_pay180 ws3 bs3)⟩ : View.Piece (Elt Ideal) S1024x512 .bf16)
          (List.cons (α := View.Piece (Elt Ideal) S1024x512 .bf16) (⟨Rect.unit (s := S1024x512) ![128, 384] ![128, 128] i31, k0_pay201 U (k0_pay198 (k0_pay179 zc v g b) k0_pay180 ws3 bs3)⟩ : View.Piece (Elt Ideal) S1024x512 .bf16)
          (List.cons (α := View.Piece (Elt Ideal) S1024x512 .bf16) (⟨Rect.unit (s := S1024x512) ![0, 384] ![128, 128] i30, k0_pay200 (k0_pay199 U (k0_pay179 zc v g b) k0_pay180 ws3 bs3)⟩ : View.Piece (Elt Ideal) S1024x512 .bf16)
          (List.cons (α := View.Piece (Elt Ideal) S1024x512 .bf16) (⟨Rect.unit (s := S1024x512) ![384, 256] ![128, 128] i23, k0_pay197 U (k0_pay193 (k0_pay179 zc v g b) k0_pay180 ws2 bs2)⟩ : View.Piece (Elt Ideal) S1024x512 .bf16)
          (List.cons (α := View.Piece (Elt Ideal) S1024x512 .bf16) (⟨Rect.unit (s := S1024x512) ![256, 256] ![128, 128] i22, k0_pay196 U (k0_pay193 (k0_pay179 zc v g b) k0_pay180 ws2 bs2)⟩ : View.Piece (Elt Ideal) S1024x512 .bf16)
          (List.cons (α := View.Piece (Elt Ideal) S1024x512 .bf16) (⟨Rect.unit (s := S1024x512) ![128, 256] ![128, 128] i21, k0_pay195 U (k0_pay193 (k0_pay179 zc v g b) k0_pay180 ws2 bs2)⟩ : View.Piece (Elt Ideal) S1024x512 .bf16)
          (List.cons (α := View.Piece (Elt Ideal) S1024x512 .bf16) (⟨Rect.unit (s := S1024x512) ![0, 256] ![128, 128] i20, k0_pay194 U (k0_pay179 zc v g b) k0_pay180 ws2 bs2⟩ : View.Piece (Elt Ideal) S1024x512 .bf16)
          (List.cons (α := View.Piece (Elt Ideal) S1024x512 .bf16) (⟨Rect.unit (s := S1024x512) ![384, 128] ![128, 128] i13, k0_pay192 U (k0_pay187 (k0_pay179 zc v g b) k0_pay180 ws1 bs1)⟩ : View.Piece (Elt Ideal) S1024x512 .bf16)
          (List.cons (α := View.Piece (Elt Ideal) S1024x512 .bf16) (⟨Rect.unit (s := S1024x512) ![256, 128] ![128, 128] i12, k0_pay191 U (k0_pay187 (k0_pay179 zc v g b) k0_pay180 ws1 bs1)⟩ : View.Piece (Elt Ideal) S1024x512 .bf16)
          (List.cons (α := View.Piece (Elt Ideal) S1024x512 .bf16) (⟨Rect.unit (s := S1024x512) ![128, 128] ![128, 128] i11, k0_pay190 (k0_pay187 (k0_pay179 zc v g b) k0_pay180 ws1 bs1) (k0_pay189 U)⟩ : View.Piece (Elt Ideal) S1024x512 .bf16)
          (List.cons (α := View.Piece (Elt Ideal) S1024x512 .bf16) (⟨Rect.unit (s := S1024x512) ![0, 128] ![128, 128] i10, k0_pay188 U (k0_pay179 zc v g b) k0_pay180 ws1 bs1⟩ : View.Piece (Elt Ideal) S1024x512 .bf16)
          (List.cons (α := View.Piece (Elt Ideal) S1024x512 .bf16) (⟨Rect.unit (s := S1024x512) ![384, 0] ![128, 128] i03, k0_pay186 U (k0_pay181 zc v g b ws0 bs0)⟩ : View.Piece (Elt Ideal) S1024x512 .bf16)
          (List.cons (α := View.Piece (Elt Ideal) S1024x512 .bf16) (⟨Rect.unit (s := S1024x512) ![256, 0] ![128, 128] i02, k0_pay185 U (k0_pay181 zc v g b ws0 bs0)⟩ : View.Piece (Elt Ideal) S1024x512 .bf16)
          (List.cons (α := View.Piece (Elt Ideal) S1024x512 .bf16) (⟨Rect.unit (s := S1024x512) ![128, 0] ![128, 128] i01, k0_pay184 (k0_pay183 U zc v g b ws0 bs0)⟩ : View.Piece (Elt Ideal) S1024x512 .bf16)
          (List.cons (α := View.Piece (Elt Ideal) S1024x512 .bf16) (⟨Rect.unit (s := S1024x512) ![0, 0] ![128, 128] i00, k0_pay182 U zc v g b ws0 bs0⟩ : View.Piece (Elt Ideal) S1024x512 .bf16) []))))))))))))))))
        (Rect.unit (s := S1024x512) ![0, 0] ![512, 512] iB).toLoadRect
      = fun j : S512x512.Idx => gated U (k0_pay179 zc v g b) ![ws0, ws1, ws2, ws3] ![bs0, bs1, bs2, bs3] (j 0) (j 1) :=
  cells_read 0 0 128 256 384 rfl rfl rfl rfl (gated U (k0_pay179 zc v g b) ![ws0, ws1, ws2, ws3] ![bs0, bs1, bs2, bs3])
    i00 i01 i02 i03 i10 i11 i12 i13 i20 i21 i22 i23 i30 i31 i32 i33 iB
    _ _ _ _ _ _ _ _ _ _ _ _ _ _ _ _ []
    (fun i j => (cell_000 U zc v g b ws0 bs0 i j).trans (gated_at U (k0_pay179 zc v g b) ![ws0, ws1, ws2, ws3] ![bs0, bs1, bs2, bs3] 0 0 i j _ _ rfl rfl).symm)
    (fun i j => (cell_001 U zc v g b ws0 bs0 i j).trans (gated_at U (k0_pay179 zc v g b) ![ws0, ws1, ws2, ws3] ![bs0, bs1, bs2, bs3] 1 0 i j _ _ rfl rfl).symm)
    (fun i j => (cell_002 U zc v g b ws0 bs0 i j).trans (gated_at U (k0_pay179 zc v g b) ![ws0, ws1, ws2, ws3] ![bs0, bs1, bs2, bs3] 2 0 i j _ _ rfl rfl).symm)
    (fun i j => (cell_003 U zc v g b ws0 bs0 i j).trans (gated_at U (k0_pay179 zc v g b) ![ws0, ws1, ws2, ws3] ![bs0, bs1, bs2, bs3] 3 0 i j _ _ rfl rfl).symm)
    (fun i j => (cell_010 U (k0_pay179 zc v g b) ws1 bs1 i j).trans (gated_at U (k0_pay179 zc v g b) ![ws0, ws1, ws2, ws3] ![bs0, bs1, bs2, bs3] 0 1 i j _ _ rfl rfl).symm)
    (fun i j => (cell_011 U (k0_pay179 zc v g b) ws1 bs1 i j).trans (gated_at U (k0_pay179 zc v g b) ![ws0, ws1, ws2, ws3] ![bs0, bs1, bs2, bs3] 1 1 i j _ _ rfl rfl).symm)
    (fun i j => (cell_012 U (k0_pay179 zc v g b) ws1 bs1 i j).trans (gated_at U (k0_pay179 zc v g b) ![ws0, ws1, ws2, ws3] ![bs0, bs1, bs2, bs3] 2 1 i j _ _ rfl rfl).symm)
    (fun i j => (cell_013 U (k0_pay179 zc v g b) ws1 bs1 i j).trans (gated_at U (k0_pay179 zc v g b) ![ws0, ws1, ws2, ws3] ![bs0, bs1, bs2, bs3] 3 1 i j _ _ rfl rfl).symm)
    (fun i j => (cell_020 U (k0_pay179 zc v g b) ws2 bs2 i j).trans (gated_at U (k0_pay179 zc v g b) ![ws0, ws1, ws2, ws3] ![bs0, bs1, bs2, bs3] 0 2 i j _ _ rfl rfl).symm)
    (fun i j => (cell_021 U (k0_pay179 zc v g b) ws2 bs2 i j).trans (gated_at U (k0_pay179 zc v g b) ![ws0, ws1, ws2, ws3] ![bs0, bs1, bs2, bs3] 1 2 i j _ _ rfl rfl).symm)
    (fun i j => (cell_022 U (k0_pay179 zc v g b) ws2 bs2 i j).trans (gated_at U (k0_pay179 zc v g b) ![ws0, ws1, ws2, ws3] ![bs0, bs1, bs2, bs3] 2 2 i j _ _ rfl rfl).symm)
    (fun i j => (cell_023 U (k0_pay179 zc v g b) ws2 bs2 i j).trans (gated_at U (k0_pay179 zc v g b) ![ws0, ws1, ws2, ws3] ![bs0, bs1, bs2, bs3] 3 2 i j _ _ rfl rfl).symm)
    (fun i j => (cell_030 U (k0_pay179 zc v g b) ws3 bs3 i j).trans (gated_at U (k0_pay179 zc v g b) ![ws0, ws1, ws2, ws3] ![bs0, bs1, bs2, bs3] 0 3 i j _ _ rfl rfl).symm)
    (fun i j => (cell_031 U (k0_pay179 zc v g b) ws3 bs3 i j).trans (gated_at U (k0_pay179 zc v g b) ![ws0, ws1, ws2, ws3] ![bs0, bs1, bs2, bs3] 1 3 i j _ _ rfl rfl).symm)
    (fun i j => (cell_032 U (k0_pay179 zc v g b) ws3 bs3 i j).trans (gated_at U (k0_pay179 zc v g b) ![ws0, ws1, ws2, ws3] ![bs0, bs1, bs2, bs3] 2 3 i j _ _ rfl rfl).symm)
    (fun i j => (cell_033 U (k0_pay179 zc v g b) ws3 bs3 i j).trans (gated_at U (k0_pay179 zc v g b) ![ws0, ws1, ws2, ws3] ![bs0, bs1, bs2, bs3] 3 3 i j _ _ rfl rfl).symm)

theorem cells_second (U t h : FVec Ideal S512x512 .f32) (one : EReal) (g b : Vec Ideal S1x512 .f32)
    (ws0 ws1 ws2 ws3 : Vec Ideal S1x128x128 .f32) (bs0 bs1 bs2 bs3 : Vec Ideal S128x1 .f32)
    (i00 : ∀ a, (![512, 0] : Fin 2 → ℕ) a + (![128, 128] : Fin 2 → ℕ) a ≤ S1024x512.size a)
    (i01 : ∀ a, (![640, 0] : Fin 2 → ℕ) a + (![128, 128] : Fin 2 → ℕ) a ≤ S1024x512.size a)
    (i02 : ∀ a, (![768, 0] : Fin 2 → ℕ) a + (![128, 128] : Fin 2 → ℕ) a ≤ S1024x512.size a)
    (i03 : ∀ a, (![896, 0] : Fin 2 → ℕ) a + (![128, 128] : Fin 2 → ℕ) a ≤ S1024x512.size a)
    (i10 : ∀ a, (![512, 128] : Fin 2 → ℕ) a + (![128, 128] : Fin 2 → ℕ) a ≤ S1024x512.size a)
    (i11 : ∀ a, (![640, 128] : Fin 2 → ℕ) a + (![128, 128] : Fin 2 → ℕ) a ≤ S1024x512.size a)
    (i12 : ∀ a, (![768, 128] : Fin 2 → ℕ) a + (![128, 128] : Fin 2 → ℕ) a ≤ S1024x512.size a)
    (i13 : ∀ a, (![896, 128] : Fin 2 → ℕ) a + (![128, 128] : Fin 2 → ℕ) a ≤ S1024x512.size a)
    (i20 : ∀ a, (![512, 256] : Fin 2 → ℕ) a + (![128, 128] : Fin 2 → ℕ) a ≤ S1024x512.size a)
    (i21 : ∀ a, (![640, 256] : Fin 2 → ℕ) a + (![128, 128] : Fin 2 → ℕ) a ≤ S1024x512.size a)
    (i22 : ∀ a, (![768, 256] : Fin 2 → ℕ) a + (![128, 128] : Fin 2 → ℕ) a ≤ S1024x512.size a)
    (i23 : ∀ a, (![896, 256] : Fin 2 → ℕ) a + (![128, 128] : Fin 2 → ℕ) a ≤ S1024x512.size a)
    (i30 : ∀ a, (![512, 384] : Fin 2 → ℕ) a + (![128, 128] : Fin 2 → ℕ) a ≤ S1024x512.size a)
    (i31 : ∀ a, (![640, 384] : Fin 2 → ℕ) a + (![128, 128] : Fin 2 → ℕ) a ≤ S1024x512.size a)
    (i32 : ∀ a, (![768, 384] : Fin 2 → ℕ) a + (![128, 128] : Fin 2 → ℕ) a ≤ S1024x512.size a)
    (i33 : ∀ a, (![896, 384] : Fin 2 → ℕ) a + (![128, 128] : Fin 2 → ℕ) a ≤ S1024x512.size a)
    (iB : ∀ a, (![512, 0] : Fin 2 → ℕ) a + (![512, 512] : Fin 2 → ℕ) a ≤ S1024x512.size a) (L : List (View.Piece (Elt Ideal) S1024x512 .bf16)) :
    (View.whole cc0_scratch1).readCov (Val := Elt Ideal)
        (List.cons (α := View.Piece (Elt Ideal) S1024x512 .bf16) (⟨Rect.unit (s := S1024x512) ![896, 384] ![128, 128] i33, k0_pay422 U (k0_pay390 t h one g b) (k0_pay415 k0_pay391 ws3) (k0_pay416 (k0_pay390 t h one g b)) (k0_pay417 (k0_pay390 t h one g b)) bs3⟩ : View.Piece (Elt Ideal) S1024x512 .bf16)
          (List.cons (α := View.Piece (Elt Ideal) S1024x512 .bf16) (⟨Rect.unit (s := S1024x512) ![768, 384] ![128, 128] i32, k0_pay421 U (k0_pay390 t h one g b) (k0_pay415 k0_pay391 ws3) (k0_pay416 (k0_pay390 t h one g b)) (k0_pay417 (k0_pay390 t h one g b)) bs3⟩ : View.Piece (Elt Ideal) S1024x512 .bf16)
          (List.cons (α := View.Piece (Elt Ideal) S1024x512 .bf16) (⟨Rect.unit (s := S1024x512) ![640, 384] ![128, 128] i31, k0_pay420 U (k0_pay390 t h one g b) (k0_pay415 k0_pay391 ws3) (k0_pay416 (k0_pay390 t h one g b)) (k0_pay417 (k0_pay390 t h one g b)) bs3⟩ : View.Piece (Elt Ideal) S1024x512 .bf16)
          (List.cons (α := View.Piece (Elt Ideal) S1024x512 .bf16) (⟨Rect.unit (s := S1024x512) ![512, 384] ![128, 128] i30, k0_pay419 U (k0_pay390 t h one g b) (k0_pay415 k0_pay391 ws3) (k0_pay416 (k0_pay390 t h one g b)) (k0_pay417 (k0_pay390 t h one g b)) bs3⟩ : View.Piece (Elt Ideal) S1024x512 .bf16)
          (List.cons (α := View.Piece (Elt Ideal) S1024x512 .bf16) (⟨Rect.unit (s := S1024x512) ![896, 256] ![128, 128] i23, k0_pay414 U (k0_pay405 k0_pay391 ws2) (k0_pay406 (k0_pay390 t h one g b)) (k0_pay407 (k0_pay390 t h one g b)) (k0_pay408 (k0_pay390 t h one g b)) (k0_pay409 (k0_pay390 t h one g b)) bs2⟩ : View.Piece (Elt Ideal) S1024x512 .bf16)
          (List.cons (α := View.Piece (Elt Ideal) S1024x512 .bf16) (⟨Rect.unit (s := S1024x512) ![768, 256] ![128, 128] i22, k0_pay413 U (k0_pay405 k0_pay391 ws2) (k0_pay406 (k0_pay390 t h one g b)) (k0_pay407 (k0_pay390 t h one g b)) (k0_pay408 (k0_pay390 t h one g b)) (k0_pay409 (k0_pay390 t h one g b)) bs2⟩ : View.Piece (Elt Ideal) S1024x512 .bf16)
          (List.cons (α := View.Piece (Elt Ideal) S1024x512 .bf16) (⟨Rect.unit (s := S1024x512) ![640, 256] ![128, 128] i21, k0_pay412 U (k0_pay405 k0_pay391 ws2) (k0_pay406 (k0_pay390 t h one g b)) (k0_pay407 (k0_pay390 t h one g b)) (k0_pay408 (k0_pay390 t h one g b)) (k0_pay409 (k0_pay390 t h one g b)) bs2⟩ : View.Piece (Elt Ideal) S1024x512 .bf16)
          (List.cons (α := View.Piece (Elt Ideal) S1024x512 .bf16) (⟨Rect.unit (s := S1024x512) ![512, 256] ![128, 128] i20, k0_pay411 U (k0_pay405 k0_pay391 ws2) (k0_pay406 (k0_pay390 t h one g b)) (k0_pay407 (k0_pay390 t h one g b)) (k0_pay408 (k0_pay390 t h one g b)) (k0_pay409 (k0_pay390 t h one g b)) bs2⟩ : View.Piece (Elt Ideal) S1024x512 .bf16)
          (List.cons (α := View.Piece (Elt Ideal) S1024x512 .bf16) (⟨Rect.unit (s := S1024x512) ![896, 128] ![128, 128] i13, k0_pay404 U (k0_pay398 k0_pay391 ws1) (k0_pay399 (k0_pay390 t h one g b)) (constant S128x512 .f32 0x00000000#32) bs1⟩ : View.Piece (Elt Ideal) S1024x512 .bf16)
          (List.cons (α := View.Piece (Elt Ideal) S1024x512 .bf16) (⟨Rect.unit (s := S1024x512) ![768, 128] ![128, 128] i12, k0_pay403 U (k0_pay398 k0_pay391 ws1) (k0_pay399 (k0_pay390 t h one g b)) (constant S128x512 .f32 0x00000000#32) bs1⟩ : View.Piece (Elt Ideal) S1024x512 .bf16)
          (List.cons (α := View.Piece (Elt Ideal) S1024x512 .bf16) (⟨Rect.unit (s := S1024x512) ![640, 128] ![128, 128] i11, k0_pay402 U (k0_pay398 k0_pay391 ws1) (k0_pay399 (k0_pay390 t h one g b)) (constant S128x512 .f32 0x00000000#32) bs1⟩ : View.Piece (Elt Ideal) S1024x512 .bf16)
          (List.cons (α := View.Piece (Elt Ideal) S1024x512 .bf16) (⟨Rect.unit (s := S1024x512) ![512, 128] ![128, 128] i10, k0_pay401 U (k0_pay398 k0_pay391 ws1) (k0_pay399 (k0_pay390 t h one g b)) (constant S128x512 .f32 0x00000000#32) bs1⟩ : View.Piece (Elt Ideal) S1024x512 .bf16)
          (List.cons (α := View.Piece (Elt Ideal) S1024x512 .bf16) (⟨Rect.unit (s := S1024x512) ![896, 0] ![128, 128] i03, k0_pay397 U (k0_pay392 t h one g b ws0) bs0⟩ : View.Piece (Elt Ideal) S1024x512 .bf16)
          (List.cons (α := View.Piece (Elt Ideal) S1024x512 .bf16) (⟨Rect.unit (s := S1024x512) ![768, 0] ![128, 128] i02, k0_pay396 U (k0_pay392 t h one g b ws0) bs0⟩ : View.Piece (Elt Ideal) S1024x512 .bf16)
          (List.cons (α := View.Piece (Elt Ideal) S1024x512 .bf16) (⟨Rect.unit (s := S1024x512) ![640, 0] ![128, 128] i01, k0_pay395 U (k0_pay392 t h one g b ws0) bs0⟩ : View.Piece (Elt Ideal) S1024x512 .bf16)
          (List.cons (α := View.Piece (Elt Ideal) S1024x512 .bf16) (⟨Rect.unit (s := S1024x512) ![512, 0] ![128, 128] i00, k0_pay394 U (k0_pay392 t h one g b ws0) bs0⟩ : View.Piece (Elt Ideal) S1024x512 .bf16) L))))))))))))))))
        (Rect.unit (s := S1024x512) ![512, 0] ![512, 512] iB).toLoadRect
      = fun j : S512x512.Idx => gated U (k0_pay390 t h one g b) ![ws0, ws1, ws2, ws3] ![bs0, bs1, bs2, bs3] (j 0) (j 1) :=
  cells_read 512 512 640 768 896 rfl rfl rfl rfl (gated U (k0_pay390 t h one g b) ![ws0, ws1, ws2, ws3] ![bs0, bs1, bs2, bs3])
    i00 i01 i02 i03 i10 i11 i12 i13 i20 i21 i22 i23 i30 i31 i32 i33 iB
    _ _ _ _ _ _ _ _ _ _ _ _ _ _ _ _ L
    (fun i j => (cell_100 U t h one g b ws0 bs0 i j).trans (gated_at U (k0_pay390 t h one g b) ![ws0, ws1, ws2, ws3] ![bs0, bs1, bs2, bs3] 0 0 i j _ _ rfl rfl).symm)
    (fun i j => (cell_101 U t h one g b ws0 bs0 i j).trans (gated_at U (k0_pay390 t h one g b) ![ws0, ws1, ws2, ws3] ![bs0, bs1, bs2, bs3] 1 0 i j _ _ rfl rfl).symm)
    (fun i j => (cell_102 U t h one g b ws0 bs0 i j).trans (gated_at U (k0_pay390 t h one g b) ![ws0, ws1, ws2, ws3] ![bs0, bs1, bs2, bs3] 2 0 i j _ _ rfl rfl).symm)
    (fun i j => (cell_103 U t h one g b ws0 bs0 i j).trans (gated_at U (k0_pay390 t h one g b) ![ws0, ws1, ws2, ws3] ![bs0, bs1, bs2, bs3] 3 0 i j _ _ rfl rfl).symm)
    (fun i j => (cell_110 U (k0_pay390 t h one g b) ws1 bs1 i j).trans (gated_at U (k0_pay390 t h one g b) ![ws0, ws1, ws2, ws3] ![bs0, bs1, bs2, bs3] 0 1 i j _ _ rfl rfl).symm)
    (fun i j => (cell_111 U (k0_pay390 t h one g b) ws1 bs1 i j).trans (gated_at U (k0_pay390 t h one g b) ![ws0, ws1, ws2, ws3] ![bs0, bs1, bs2, bs3] 1 1 i j _ _ rfl rfl).symm)
    (fun i j => (cell_112 U (k0_pay390 t h one g b) ws1 bs1 i j).trans (gated_at U (k0_pay390 t h one g b) ![ws0, ws1, ws2, ws3] ![bs0, bs1, bs2, bs3] 2 1 i j _ _ rfl rfl).symm)
    (fun i j => (cell_113 U (k0_pay390 t h one g b) ws1 bs1 i j).trans (gated_at U (k0_pay390 t h one g b) ![ws0, ws1, ws2, ws3] ![bs0, bs1, bs2, bs3] 3 1 i j _ _ rfl rfl).symm)
    (fun i j => (cell_120 U (k0_pay390 t h one g b) ws2 bs2 i j).trans (gated_at U (k0_pay390 t h one g b) ![ws0, ws1, ws2, ws3] ![bs0, bs1, bs2, bs3] 0 2 i j _ _ rfl rfl).symm)
    (fun i j => (cell_121 U (k0_pay390 t h one g b) ws2 bs2 i j).trans (gated_at U (k0_pay390 t h one g b) ![ws0, ws1, ws2, ws3] ![bs0, bs1, bs2, bs3] 1 2 i j _ _ rfl rfl).symm)
    (fun i j => (cell_122 U (k0_pay390 t h one g b) ws2 bs2 i j).trans (gated_at U (k0_pay390 t h one g b) ![ws0, ws1, ws2, ws3] ![bs0, bs1, bs2, bs3] 2 2 i j _ _ rfl rfl).symm)
    (fun i j => (cell_123 U (k0_pay390 t h one g b) ws2 bs2 i j).trans (gated_at U (k0_pay390 t h one g b) ![ws0, ws1, ws2, ws3] ![bs0, bs1, bs2, bs3] 3 2 i j _ _ rfl rfl).symm)
    (fun i j => (cell_130 U (k0_pay390 t h one g b) ws3 bs3 i j).trans (gated_at U (k0_pay390 t h one g b) ![ws0, ws1, ws2, ws3] ![bs0, bs1, bs2, bs3] 0 3 i j _ _ rfl rfl).symm)
    (fun i j => (cell_131 U (k0_pay390 t h one g b) ws3 bs3 i j).trans (gated_at U (k0_pay390 t h one g b) ![ws0, ws1, ws2, ws3] ![bs0, bs1, bs2, bs3] 1 3 i j _ _ rfl rfl).symm)
    (fun i j => (cell_132 U (k0_pay390 t h one g b) ws3 bs3 i j).trans (gated_at U (k0_pay390 t h one g b) ![ws0, ws1, ws2, ws3] ![bs0, bs1, bs2, bs3] 2 3 i j _ _ rfl rfl).symm)
    (fun i j => (cell_133 U (k0_pay390 t h one g b) ws3 bs3 i j).trans (gated_at U (k0_pay390 t h one g b) ![ws0, ws1, ws2, ws3] ![bs0, bs1, bs2, bs3] 3 3 i j _ _ rfl rfl).symm)

end Cert.Inproj
-- ==== Proof.InHalf.lean ====
/- What a half of a block of the input projection computes, from the block's own arrays. -/
module

public import proofs.«01_k».proof.Proof.InCells

@[expose] public section

set_option backward.proofsInPublic true
set_option maxRecDepth 16384

noncomputable section

namespace Cert.Inproj

open Idealize.ShloMosaic Idealize.SL.Sem
open Cert.Post (Row Tab rms lin)
open Cert.InprojIdeal Cert.InprojIdeal.Gen

/-- The `n` columns of the projection from column `o`. -/
def cols {n : ℕ} (W : Tab 1024 5376) (o : ℕ) (h : o + n ≤ 5376) : Tab 1024 n := fun e d => W e ⟨o + d.val, by omega⟩

/-- A gate's row. -/
def gate (z : Row 1024) (W : Tab 1024 1024) (b : Row 1024) : Row 1024 := fun d => Ideal.logistic (lin z W d + b d)

/-- The gated activations of a table of normalised rows, in chunks of 128 positions: `W` and `B` are the weights and biases of a group. -/
def gatedSpec {n : ℕ} (hn : n % 128 = 0) (U V : Tab n 512) (W : Fin 4 → Tab 128 128) (B : Tab 128 4) : Tab n 512 := fun r d =>
  U r d * (∑ s : Fin 128, (if s ≤ (⟨r.val % 128, by omega⟩ : Fin 128) then W ⟨d.val / 128, by omega⟩ ⟨r.val % 128, by omega⟩ s else 0)
      * V ⟨128 * (r.val / 128) + s.val, by omega⟩ d + B ⟨r.val % 128, by omega⟩ ⟨d.val / 128, by omega⟩)

theorem ld_row {m n k : ℕ} (X : (⟨2, ![m, n]⟩ : Shape).Idx → EReal) (o : ℕ) (inb : ∀ a, (![o, 0] : Fin 2 → ℕ) a + (![k, n] : Fin 2 → ℕ) a ≤ (⟨2, ![m, n]⟩ : Shape).size a)
    (r : Fin k) (R : Fin m) (hR : R.val = o + r.val) :
    row (fun j => X ((Rect.unit (s := ⟨2, ![m, n]⟩) ![o, 0] ![k, n] inb).idx j)) r = row X R := by
  funext i
  show X _ = X _
  refine congrArg X (funext fun a => Fin.ext ?_)
  match a with
  | ⟨0, _⟩ => show o + 1 * r.val = R.val; omega
  | ⟨1, _⟩ => show 0 + 1 * i.val = i.val; omega

theorem ld_cols {n : ℕ} (W : Vec Ideal S1024x5376 .bf16) (o : ℕ) (h : o + n ≤ 5376)
    (inb : ∀ a, (![0, o] : Fin 2 → ℕ) a + (![1024, n] : Fin 2 → ℕ) a ≤ S1024x5376.size a) :
    tab (m := 1024) (n := n) (fun j => W ((Rect.unit (s := S1024x5376) ![0, o] ![1024, n] inb).idx j)) = cols (tab W) o h := by
  funext e d
  show W _ = W _
  refine congrArg W (funext fun a => Fin.ext ?_)
  match a with
  | ⟨0, _⟩ => show 0 + 1 * e.val = e.val; omega
  | ⟨1, _⟩ => show o + 1 * d.val = o + d.val; omega

theorem row_norm (x : Vec Ideal S512x1024 .f32) (g : Vec Ideal S1x1024 .f32) (r : Fin 512) : row (k0_pay1 x g) r = rms (row g 0) (row x r) :=
  funext fun d => pay_norm x g r d

section
variable (X : Vec Ideal S1024x1024 .f32) (G : Vec Ideal S1x1024 .f32) (W : Vec Ideal S1024x5376 .bf16) (B : Vec Ideal S1x2048 .f32)

/-- The normalised row `r` of the block. -/
abbrev zrow (r : Fin 1024) : Row 1024 := rms (row G 0) (row X r)

theorem gate_half (o : ℕ) (iX : ∀ a, (![o, 0] : Fin 2 → ℕ) a + (![512, 1024] : Fin 2 → ℕ) a ≤ S1024x1024.size a)
    (iW : ∀ a, (![0, 3328] : Fin 2 → ℕ) a + (![1024, 1024] : Fin 2 → ℕ) a ≤ S1024x5376.size a)
    (iB : ∀ a, (![0, 0] : Fin 2 → ℕ) a + (![1, 1024] : Fin 2 → ℕ) a ≤ S1x2048.size a)
    (r : Fin 512) (R : Fin 1024) (hR : R.val = o + r.val) (d : Fin 1024) :
    k0_pay204 (k0_pay1 (View.ld X (Rect.unit (s := S1024x1024) ![o, 0] ![512, 1024] iX)) G)
        (View.ld W (Rect.unit (s := S1024x5376) ![0, 3328] ![1024, 1024] iW)) (View.ld B (Rect.unit (s := S1x2048) ![0, 0] ![1, 1024] iB)) (ix2 r d)
      = gate (zrow X G R) (cols (tab W) 3328 (by omega)) (fun d => B (ix2 0 ⟨d.val, by omega⟩)) d := by
  refine (pay_gate _ _ _ r d).trans ?_
  rw [row_norm]
  unfold View.ld
  have a0 := ld_row X o iX r R hR
  have a1 := ld_cols W 3328 (by omega) iW
  rw [a0, a1]
  unfold gate zrow
  refine congrArg Ideal.logistic (congrArg (_ + ·) (congrArg B (funext fun a => Fin.ext ?_)))
  match a with
  | ⟨0, _⟩ => rfl
  | ⟨1, _⟩ => show 0 + 1 * d.val = d.val; omega

theorem out_half (o : ℕ) (iX : ∀ a, (![o, 0] : Fin 2 → ℕ) a + (![512, 1024] : Fin 2 → ℕ) a ≤ S1024x1024.size a)
    (iW : ∀ a, (![0, 4352] : Fin 2 → ℕ) a + (![1024, 1024] : Fin 2 → ℕ) a ≤ S1024x5376.size a)
    (iB : ∀ a, (![0, 1024] : Fin 2 → ℕ) a + (![1, 1024] : Fin 2 → ℕ) a ≤ S1x2048.size a)
    (y : Vec Ideal S512x512 .bf16) (wo : Vec Ideal S512x1024 .bf16)
    (r : Fin 512) (R : Fin 1024) (hR : R.val = o + r.val) (d : Fin 1024) :
    k0_pay206 (k0_pay205 (k0_pay1 (View.ld X (Rect.unit (s := S1024x1024) ![o, 0] ![512, 1024] iX)) G)
        (View.ld W (Rect.unit (s := S1024x5376) ![0, 4352] ![1024, 1024] iW))) (View.ld B (Rect.unit (s := S1x2048) ![0, 1024] ![1, 1024] iB)) y wo (ix2 r d)
      = gate (zrow X G R) (cols (tab W) 4352 (by omega)) (fun d => B (ix2 0 ⟨1024 + d.val, by omega⟩)) d * lin (row y r) (tab wo) d := by
  refine (pay_out _ _ _ _ _ r d).trans ?_
  rw [row_norm]
  unfold View.ld
  have a0 := ld_row X o iX r R hR
  have a1 := ld_cols W 4352 (by omega) iW
  rw [a0, a1]
  unfold gate zrow
  refine congrArg (· * _) (congrArg Ideal.logistic (congrArg (_ + ·) (congrArg B (funext fun a => Fin.ext ?_))))
  match a with
  | ⟨0, _⟩ => rfl
  | ⟨1, _⟩ => show 1024 + 1 * d.val = 1024 + d.val; omega

theorem u_half (o : ℕ) (iX : ∀ a, (![o, 0] : Fin 2 → ℕ) a + (![512, 1024] : Fin 2 → ℕ) a ≤ S1024x1024.size a)
    (iW : ∀ a, (![0, 2304] : Fin 2 → ℕ) a + (![1024, 512] : Fin 2 → ℕ) a ≤ S1024x5376.size a)
    (r : Fin 512) (R : Fin 1024) (hR : R.val = o + r.val) (d : Fin 512) :
    k0_pay176 (k0_pay6 (k0_pay1 (View.ld X (Rect.unit (s := S1024x1024) ![o, 0] ![512, 1024] iX)) G)
        (View.ld W (Rect.unit (s := S1024x5376) ![0, 2304] ![1024, 512] iW))) (ix2 r d)
      = gelu (lin (zrow X G R) (cols (tab W) 2304 (by omega)) d) := by
  refine (pay_u _ _ r d).trans ?_
  rw [row_norm]
  unfold View.ld
  have a0 := ld_row X o iX r R hR
  have a1 := ld_cols W 2304 (by omega) iW
  rw [a0, a1]

theorem v_half (o : ℕ) (iX : ∀ a, (![o, 0] : Fin 2 → ℕ) a + (![512, 1024] : Fin 2 → ℕ) a ≤ S1024x1024.size a)
    (iW : ∀ a, (![0, 2816] : Fin 2 → ℕ) a + (![1024, 512] : Fin 2 → ℕ) a ≤ S1024x5376.size a) (g b : Vec Ideal S1x512 .f32)
    (r : Fin 512) (R : Fin 1024) (hR : R.val = o + r.val) (d : Fin 512) :
    k0_pay179 (k0_pay177 (k0_pay7 (k0_pay1 (View.ld X (Rect.unit (s := S1024x1024) ![o, 0] ![512, 1024] iX)) G)
          (View.ld W (Rect.unit (s := S1024x5376) ![0, 2816] ![1024, 512] iW))))
        (k0_pay178 (k0_pay7 (k0_pay1 (View.ld X (Rect.unit (s := S1024x1024) ![o, 0] ![512, 1024] iX)) G)
          (View.ld W (Rect.unit (s := S1024x5376) ![0, 2816] ![1024, 512] iW)))) g b (ix2 r d)
      = lnorm (row g 0) (row b 0) (fun e => gelu (lin (zrow X G R) (cols (tab W) 2816 (by omega)) e)) d := by
  refine (pay_v _ _ _ _ r d).trans ?_
  rw [row_norm]
  unfold View.ld
  have a0 := ld_row X o iX r R hR
  have a1 := ld_cols W 2816 (by omega) iW
  rw [a0, a1]

/-- The gated activations of a half are those of the block's rows. -/
theorem gated_half (o : ℕ) (ho : o % 128 = 0) (U V : FVec Ideal S512x512 .f32) (WS : Vec Ideal S4x128x128 .f32) (BS : Vec Ideal S128x4 .f32) (US VS : Tab 1024 512)
    (iw0 : ∀ a, (![0, 0, 0] : Fin 3 → ℕ) a + (![1, 128, 128] : Fin 3 → ℕ) a ≤ S4x128x128.size a)
    (iw1 : ∀ a, (![1, 0, 0] : Fin 3 → ℕ) a + (![1, 128, 128] : Fin 3 → ℕ) a ≤ S4x128x128.size a)
    (iw2 : ∀ a, (![2, 0, 0] : Fin 3 → ℕ) a + (![1, 128, 128] : Fin 3 → ℕ) a ≤ S4x128x128.size a)
    (iw3 : ∀ a, (![3, 0, 0] : Fin 3 → ℕ) a + (![1, 128, 128] : Fin 3 → ℕ) a ≤ S4x128x128.size a)
    (ib0 : ∀ a, (![0, 0] : Fin 2 → ℕ) a + (![128, 1] : Fin 2 → ℕ) a ≤ S128x4.size a)
    (ib1 : ∀ a, (![0, 1] : Fin 2 → ℕ) a + (![128, 1] : Fin 2 → ℕ) a ≤ S128x4.size a)
    (ib2 : ∀ a, (![0, 2] : Fin 2 → ℕ) a + (![128, 1] : Fin 2 → ℕ) a ≤ S128x4.size a)
    (ib3 : ∀ a, (![0, 3] : Fin 2 → ℕ) a + (![128, 1] : Fin 2 → ℕ) a ≤ S128x4.size a)
    (hU : ∀ (r : Fin 512) (R : Fin 1024), R.val = o + r.val → ∀ d, U (ix2 r d) = US R d)
    (hV : ∀ (r : Fin 512) (R : Fin 1024), R.val = o + r.val → ∀ d, V (ix2 r d) = VS R d)
    (r : Fin 512) (R : Fin 1024) (hR : R.val = o + r.val) (d : Fin 512) :
    gated U V ![View.ld WS (Rect.unit (s := S4x128x128) ![0, 0, 0] ![1, 128, 128] iw0), View.ld WS (Rect.unit (s := S4x128x128) ![1, 0, 0] ![1, 128, 128] iw1),
        View.ld WS (Rect.unit (s := S4x128x128) ![2, 0, 0] ![1, 128, 128] iw2), View.ld WS (Rect.unit (s := S4x128x128) ![3, 0, 0] ![1, 128, 128] iw3)]
        ![View.ld BS (Rect.unit (s := S128x4) ![0, 0] ![128, 1] ib0), View.ld BS (Rect.unit (s := S128x4) ![0, 1] ![128, 1] ib1),
        View.ld BS (Rect.unit (s := S128x4) ![0, 2] ![128, 1] ib2), View.ld BS (Rect.unit (s := S128x4) ![0, 3] ![128, 1] ib3)] r d
      = gatedSpec (n := 1024) rfl US VS (fun g i s => WS (ix3 g i s)) (fun i g => BS (ix2 i g)) R d := by
  have hw : ∀ (g : Fin 4) (i s : Fin 128),
      (![View.ld WS (Rect.unit (s := S4x128x128) ![0, 0, 0] ![1, 128, 128] iw0), View.ld WS (Rect.unit (s := S4x128x128) ![1, 0, 0] ![1, 128, 128] iw1),
        View.ld WS (Rect.unit (s := S4x128x128) ![2, 0, 0] ![1, 128, 128] iw2), View.ld WS (Rect.unit (s := S4x128x128) ![3, 0, 0] ![1, 128, 128] iw3)] : Fin 4 → Vec Ideal S1x128x128 .f32) g (ix3 0 i s)
        = WS (ix3 g i s) := by
    intro g i s
    fin_cases g <;> refine congrArg WS (funext fun a => Fin.ext ?_) <;> fin_cases a <;>
      first | rfl | (show 0 + 1 * i.val = i.val; omega) | (show 0 + 1 * s.val = s.val; omega)
  have hb : ∀ (g : Fin 4) (i : Fin 128),
      (![View.ld BS (Rect.unit (s := S128x4) ![0, 0] ![128, 1] ib0), View.ld BS (Rect.unit (s := S128x4) ![0, 1] ![128, 1] ib1),
        View.ld BS (Rect.unit (s := S128x4) ![0, 2] ![128, 1] ib2), View.ld BS (Rect.unit (s := S128x4) ![0, 3] ![128, 1] ib3)] : Fin 4 → Vec Ideal S128x1 .f32) g (ix2 i 0)
        = BS (ix2 i g) := by
    intro g i
    fin_cases g <;> refine congrArg BS (funext fun a => Fin.ext ?_) <;> fin_cases a <;>
      first | rfl | (show 0 + 1 * i.val = i.val; omega)
  unfold gated cell gatedSpec
  rw [hb]
  have hm : R.val % 128 = r.val % 128 := by omega
  have ei : (⟨R.val % 128, by omega⟩ : Fin 128) = ⟨r.val % 128, by omega⟩ := Fin.ext hm
  rw [ei]
  have eU : U (ix2 (⟨128 * (⟨r.val / 128, by omega⟩ : Fin 4).val + (⟨r.val % 128, by omega⟩ : Fin 128).val, by show 128 * (r.val / 128) + r.val % 128 < 512; omega⟩ : Fin 512)
      (⟨128 * (⟨d.val / 128, by omega⟩ : Fin 4).val + (⟨d.val % 128, by omega⟩ : Fin 128).val, by show 128 * (d.val / 128) + d.val % 128 < 512; omega⟩ : Fin 512)) = US R d := by
    refine (hU _ R (by show R.val = o + (128 * (r.val / 128) + r.val % 128); omega) _).trans (congrArg (US R) (Fin.ext ?_))
    show 128 * (d.val / 128) + d.val % 128 = d.val; omega
  refine congr (congrArg HMul.hMul eU) (congrArg (· + _) (Finset.sum_congr rfl fun s _ => ?_))
  rw [hw]
  refine congrArg (HMul.hMul (_ : EReal)) ?_
  refine (hV _ ⟨128 * (R.val / 128) + s.val, by omega⟩ (by show 128 * (R.val / 128) + s.val = o + (128 * (r.val / 128) + s.val); omega) _).trans (congrArg (VS _) (Fin.ext ?_))
  show 128 * (d.val / 128) + d.val % 128 = d.val; omega

end

end Cert.Inproj
-- ==== Proof.InPoint.lean ====
/- One grid point of the input projection: what the two gate blocks hold after it. -/
module

public import proofs.«01_k».proof.Proof.Gen.InprojIdeal.Frame
public import proofs.«01_k».proof.Proof.InHalf
public import Idealize.ShloMosaic.Lib.Pipeline.ValueKit
public import Idealize.ShloMosaic.Lib.Claim

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

variable (m : (ℓ : Loc nD τ sig) → Buf (Elt Ideal) ℓ) (c : Dev nD)

theorem at15 (t : Fin cfg0.N) (r : Fin 1024) (d : Fin 1024) :
    (outsAt0 m c t).2.2.2.1 (ix2 r d)
      = gate (zrow (iblk m c 0 t : Vec Ideal S1024x1024 .f32) (iblk m c 4 t : Vec Ideal S1x1024 .f32) r) (cols (tab (iblk m c 5 t : Vec Ideal S1024x5376 .bf16)) 3328 (by omega))
          (fun d => (iblk m c 6 t : Vec Ideal S1x2048 .f32) (ix2 0 ⟨d.val, by omega⟩)) d := by
  unfold outsAt0; frame_out
  rw [norm_second, gate_second]
  canon_tiles x h
  · idx_vars x
    refine (gate_half (iblk m c 0 t) (iblk m c 4 t) (iblk m c 5 t) (iblk m c 6 t) 512 _ _ _ x0 r (by omega) x1).trans ?_
    rw [show x1 = d from Fin.ext h1.symm]
  · idx_vars x
    refine (gate_half (iblk m c 0 t) (iblk m c 4 t) (iblk m c 5 t) (iblk m c 6 t) 0 _ _ _ x0 r (by omega) x1).trans ?_
    rw [show x1 = d from Fin.ext h1.symm]

theorem at16 (t : Fin cfg0.N) (r : Fin 1024) (d : Fin 1024) :
    (outsAt0 m c t).2.2.2.2 (ix2 r d)
      = gate (zrow (iblk m c 0 t : Vec Ideal S1024x1024 .f32) (iblk m c 4 t : Vec Ideal S1x1024 .f32) r) (cols (tab (iblk m c 5 t : Vec Ideal S1024x5376 .bf16)) 4352 (by omega))
          (fun d => (iblk m c 6 t : Vec Ideal S1x2048 .f32) (ix2 0 ⟨1024 + d.val, by omega⟩)) d
        * lin (gatedSpec (n := 1024) rfl
            (fun R d => gelu (lin (zrow (iblk m c 0 t : Vec Ideal S1024x1024 .f32) (iblk m c 4 t : Vec Ideal S1x1024 .f32) R) (cols (tab (iblk m c 5 t : Vec Ideal S1024x5376 .bf16)) 2304 (by omega)) d))
            (fun R => lnorm (row (iblk m c 9 t : Vec Ideal S1x512 .f32) 0) (row (iblk m c 10 t : Vec Ideal S1x512 .f32) 0)
              (fun e => gelu (lin (zrow (iblk m c 0 t : Vec Ideal S1024x1024 .f32) (iblk m c 4 t : Vec Ideal S1x1024 .f32) R) (cols (tab (iblk m c 5 t : Vec Ideal S1024x5376 .bf16)) 2816 (by omega)) e)))
            (fun g i s => (iblk m c 7 t : Vec Ideal S4x128x128 .f32) (ix3 g i s)) (fun i g => (iblk m c 8 t : Vec Ideal S128x4 .f32) (ix2 i g)) r)
          (tab (iblk m c 11 t : Vec Ideal S512x1024 .bf16)) d := by
  unfold outsAt0; frame_out
  rw [cells_first, cells_second, norm_second, out_second, u_second, v_second]
  canon_tiles x h
  · idx_vars x
    refine (out_half (iblk m c 0 t) (iblk m c 4 t) (iblk m c 5 t) (iblk m c 6 t) 512 _ _ _ _ _ x0 r (by omega) x1).trans ?_
    rw [show x1 = d from Fin.ext h1.symm]
    refine congrArg (HMul.hMul (_ : EReal)) (congrArg (fun y => lin y _ _) (funext fun e => ?_))
    exact gated_half 512 rfl _ _ _ _ _ _ _ _ _ _ _ _ _ _ (u_half _ _ _ 512 _ _) (v_half _ _ _ 512 _ _ _ _) x0 r (by omega) e
  · idx_vars x
    refine (out_half (iblk m c 0 t) (iblk m c 4 t) (iblk m c 5 t) (iblk m c 6 t) 0 _ _ _ _ _ x0 r (by omega) x1).trans ?_
    rw [show x1 = d from Fin.ext h1.symm]
    refine congrArg (HMul.hMul (_ : EReal)) (congrArg (fun y => lin y _ _) (funext fun e => ?_))
    exact gated_half 0 rfl _ _ _ _ _ _ _ _ _ _ _ _ _ _ (u_half _ _ _ 0 _ _) (v_half _ _ _ 0 _ _ _ _) x0 r (by omega) e

end Cert.Inproj
-- ==== Proof.InIn.lean ====
/- The arrays of the input projection and the mathematics of its gate results over them; and what the kernel's blocks
   read of the arrays at a grid point. -/
module

public import proofs.«01_k».proof.Proof.InPoint

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

section
variable (x0 : FVec Ideal S16x4096x1024 .f32) (x2 : FVec Ideal S1x1024 .f32) (x3 : FVec Ideal S1x1024x5376 .f32) (x4 : FVec Ideal S1x2048 .f32)
  (x5 : FVec Ideal S1x4x128x128 .f32) (x6 : FVec Ideal S1x4x128 .f32) (x7 x8 : FVec Ideal S1x512 .f32) (x9 : FVec Ideal S1x512x1024 .f32)

/-- Token `R`, normalised. -/
def zAt (R : Fin 65536) : Row 1024 := rms (fun d => x2 (ix2 0 d)) (fun d => x0 (ix3 ⟨R.val / 4096, by omega⟩ ⟨R.val % 4096, by omega⟩ d))

/-- The projection's weights. -/
def wTab : Tab 1024 5376 := fun d e => x3 (ix3 0 d e)

/-- Token `R`'s first gate. -/
def gaAt (R : Fin 65536) : Row 1024 := gate (zAt x0 x2 R) (cols (wTab x3) 3328 (by omega)) (fun d => x4 (ix2 0 ⟨d.val, by omega⟩))

/-- Token `R`'s second gate. -/
def gbAt (R : Fin 65536) : Row 1024 := gate (zAt x0 x2 R) (cols (wTab x3) 4352 (by omega)) (fun d => x4 (ix2 0 ⟨1024 + d.val, by omega⟩))

/-- Token `R`'s activations and its normalised activations. -/
def uAt (R : Fin 65536) : Row 512 := fun d => gelu (lin (zAt x0 x2 R) (cols (wTab x3) 2304 (by omega)) d)
def vAt (R : Fin 65536) : Row 512 := lnorm (fun d => x7 (ix2 0 d)) (fun d => x8 (ix2 0 d)) (fun e => gelu (lin (zAt x0 x2 R) (cols (wTab x3) 2816 (by omega)) e))

/-- Token `R`'s gated activations. -/
def ybAt (R : Fin 65536) : Row 512 :=
  gatedSpec (n := 65536) rfl (uAt x0 x2 x3) (vAt x0 x2 x3 x7 x8) (fun g i s => x5 (ix4 0 g i s)) (fun i g => x6 (ix3 0 g i)) R

/-- Token `R`'s gated output. -/
def mbAt (R : Fin 65536) : Row 1024 := fun d => gbAt x0 x2 x3 x4 R d * lin (ybAt x0 x2 x3 x5 x6 x7 x8 R) (fun d e => x9 (ix3 0 d e)) d

/-- The two gate results. -/
def outGa : FVec Ideal S65536x1024 .bf16 := fun i => gaAt x0 x2 x3 x4 (i 0) (i 1)
def outMb : FVec Ideal S65536x1024 .bf16 := fun i => mbAt x0 x2 x3 x4 x5 x6 x7 x8 x9 (i 0) (i 1)
end

variable (m : (ℓ : Loc nD τ sig) → Buf (Elt Ideal) ℓ) (c : Dev nD)

theorem idxs : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0, 0] ∧ win0_8.index t = ![0, 0]
    ∧ win0_9.index t = ![0, 0] ∧ win0_10.index t = ![0, 0] ∧ win0_11.index t = ![0, 0] ∧ win0_12.index t = ![t.val / 4, 0, 0, t.val % 4, 0] ∧ win0_13.index t = ![t.val / 4, 0, 0, t.val % 4, 0]
    ∧ win0_14.index t = ![t.val / 4, 0, 0, t.val % 4, 0] ∧ win0_15.index t = ![t.val, 0] ∧ win0_16.index t = ![t.val, 0]
    ∧ t.val < 64 :=
  (by decide +kernel : ∀ t : Fin grid0.N, _)

theorem t_lt (t : Fin cfg0.N) : t.val < 64 := (idxs t).2.2.2.2.2.2.2.2.2.2.2.2.2.2.2.2.2

/-! ## What the host prepared -/

theorem host0 (i : Fin 65536) (e : Fin 1024) : V m c main_v0 (ix2 i e) = m ((c : Thread nD τ).loc main_arg0) (ix3 ⟨i.val / 4096, by omega⟩ ⟨i.val % 4096, by omega⟩ e) := by
  entry_read
  pointwise
theorem host4 (e : Fin 1024) : V m c main_v21 (ix2 0 e) = m ((c : Thread nD τ).loc main_arg2) (ix2 0 e) := by
  entry_read
  pointwise
theorem host5 (d : Fin 1024) (e : Fin 5376) : V m c main_v23 (ix2 d e) = m ((c : Thread nD τ).loc main_arg3) (ix3 0 d e) := by
  entry_read
  pointwise
theorem host6 (e : Fin 2048) : V m c main_v25 (ix2 0 e) = m ((c : Thread nD τ).loc main_arg4) (ix2 0 e) := by
  entry_read
  pointwise
theorem host7 (g : Fin 4) (i s : Fin 128) : V m c main_v26 (ix3 g i s) = m ((c : Thread nD τ).loc main_arg5) (ix4 0 g i s) := by
  entry_read
  pointwise
theorem host8 (i : Fin 128) (g : Fin 4) : V m c main_v28 (ix2 i g) = m ((c : Thread nD τ).loc main_arg6) (ix3 0 g i) := by
  entry_read
  pointwise
theorem host9 (e : Fin 512) : V m c main_v30 (ix2 0 e) = m ((c : Thread nD τ).loc main_arg7) (ix2 0 e) := by
  entry_read
  pointwise
theorem host10 (e : Fin 512) : V m c main_v32 (ix2 0 e) = m ((c : Thread nD τ).loc main_arg8) (ix2 0 e) := by
  entry_read
  pointwise
theorem host11 (d : Fin 512) (e : Fin 1024) : V m c main_v34 (ix2 d e) = m ((c : Thread nD τ).loc main_arg9) (ix3 0 d e) := by
  entry_read
  pointwise

theorem in0 (t : Fin cfg0.N) (r : Fin 1024) (e : Fin 1024) : (iblk m c 0 t : Vec Ideal S1024x1024 .f32) (ix2 r e)
    = V m c main_v0 (ix2 ⟨t.val * 1024 + r.val, by have := t_lt t; omega⟩ e) := by blk_ext [iblk, idxs t]
theorem in4 (t : Fin cfg0.N) (r : Fin 1) (e : Fin 1024) : (iblk m c 4 t : Vec Ideal S1x1024 .f32) (ix2 r e) = V m c main_v21 (ix2 r e) := by blk_ext [iblk, idxs t]
theorem in5 (t : Fin cfg0.N) (r : Fin 1024) (e : Fin 5376) : (iblk m c 5 t : Vec Ideal S1024x5376 .bf16) (ix2 r e) = V m c main_v23 (ix2 r e) := by blk_ext [iblk, idxs t]
theorem in6 (t : Fin cfg0.N) (r : Fin 1) (e : Fin 2048) : (iblk m c 6 t : Vec Ideal S1x2048 .f32) (ix2 r e) = V m c main_v25 (ix2 r e) := by blk_ext [iblk, idxs t]
theorem in7 (t : Fin cfg0.N) (g : Fin 4) (r e : Fin 128) : (iblk m c 7 t : Vec Ideal S4x128x128 .f32) (ix3 g r e) = V m c main_v26 (ix3 g r e) := by blk_ext [iblk, idxs t]
theorem in8 (t : Fin cfg0.N) (r : Fin 128) (e : Fin 4) : (iblk m c 8 t : Vec Ideal S128x4 .f32) (ix2 r e) = V m c main_v28 (ix2 r e) := by blk_ext [iblk, idxs t]
theorem in9 (t : Fin cfg0.N) (r : Fin 1) (e : Fin 512) : (iblk m c 9 t : Vec Ideal S1x512 .f32) (ix2 r e) = V m c main_v30 (ix2 r e) := by blk_ext [iblk, idxs t]
theorem in10 (t : Fin cfg0.N) (r : Fin 1) (e : Fin 512) : (iblk m c 10 t : Vec Ideal S1x512 .f32) (ix2 r e) = V m c main_v32 (ix2 r e) := by blk_ext [iblk, idxs t]
theorem in11 (t : Fin cfg0.N) (r : Fin 512) (e : Fin 1024) : (iblk m c 11 t : Vec Ideal S512x1024 .bf16) (ix2 r e) = V m c main_v34 (ix2 r e) := by blk_ext [iblk, idxs t]

end Cert.Inproj
-- ==== Proof.InRun.lean ====
/- The run of the input projection over exact real arithmetic: its gate results as the mathematics of the arguments. -/
module

public import proofs.«01_k».proof.Proof.InIn
public import proofs.«01_k».proof.Proof.Gen.InprojIdeal.Value

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

variable (m : (ℓ : Loc nD τ sig) → Buf (Elt Ideal) ℓ) (c : Dev nD)

/-- The token of a block's row. -/
abbrev tok (t : Fin cfg0.N) (r : Fin 1024) : Fin 65536 := ⟨t.val * 1024 + r.val, by have := t_lt t; omega⟩

theorem block_z (t : Fin cfg0.N) (r : Fin 1024) : zrow (iblk m c 0 t : Vec Ideal S1024x1024 .f32) (iblk m c 4 t : Vec Ideal S1x1024 .f32) r = zAt (m ((c : Thread nD τ).loc main_arg0)) (m ((c : Thread nD τ).loc main_arg2)) (tok t r) := by
  have a0 : row (iblk m c 0 t : Vec Ideal S1024x1024 .f32) r = _ := funext fun e => (in0 m c t r e).trans (host0 m c _ e)
  have a4 : row (iblk m c 4 t : Vec Ideal S1x1024 .f32) 0 = _ := funext fun e => (in4 m c t 0 e).trans (host4 m c e)
  unfold zrow
  rw [a0, a4]
  rfl

theorem block_w (t : Fin cfg0.N) : tab (iblk m c 5 t : Vec Ideal S1024x5376 .bf16) = wTab (m ((c : Thread nD τ).loc main_arg3)) :=
  funext fun d => funext fun e => (in5 m c t d e).trans (host5 m c d e)

theorem block_out (t : Fin cfg0.N) : tab (iblk m c 11 t : Vec Ideal S512x1024 .bf16) = fun d e => (m ((c : Thread nD τ).loc main_arg9)) (ix3 0 d e) :=
  funext fun d => funext fun e => (in11 m c t d e).trans (host11 m c d e)

theorem block_spatial (t : Fin cfg0.N) : (fun g i s => (iblk m c 7 t : Vec Ideal S4x128x128 .f32) (ix3 g i s) : Fin 4 → Tab 128 128) = fun g i s => (m ((c : Thread nD τ).loc main_arg5)) (ix4 0 g i s) :=
  funext fun g => funext fun i => funext fun s => (in7 m c t g i s).trans (host7 m c g i s)

theorem block_bias (t : Fin cfg0.N) : (fun i g => (iblk m c 8 t : Vec Ideal S128x4 .f32) (ix2 i g) : Tab 128 4) = fun i g => (m ((c : Thread nD τ).loc main_arg6)) (ix3 0 g i) :=
  funext fun i => funext fun g => (in8 m c t i g).trans (host8 m c i g)

theorem block_gate (t : Fin cfg0.N) (k : Fin 1024 → Fin 2048) : (fun d => (iblk m c 6 t : Vec Ideal S1x2048 .f32) (ix2 0 (k d)) : Row 1024) = fun d => (m ((c : Thread nD τ).loc main_arg4)) (ix2 0 (k d)) :=
  funext fun d => (in6 m c t 0 _).trans (host6 m c _)

theorem block_gain (t : Fin cfg0.N) : row (iblk m c 9 t : Vec Ideal S1x512 .f32) 0 = fun e => (m ((c : Thread nD τ).loc main_arg7)) (ix2 0 e) :=
  funext fun e => (in9 m c t 0 e).trans (host9 m c e)

theorem block_shift (t : Fin cfg0.N) : row (iblk m c 10 t : Vec Ideal S1x512 .f32) 0 = fun e => (m ((c : Thread nD τ).loc main_arg8)) (ix2 0 e) :=
  funext fun e => (in10 m c t 0 e).trans (host10 m c e)

/-- The chunks of a block are the chunks of the tokens. -/
theorem gated_block (U V : Tab 65536 512) (W : Fin 4 → Tab 128 128) (B : Tab 128 4) (t : Fin cfg0.N) (r : Fin 1024) :
    gatedSpec (n := 1024) rfl (fun r => U (tok t r)) (fun r => V (tok t r)) W B r = gatedSpec (n := 65536) rfl U V W B (tok t r) := by
  have ht := t_lt t
  funext d
  unfold gatedSpec
  have e1 : (⟨(tok t r).val % 128, by omega⟩ : Fin 128) = ⟨r.val % 128, by omega⟩ := Fin.ext (by show (t.val * 1024 + r.val) % 128 = r.val % 128; omega)
  have e2 : ∀ s : Fin 128, (⟨128 * ((tok t r).val / 128) + s.val, by omega⟩ : Fin 65536) = tok t ⟨128 * (r.val / 128) + s.val, by omega⟩ :=
    fun s => Fin.ext (by show 128 * ((t.val * 1024 + r.val) / 128) + s.val = t.val * 1024 + (128 * (r.val / 128) + s.val); omega)
  simp only [e1, e2]

/-! ## The result arrays -/

theorem fin15 : (dats m 0 c).arrAt 15 cfg0.N = outGa (m ((c : Thread nD τ).loc main_arg0)) (m ((c : Thread nD τ).loc main_arg2)) (m ((c : Thread nD τ).loc main_arg3)) (m ((c : Thread nD τ).loc main_arg4)) := by
  refine (dats m 0 c).arrAt_eq_of_covers 15 _ (by decide +kernel) fun t hf y => ?_
  blk_simp
  rw [after0_15]
  have ht := t_lt t
  idx_vars y
  have e0 : ((View.whole main_v35_3).slice (win0_15.rect t)).emb (ix2 y0 y1) 0 = (⟨t.val * 1024 + y0.val, by omega⟩ : Fin 65536) := by
    apply Fin.ext; blk_simp [idxs t]
  have e1 : ((View.whole main_v35_3).slice (win0_15.rect t)).emb (ix2 y0 y1) 1 = y1 := by
    apply Fin.ext; blk_simp [idxs t]
  unfold outGa
  rw [at15, block_z, block_w, block_gate m c t (fun d => ⟨d.val, by omega⟩), e0, e1]
  rfl

theorem fin16 : (dats m 0 c).arrAt 16 cfg0.N = outMb (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 16 _ (by decide +kernel) fun t hf y => ?_
  blk_simp
  rw [after0_16]
  have ht := t_lt t
  idx_vars y
  have e0 : ((View.whole main_v35_4).slice (win0_16.rect t)).emb (ix2 y0 y1) 0 = (⟨t.val * 1024 + y0.val, by omega⟩ : Fin 65536) := by
    apply Fin.ext; blk_simp [idxs t]
  have e1 : ((View.whole main_v35_4).slice (win0_16.rect t)).emb (ix2 y0 y1) 1 = y1 := by
    apply Fin.ext; blk_simp [idxs t]
  have hz : (fun R => zrow (iblk m c 0 t : Vec Ideal S1024x1024 .f32) (iblk m c 4 t : Vec Ideal S1x1024 .f32) R) = fun R => zAt (m ((c : Thread nD τ).loc main_arg0)) (m ((c : Thread nD τ).loc main_arg2)) (tok t R) := funext fun R => block_z m c t R
  unfold outMb
  rw [at16, block_w, block_gate m c t (fun d => ⟨1024 + d.val, by omega⟩), block_out, block_spatial, block_bias, block_gain, block_shift, e0, e1]
  simp only [block_z]
  have hg := gated_block (uAt (m ((c : Thread nD τ).loc main_arg0)) (m ((c : Thread nD τ).loc main_arg2)) (m ((c : Thread nD τ).loc main_arg3))) (vAt (m ((c : Thread nD τ).loc main_arg0)) (m ((c : Thread nD τ).loc main_arg2)) (m ((c : Thread nD τ).loc main_arg3)) (m ((c : Thread nD τ).loc main_arg7)) (m ((c : Thread nD τ).loc main_arg8))) (fun g i s => (m ((c : Thread nD τ).loc main_arg5)) (ix4 0 g i s)) (fun i g => (m ((c : Thread nD τ).loc main_arg6)) (ix3 0 g i)) t y0
  exact congrArg (fun a => gbAt (m ((c : Thread nD τ).loc main_arg0)) (m ((c : Thread nD τ).loc main_arg2)) (m ((c : Thread nD τ).loc main_arg3)) (m ((c : Thread nD τ).loc main_arg4)) (tok t y0) y1 * lin a (fun d e => (m ((c : Thread nD τ).loc main_arg9)) (ix3 0 d e)) y1) hg

end Cert.Inproj
-- ==== Proof.InRef.lean ====
/- The reference of the input projection, stage by stage, as the mathematics of one token. -/
module

public import proofs.«01_k».proof.Proof.InIn
public import proofs.«01_k».proof.Proof.Gen.InprojReferenceIdeal.Read
public import Idealize.ShloMosaic.Lib.Pipeline.ValueKit
public import Idealize.ShloMosaic.Lib.Claim

@[expose] public section

set_option backward.proofsInPublic true
set_option maxRecDepth 16384

noncomputable section

namespace Cert.Inproj

open Idealize.ShloMosaic Idealize.ShloMosaic.TcCoe Idealize.ShloMosaic.Tactic
open Idealize.SL.Sem
open Cert.Post (Row Tab rms lin)
open Cert.InprojReferenceIdeal Cert.InprojReferenceIdeal.Gen Cert.InprojReferenceIdeal.Read

variable (x0 : (⟨S16x4096x1024, .f32⟩ : BufTy).Contents (Elt Ideal)) (x1 : (⟨S16x4096, .i32⟩ : BufTy).Contents (Elt Ideal)) (x2 : (⟨S1x1024, .f32⟩ : BufTy).Contents (Elt Ideal))
  (x3 : (⟨S1x1024x5376, .f32⟩ : BufTy).Contents (Elt Ideal)) (x4 : (⟨S1x2048, .f32⟩ : BufTy).Contents (Elt Ideal))
  (x5 : (⟨S1x4x128x128, .f32⟩ : BufTy).Contents (Elt Ideal)) (x6 : (⟨S1x4x128, .f32⟩ : BufTy).Contents (Elt Ideal))
  (x7 x8 : (⟨S1x512, .f32⟩ : BufTy).Contents (Elt Ideal)) (x9 : (⟨S1x512x1024, .f32⟩ : BufTy).Contents (Elt Ideal))

theorem r14 (R : Fin 65536) (d : Fin 1024) : val_main_v14 (F := Ideal) x0 x2 (ix2 R d) = zAt x0 x2 R d := by
  unfold zAt rms
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]

theorem r16 (R : Fin 65536) (e : Fin 5376) : val_main_v16 (F := Ideal) x0 x2 x3 (ix2 R e) = lin (zAt x0 x2 R) (wTab x3) e := by
  have h : (fun d => val_main_v14 (F := Ideal) x0 x2 (ix2 R d)) = _ := funext fun d => r14 x0 x2 R d
  rw [← h]
  unfold lin wTab
  pointwise [val_main_v15, val_main_v16]

theorem r128 (R : Fin 65536) (d : Fin 512) : val_main_v128 (F := Ideal) x0 x2 x3 (ix2 R d) = gelu (val_main_v16 (F := Ideal) x0 x2 x3 (ix2 R ⟨2304 + d.val, by omega⟩)) := by
  unfold gelu
  rw [mul_comm (val_main_v16 (F := Ideal) x0 x2 x3 (ix2 R ⟨2304 + d.val, by omega⟩)) (val_main_v16 (F := Ideal) x0 x2 x3 (ix2 R ⟨2304 + d.val, by omega⟩) * _)]
  pointwise [val_main_v115, val_main_v116, val_main_v117, val_main_cst_5, val_main_v118, val_main_v119, val_main_v120, val_main_cst_6, val_main_v121, val_main_v122, val_main_v123, val_main_cst_7, val_main_v124, val_main_v125, val_main_cst_8, val_main_v126, val_main_v127, val_main_v128]

theorem r142 (R : Fin 65536) (d : Fin 512) : val_main_v142 (F := Ideal) x0 x2 x3 (ix2 R d) = gelu (val_main_v16 (F := Ideal) x0 x2 x3 (ix2 R ⟨2816 + d.val, by omega⟩)) := by
  unfold gelu
  rw [mul_comm (val_main_v16 (F := Ideal) x0 x2 x3 (ix2 R ⟨2816 + d.val, by omega⟩)) (val_main_v16 (F := Ideal) x0 x2 x3 (ix2 R ⟨2816 + d.val, by omega⟩) * _)]
  pointwise [val_main_v129, val_main_v130, val_main_v131, val_main_cst_9, val_main_v132, val_main_v133, val_main_v134, val_main_cst_10, val_main_v135, val_main_v136, val_main_v137, val_main_cst_11, val_main_v138, val_main_v139, val_main_cst_12, val_main_v140, val_main_v141, val_main_v142]

theorem r148 (R : Fin 65536) (d : Fin 512) : val_main_v148 (F := Ideal) x0 x2 x3 (ix2 R d) = centred (fun e => val_main_v142 (F := Ideal) x0 x2 x3 (ix2 R e)) d := by
  unfold centred
  pointwise [val_main_cst_13, val_main_v143, val_main_v144, val_main_cst_14, val_main_v145, val_main_v146, val_main_v147, val_main_v148]

theorem r150 (R : Fin 65536) (d : Fin 512) : val_main_v150 (F := Ideal) x0 x2 x3 (ix2 R d) = centred (fun e => val_main_v142 (F := Ideal) x0 x2 x3 (ix2 R e)) d := by
  unfold centred
  pointwise [val_main_cst_13, val_main_v143, val_main_v144, val_main_cst_14, val_main_v145, val_main_v146, val_main_v149, val_main_v150]

theorem r157 (R : Fin 65536) (d : Fin 512) : val_main_v157 (F := Ideal) x0 x2 x3 (ix2 R d) = centred (fun e => val_main_v142 (F := Ideal) x0 x2 x3 (ix2 R e)) d := by
  unfold centred
  pointwise [val_main_cst_13, val_main_v143, val_main_v144, val_main_cst_14, val_main_v145, val_main_v146, val_main_v156, val_main_v157]

theorem r170 (R : Fin 65536) (d : Fin 512) : val_main_v170 (F := Ideal) x0 x2 x3 x7 x8 (ix2 R d) = lnorm (fun d => x7 (ix2 0 d)) (fun d => x8 (ix2 0 d)) (fun e => val_main_v142 (F := Ideal) x0 x2 x3 (ix2 R e)) d := by
  unfold lnorm
  pointwise [val_main_v151, val_main_cst_15, val_main_v152, val_main_v153, val_main_cst_16, val_main_v154, val_main_v155, val_main_cst_17, val_main_v158, val_main_v159, val_main_v160, val_main_v161, val_main_v162, val_main_v163, val_main_v164, val_main_v165, val_main_v166, val_main_v167, val_main_v168, val_main_v169, val_main_v170]
  simp only [r148, r150, r157]

theorem r185 (n : Fin 512) (i : Fin 128) (g : Fin 4) (k : Fin 128) : val_main_v185 (F := Ideal) x0 x2 x3 x5 x6 x7 x8 (ix4 n i g k)
    = (∑ s : Fin 128, (if s ≤ i then x5 (ix4 0 g i s) else 0) * val_main_v170 (F := Ideal) x0 x2 x3 x7 x8 (ix2 ⟨128 * n.val + s.val, by omega⟩ ⟨128 * g.val + k.val, by omega⟩)) + x6 (ix3 0 g i) := by
  pointwise [val_main_v171, val_main_v172, val_main_v173, val_main_v174, val_main_v175, val_main_cst_18, val_main_call0_v0, val_main_call0_v1, val_main_call0_v2, val_main_v176, val_main_v177, val_main_v178, val_main_v179, val_main_v180, val_main_v181, val_main_v182, val_main_v183, val_main_v184, val_main_v185]
  refine congrArg (· + x6 (ix3 0 g i)) (Finset.sum_congr rfl fun s _ => ?_)
  rw [mul_comm]
  have e1 : (⟨n.val * 128 + s.val, by omega⟩ : Fin 65536) = ⟨128 * n.val + s.val, by omega⟩ := Fin.ext (by show n.val * 128 + s.val = 128 * n.val + s.val; omega)
  have e2 : (⟨g.val * 128 + k.val, by omega⟩ : Fin 512) = ⟨128 * g.val + k.val, by omega⟩ := Fin.ext (by show g.val * 128 + k.val = 128 * g.val + k.val; omega)
  rw [e1, e2]
  refine congrArg (· * val_main_v170 x0 x2 x3 x7 x8 _) ?_
  refine Eq.trans (congrArg (Scalar.select _ _) ?_) (pick_causal i s _)
  exact Ideal.ofBits_zero .f32

theorem r187 (R : Fin 65536) (d : Fin 512) : val_main_v187 (F := Ideal) x0 x2 x3 x5 x6 x7 x8 (ix2 R d) = val_main_v128 (F := Ideal) x0 x2 x3 (ix2 R d) * val_main_v185 (F := Ideal) x0 x2 x3 x5 x6 x7 x8 (ix4 ⟨R.val / 128, by omega⟩ ⟨R.val % 128, by omega⟩ ⟨d.val / 128, by omega⟩ ⟨d.val % 128, by omega⟩) := by
  pointwise [val_main_v186, val_main_v187]

theorem r201 (R : Fin 65536) (d : Fin 1024) : val_main_v201 (F := Ideal) x0 x2 x3 x4 (ix2 R d) = Ideal.logistic (val_main_v16 (F := Ideal) x0 x2 x3 (ix2 R ⟨3328 + d.val, by omega⟩) + x4 (ix2 0 ⟨d.val, by omega⟩)) := by
  unfold Ideal.logistic
  pointwise [val_main_v188, val_main_v189, val_main_v190, val_main_v191, val_main_v192, val_main_v193, val_main_v194, val_main_cst_19, val_main_v195, val_main_v196, val_main_cst_20, val_main_v197, val_main_v198, val_main_v199, val_main_v201]

theorem r200 (R : Fin 65536) (d : Fin 1024) : val_main_v200 (F := Ideal) x0 x2 x3 x4 (ix2 R d) = Ideal.logistic (val_main_v16 (F := Ideal) x0 x2 x3 (ix2 R ⟨4352 + d.val, by omega⟩) + x4 (ix2 0 ⟨1024 + d.val, by omega⟩)) := by
  unfold Ideal.logistic
  pointwise [val_main_v188, val_main_v189, val_main_v190, val_main_v191, val_main_v192, val_main_v193, val_main_v194, val_main_cst_19, val_main_v195, val_main_v196, val_main_cst_20, val_main_v197, val_main_v198, val_main_v200]
  have e1 : (⟨3328 + (1024 + d.val), by omega⟩ : Fin 5376) = ⟨4352 + d.val, by omega⟩ := Fin.ext (by show 3328 + (1024 + d.val) = 4352 + d.val; omega)
  rw [e1]

theorem r205 (R : Fin 65536) (d : Fin 1024) : val_main_v205 (F := Ideal) x0 x2 x3 x4 x5 x6 x7 x8 x9 (ix2 R d) = val_main_v200 (F := Ideal) x0 x2 x3 x4 (ix2 R d) * lin (fun e => val_main_v187 (F := Ideal) x0 x2 x3 x5 x6 x7 x8 (ix2 R e)) (fun d e => x9 (ix3 0 d e)) d := by
  unfold lin
  pointwise [val_main_v202, val_main_v203, val_main_v204, val_main_v205]

/-! ## The gate results -/

theorem res_ga : val_main_v201 (F := Ideal) x0 x2 x3 x4 = outGa x0 x2 x3 x4 := by
  funext j
  idx_vars j
  rw [r201, r16]
  rfl

theorem res_u (R : Fin 65536) : (fun d => val_main_v128 (F := Ideal) x0 x2 x3 (ix2 R d)) = uAt x0 x2 x3 R := by
  funext d
  rw [r128, r16]
  rfl

theorem res_v (R : Fin 65536) : (fun d => val_main_v170 (F := Ideal) x0 x2 x3 x7 x8 (ix2 R d)) = vAt x0 x2 x3 x7 x8 R := by
  have h : (fun e => val_main_v142 (F := Ideal) x0 x2 x3 (ix2 R e)) = fun e => gelu (lin (zAt x0 x2 R) (cols (wTab x3) 2816 (by omega)) e) := by
    funext e
    rw [r142, r16]
    rfl
  funext d
  rw [r170, h]
  rfl

theorem res_yb (R : Fin 65536) (d : Fin 512) : val_main_v187 (F := Ideal) x0 x2 x3 x5 x6 x7 x8 (ix2 R d) = ybAt x0 x2 x3 x5 x6 x7 x8 R d := by
  rw [r187, r185]
  refine congr (congrArg HMul.hMul (congrFun (res_u x0 x2 x3 R) d)) (congrArg (· + x6 (ix3 0 ⟨d.val / 128, by omega⟩ ⟨R.val % 128, by omega⟩)) (Finset.sum_congr rfl fun s _ => congrArg (HMul.hMul _) ?_))
  refine Eq.trans ?_ (congrFun (res_v x0 x2 x3 x7 x8 ⟨128 * (R.val / 128) + s.val, by omega⟩) d)
  exact congrArg (fun k => val_main_v170 (F := Ideal) x0 x2 x3 x7 x8 (ix2 ⟨128 * (R.val / 128) + s.val, by omega⟩ k)) (Fin.ext (by show 128 * (d.val / 128) + d.val % 128 = d.val; omega))

theorem res_mb : val_main_v205 (F := Ideal) x0 x2 x3 x4 x5 x6 x7 x8 x9 = outMb x0 x2 x3 x4 x5 x6 x7 x8 x9 := by
  funext j
  idx_vars j
  have h : (fun e => val_main_v187 (F := Ideal) x0 x2 x3 x5 x6 x7 x8 (ix2 j0 e)) = ybAt x0 x2 x3 x5 x6 x7 x8 j0 := funext fun e => res_yb x0 x2 x3 x5 x6 x7 x8 j0 e
  rw [r205, r200, r16, h]
  rfl

end Cert.Inproj
-- ==== Proof.InValSpec.lean ====
/- The values of the queries, keys and values: the mathematics of the three results over the arrays. -/
module

public import proofs.«01_k».proof.Proof.InIn

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

section
variable (x0 : FVec Ideal S16x4096x1024 .f32) (x2 : FVec Ideal S1x1024 .f32) (x3 : FVec Ideal S1x1024x5376 .f32)

/-- Token `R`'s values, the 256 columns from column `o` of the projection. -/
def valAt (o : ℕ) (h : o + 256 ≤ 5376) (R : Fin 65536) : Row 256 := lin (zAt x0 x2 R) (cols (wTab x3) o h)

/-- The values of the group of dilation 1: entry `k` of part `r` is token `1 k + r`. The same at every index of the second axis. -/
def outV1 : S16x3x1x4096x256.Idx → EReal := fun i =>
  valAt x0 x2 x3 1536 (by omega) ⟨(i 0).val * 4096 + (i 3).val * 1 + (i 2).val, by have h0 : (i 0).val < 16 := (i 0).isLt; have h2 : (i 2).val < 1 := (i 2).isLt; have h3 : (i 3).val < 4096 := (i 3).isLt; omega⟩ (i 4)

/-- The values of the group of dilation 4: entry `k` of part `r` is token `4 k + r`. The same at every index of the second axis. -/
def outV4 : S16x3x4x1024x256.Idx → EReal := fun i =>
  valAt x0 x2 x3 1792 (by omega) ⟨(i 0).val * 4096 + (i 3).val * 4 + (i 2).val, by have h0 : (i 0).val < 16 := (i 0).isLt; have h2 : (i 2).val < 4 := (i 2).isLt; have h3 : (i 3).val < 1024 := (i 3).isLt; omega⟩ (i 4)

/-- The values of the group of dilation 16: entry `k` of part `r` is token `16 k + r`. The same at every index of the second axis. -/
def outV16 : S16x3x16x256x256.Idx → EReal := fun i =>
  valAt x0 x2 x3 2048 (by omega) ⟨(i 0).val * 4096 + (i 3).val * 16 + (i 2).val, by have h0 : (i 0).val < 16 := (i 0).isLt; have h2 : (i 2).val < 16 := (i 2).isLt; have h3 : (i 3).val < 256 := (i 3).isLt; omega⟩ (i 4)
end

end Cert.Inproj
-- ==== Proof.InVal.lean ====
/- The values (the third of queries, keys and values) of a block of the input projection: what its stores hold, entry by entry. -/
module

public import proofs.«01_k».proof.Proof.InHalf
public import Idealize.ShloMosaic.Lib.Pipeline.ValueKit

@[expose] public section

set_option backward.proofsInPublic true
set_option maxRecDepth 16384

noncomputable section

namespace Cert.Inproj

open Idealize.ShloMosaic Idealize.SL.Sem
open Cert.Post (Row Tab rms lin)
open Cert.InprojIdeal Cert.InprojIdeal.Gen

/-- Every piece of `L` holds `G` on the part of its rectangle where `P` holds. -/
def AgreeOn {S : Shape} {e : EltTy} (P : S.Idx → Prop) (G : S.Idx → Elt Ideal e) : List (View.Piece (Elt Ideal) S e) → Prop
  | [] => True
  | p :: L => (∀ x, P (p.1.emb x) → p.2 x = G (p.1.emb x)) ∧ AgreeOn P G L

theorem agree_cons {S : Shape} {e : EltTy} {P : S.Idx → Prop} {G : S.Idx → Elt Ideal e} {R : Rect S} {w : R.shape.Idx → Elt Ideal e} {L : List (View.Piece (Elt Ideal) S e)}
    (h : ∀ x, P (R.emb x) → w x = G (R.emb x)) (hL : AgreeOn P G L) : AgreeOn P G ((⟨R, w⟩ : View.Piece (Elt Ideal) S e) :: L) := ⟨h, hL⟩

/-- Pieces that agree with `G` where `P` holds leave `G` there, wherever one of them reaches. -/
theorem canon_on {S : Shape} {e : EltTy} (P : S.Idx → Prop) (G : S.Idx → Elt Ideal e) : ∀ L : List (View.Piece (Elt Ideal) S e), AgreeOn P G L →
    ∀ y, P y → (∃ p ∈ L, y ∈ p.1.set) → View.canon L y = G y
  | [], _, y, _, h => by obtain ⟨p, hp, _⟩ := h; cases hp
  | p :: L, hL, y, hy, h => by
    by_cases hm : y ∈ p.1.set
    · obtain ⟨x, hx⟩ := p.1.toLoadRect.exists_idx_of_mem hm
      obtain rfl : p.1.emb x = y := hx
      exact (View.canon_cons_emb p.1 p.2 L x).trans (hL.1 x hy)
    · rw [View.canon_cons_of_not_mem p L hm]
      refine canon_on P G L hL.2 y hy ?_
      obtain ⟨q, hq, hqy⟩ := h
      rcases List.mem_cons.mp hq with rfl | hq
      · exact absurd hqy hm
      · exact ⟨q, hq, hqy⟩

theorem pay_value (z : FVec Ideal S512x1024 .bf16) (w : Vec Ideal S1024x256 .bf16) (r : Fin 512) (e : Fin 256) :
    k0_pay14 z w (ix5 0 0 0 r e) = lin (row z r) (tab w) e := by
  unfold lin row tab
  pointwise [k0_pay14]

theorem pay_slab_lo (z : FVec Ideal S512x1024 .bf16) (w : Vec Ideal S1024x256 .bf16) (r : Fin 512) (l : Fin 128) :
    k0_pay46 z w (ix3 0 r l) = lin (row z r) (tab w) ⟨0 + l.val, by omega⟩ := by
  unfold lin row tab
  pointwise [k0_pay46, k0_pay45]

theorem pay_slab_hi (z : FVec Ideal S512x1024 .bf16) (w : Vec Ideal S1024x256 .bf16) (r : Fin 512) (l : Fin 128) :
    k0_pay52 (k0_pay45 z w) (ix3 0 r l) = lin (row z r) (tab w) ⟨128 + l.val, by omega⟩ := by
  unfold lin row tab
  pointwise [k0_pay52, k0_pay45]

section
variable (X : Vec Ideal S1024x1024 .f32) (G : Vec Ideal S1x1024 .f32) (W : Vec Ideal S1024x5376 .bf16)

/-- The values of the block's row `R`, the 256 columns from column `o`. -/
def valRow (o : ℕ) (h : o + 256 ≤ 5376) (R : Fin 1024) : Row 256 := lin (zrow X G R) (cols (tab W) o h)

theorem valRow_half (o c0 : ℕ) (hc : c0 + 256 ≤ 5376) (iX : ∀ a, (![o, 0] : Fin 2 → ℕ) a + (![512, 1024] : Fin 2 → ℕ) a ≤ S1024x1024.size a)
    (iW : ∀ a, (![0, c0] : Fin 2 → ℕ) a + (![1024, 256] : Fin 2 → ℕ) a ≤ S1024x5376.size a)
    (r : Fin 512) (R : Fin 1024) (hR : R.val = o + r.val) (e : Fin 256) :
    lin (row (k0_pay1 (View.ld X (Rect.unit (s := S1024x1024) ![o, 0] ![512, 1024] iX)) G) r)
        (tab (View.ld W (Rect.unit (s := S1024x5376) ![0, c0] ![1024, 256] iW))) e = valRow X G W c0 hc R e := by
  rw [row_norm]
  unfold View.ld
  have a0 := ld_row X o iX r R hR
  have a1 := ld_cols W c0 hc iW
  rw [a0, a1]
  rfl

theorem slab_lo (o c0 : ℕ) (ho : o ≤ 512) (hc : c0 + 256 ≤ 5376) (iX : ∀ a, (![o, 0] : Fin 2 → ℕ) a + (![512, 1024] : Fin 2 → ℕ) a ≤ S1024x1024.size a)
    (iW : ∀ a, (![0, c0] : Fin 2 → ℕ) a + (![1024, 256] : Fin 2 → ℕ) a ≤ S1024x5376.size a) (r : Fin 512) (l : Fin 128) :
    k0_pay46 (k0_pay1 (View.ld X (Rect.unit (s := S1024x1024) ![o, 0] ![512, 1024] iX)) G)
        (View.ld W (Rect.unit (s := S1024x5376) ![0, c0] ![1024, 256] iW)) (ix3 0 r l) = valRow X G W c0 hc ⟨o + r.val, by omega⟩ ⟨0 + l.val, by omega⟩ :=
  (pay_slab_lo _ _ r l).trans (valRow_half X G W o c0 hc iX iW r _ rfl _)

theorem slab_hi (o c0 : ℕ) (ho : o ≤ 512) (hc : c0 + 256 ≤ 5376) (iX : ∀ a, (![o, 0] : Fin 2 → ℕ) a + (![512, 1024] : Fin 2 → ℕ) a ≤ S1024x1024.size a)
    (iW : ∀ a, (![0, c0] : Fin 2 → ℕ) a + (![1024, 256] : Fin 2 → ℕ) a ≤ S1024x5376.size a) (r : Fin 512) (l : Fin 128) :
    k0_pay52 (k0_pay45 (k0_pay1 (View.ld X (Rect.unit (s := S1024x1024) ![o, 0] ![512, 1024] iX)) G)
        (View.ld W (Rect.unit (s := S1024x5376) ![0, c0] ![1024, 256] iW))) (ix3 0 r l) = valRow X G W c0 hc ⟨o + r.val, by omega⟩ ⟨128 + l.val, by omega⟩ :=
  (pay_slab_hi _ _ r l).trans (valRow_half X G W o c0 hc iX iW r _ rfl _)

theorem piece_1 (o : ℕ) (iX : ∀ a, (![o, 0] : Fin 2 → ℕ) a + (![512, 1024] : Fin 2 → ℕ) a ≤ S1024x1024.size a)
    (iW : ∀ a, (![0, 1536] : Fin 2 → ℕ) a + (![1024, 256] : Fin 2 → ℕ) a ≤ S1024x5376.size a)
    (inb : ∀ i, (![0, 2, 0, o, 0] : Fin 5 → ℕ) i + (![1, 1, 1, 512, 256] : Fin 5 → ℕ) i ≤ S1x3x1x1024x256.size i)
    (x : (Rect.unit (s := S1x3x1x1024x256) ![0, 2, 0, o, 0] ![1, 1, 1, 512, 256] inb).shape.Idx) :
    k0_pay14 (k0_pay1 (View.ld X (Rect.unit (s := S1024x1024) ![o, 0] ![512, 1024] iX)) G)
        (View.ld W (Rect.unit (s := S1024x5376) ![0, 1536] ![1024, 256] iW)) x
      = valRow X G W 1536 (by omega) (((Rect.unit (s := S1x3x1x1024x256) ![0, 2, 0, o, 0] ![1, 1, 1, 512, 256] inb).emb x) 3) (((Rect.unit (s := S1x3x1x1024x256) ![0, 2, 0, o, 0] ![1, 1, 1, 512, 256] inb).emb x) 4) := by
  idx_vars x
  obtain rfl : x0 = 0 := Subsingleton.elim _ _
  obtain rfl : x1 = 0 := Subsingleton.elim _ _
  obtain rfl : x2 = 0 := Subsingleton.elim _ _
  refine (pay_value _ _ x3 x4).trans ?_
  refine (valRow_half X G W o 1536 (by omega) iX iW x3 (((Rect.unit (s := S1x3x1x1024x256) ![0, 2, 0, o, 0] ![1, 1, 1, 512, 256] inb).emb (ix5 0 0 0 x3 x4)) 3) (by show o + 1 * x3.val = o + x3.val; omega) x4).trans ?_
  refine congrArg (valRow X G W 1536 _ _) (Fin.ext ?_)
  show x4.val = 0 + 1 * x4.val
  omega

end

theorem which_1 (w r a b : ℕ) (inb : ∀ i, (![0, w, r, a, b] : Fin 5 → ℕ) i + (![1, 1, 1, 512, 256] : Fin 5 → ℕ) i ≤ S1x3x1x1024x256.size i) (hw : w ≠ 2)
    (x : (Rect.unit (s := S1x3x1x1024x256) ![0, w, r, a, b] ![1, 1, 1, 512, 256] inb).shape.Idx)
    (h : (((Rect.unit (s := S1x3x1x1024x256) ![0, w, r, a, b] ![1, 1, 1, 512, 256] inb).emb x) 1).val = 2) : False := by
  have h1 : (x 1).val < 1 := (x 1).isLt
  have h2 : w + 1 * (x 1).val = 2 := h
  omega

theorem read_4 (v : Vec Ideal S1x128x128 .f32) (k : Fin 128) (l : Fin 128) : k0_pay47 v (ix5 0 0 0 k l) = v (ix3 0 k l) := by
  pointwise [k0_pay47]

theorem which_4 (w r a b : ℕ) (inb : ∀ i, (![0, w, r, a, b] : Fin 5 → ℕ) i + (![1, 1, 1, 128, 128] : Fin 5 → ℕ) i ≤ S1x3x4x256x256.size i) (hw : w ≠ 2)
    (x : (Rect.unit (s := S1x3x4x256x256) ![0, w, r, a, b] ![1, 1, 1, 128, 128] inb).shape.Idx)
    (h : (((Rect.unit (s := S1x3x4x256x256) ![0, w, r, a, b] ![1, 1, 1, 128, 128] inb).emb x) 1).val = 2) : False := by
  have h1 : (x 1).val < 1 := (x 1).isLt
  have h2 : w + 1 * (x 1).val = 2 := h
  omega

/-- The block the values of a table of rows make, row `4 k + r` at entry `k` of part `r`. -/
def tile_4 (H : Fin 1024 → Fin 256 → EReal) : S1x3x4x256x256.Idx → EReal := fun y =>
  H ⟨4 * (y 3).val + (y 2).val, by have h3 : (y 3).val < 256 := (y 3).isLt; have h2 : (y 2).val < 4 := (y 2).isLt; omega⟩ (y 4)

/-- A part of a slab, every 4-th row from row `r`, as stored. -/
theorem piece_4 (p : Vec Ideal S1x128x128 .f32 → Vec Ideal S1x1x1x128x128 .bf16) (hp : ∀ v (k : Fin 128) (l : Fin 128), p v (ix5 0 0 0 k l) = v (ix3 0 k l)) {sg : RefSig} {κ : Kind} {sp : Space} (v : View sg κ sp S24x512x128 .f32) (H : Fin 1024 → Fin 256 → EReal)
    (o q r a b : ℕ) (ho : o = 4 * a) (hoo : o ≤ 512) (hr : r < 4) (hb : b ≤ 128) (w : Vec Ideal S1x512x128 .f32) (L : List (View.Piece (Elt Ideal) S24x512x128 .f32))
    (hw : ∀ (row : Fin 512) (l : Fin 128), w (ix3 0 row l) = H ⟨o + row.val, by omega⟩ ⟨b + l.val, by omega⟩)
    (iq : ∀ i, (![q, 0, 0] : Fin 3 → ℕ) i + (![1, 512, 128] : Fin 3 → ℕ) i ≤ S24x512x128.size i)
    (ib : ∀ i, (![1, 128, 128] : Fin 3 → ℕ) i = 0 ∨ (![q, r, 0] : Fin 3 → ℕ) i + (![1, 4, 1] : Fin 3 → ℕ) i * ((![1, 128, 128] : Fin 3 → ℕ) i - 1) < S24x512x128.size i)
    (inb : ∀ i, (![0, 2, r, a, b] : Fin 5 → ℕ) i + (![1, 1, 1, 128, 128] : Fin 5 → ℕ) i ≤ S1x3x4x256x256.size i)
    (x : (Rect.unit (s := S1x3x4x256x256) ![0, 2, r, a, b] ![1, 1, 1, 128, 128] inb).shape.Idx) :
    p (v.readCov (Val := Elt Ideal) (List.cons (α := View.Piece (Elt Ideal) S24x512x128 .f32) (⟨Rect.unit (s := S24x512x128) ![q, 0, 0] ![1, 512, 128] iq, w⟩ : View.Piece (Elt Ideal) S24x512x128 .f32) L)
        ⟨![q, r, 0], ![1, 128, 128], ![1, 4, 1], ib⟩) x
      = tile_4 H ((Rect.unit (s := S1x3x4x256x256) ![0, 2, r, a, b] ![1, 1, 1, 128, 128] inb).emb x) := by
  idx_vars x
  obtain rfl : x0 = 0 := Subsingleton.elim _ _
  obtain rfl : x1 = 0 := Subsingleton.elim _ _
  obtain rfl : x2 = 0 := Subsingleton.elim _ _
  refine (hp _ x3 x4).trans ?_
  rw [View.readCov_eq_canon']
  have hidx : (⟨![q, r, 0], ![1, 128, 128], ![1, 4, 1], ib⟩ : LoadRect S24x512x128).idx (ix3 0 x3 x4)
      = (Rect.unit (s := S24x512x128) ![q, 0, 0] ![1, 512, 128] iq).emb (ix3 0 (⟨r + 4 * x3.val, by omega⟩ : Fin 512) x4) := by
    refine funext fun i => Fin.ext ?_
    match i with
    | ⟨0, _⟩ => rfl
    | ⟨1, _⟩ => show r + 4 * x3.val = 0 + 1 * (r + 4 * x3.val); omega
    | ⟨2, _⟩ => rfl
  refine (congrArg (View.canon _) hidx).trans ?_
  refine (View.canon_cons_emb (Rect.unit (s := S24x512x128) ![q, 0, 0] ![1, 512, 128] iq) w L _).trans ?_
  refine (hw _ _).trans ?_
  unfold tile_4
  refine congr (congrArg H (Fin.ext ?_)) (Fin.ext ?_)
  · show o + (r + 4 * x3.val) = 4 * (a + 1 * x3.val) + (r + 1 * 0); omega
  · show b + x4.val = b + 1 * x4.val; omega

theorem read_16 (v : Vec Ideal S1x32x128 .f32) (k : Fin 32) (l : Fin 128) : k0_pay139 v (ix5 0 0 0 k l) = v (ix3 0 k l) := by
  pointwise [k0_pay139]

theorem which_16 (w r a b : ℕ) (inb : ∀ i, (![0, w, r, a, b] : Fin 5 → ℕ) i + (![1, 1, 1, 32, 128] : Fin 5 → ℕ) i ≤ S1x3x16x64x256.size i) (hw : w ≠ 2)
    (x : (Rect.unit (s := S1x3x16x64x256) ![0, w, r, a, b] ![1, 1, 1, 32, 128] inb).shape.Idx)
    (h : (((Rect.unit (s := S1x3x16x64x256) ![0, w, r, a, b] ![1, 1, 1, 32, 128] inb).emb x) 1).val = 2) : False := by
  have h1 : (x 1).val < 1 := (x 1).isLt
  have h2 : w + 1 * (x 1).val = 2 := h
  omega

/-- The block the values of a table of rows make, row `16 k + r` at entry `k` of part `r`. -/
def tile_16 (H : Fin 1024 → Fin 256 → EReal) : S1x3x16x64x256.Idx → EReal := fun y =>
  H ⟨16 * (y 3).val + (y 2).val, by have h3 : (y 3).val < 64 := (y 3).isLt; have h2 : (y 2).val < 16 := (y 2).isLt; omega⟩ (y 4)

/-- A part of a slab, every 16-th row from row `r`, as stored. -/
theorem piece_16 (p : Vec Ideal S1x32x128 .f32 → Vec Ideal S1x1x1x32x128 .bf16) (hp : ∀ v (k : Fin 32) (l : Fin 128), p v (ix5 0 0 0 k l) = v (ix3 0 k l)) {sg : RefSig} {κ : Kind} {sp : Space} (v : View sg κ sp S24x512x128 .f32) (H : Fin 1024 → Fin 256 → EReal)
    (o q r a b : ℕ) (ho : o = 16 * a) (hoo : o ≤ 512) (hr : r < 16) (hb : b ≤ 128) (w : Vec Ideal S1x512x128 .f32) (L : List (View.Piece (Elt Ideal) S24x512x128 .f32))
    (hw : ∀ (row : Fin 512) (l : Fin 128), w (ix3 0 row l) = H ⟨o + row.val, by omega⟩ ⟨b + l.val, by omega⟩)
    (iq : ∀ i, (![q, 0, 0] : Fin 3 → ℕ) i + (![1, 512, 128] : Fin 3 → ℕ) i ≤ S24x512x128.size i)
    (ib : ∀ i, (![1, 32, 128] : Fin 3 → ℕ) i = 0 ∨ (![q, r, 0] : Fin 3 → ℕ) i + (![1, 16, 1] : Fin 3 → ℕ) i * ((![1, 32, 128] : Fin 3 → ℕ) i - 1) < S24x512x128.size i)
    (inb : ∀ i, (![0, 2, r, a, b] : Fin 5 → ℕ) i + (![1, 1, 1, 32, 128] : Fin 5 → ℕ) i ≤ S1x3x16x64x256.size i)
    (x : (Rect.unit (s := S1x3x16x64x256) ![0, 2, r, a, b] ![1, 1, 1, 32, 128] inb).shape.Idx) :
    p (v.readCov (Val := Elt Ideal) (List.cons (α := View.Piece (Elt Ideal) S24x512x128 .f32) (⟨Rect.unit (s := S24x512x128) ![q, 0, 0] ![1, 512, 128] iq, w⟩ : View.Piece (Elt Ideal) S24x512x128 .f32) L)
        ⟨![q, r, 0], ![1, 32, 128], ![1, 16, 1], ib⟩) x
      = tile_16 H ((Rect.unit (s := S1x3x16x64x256) ![0, 2, r, a, b] ![1, 1, 1, 32, 128] inb).emb x) := by
  idx_vars x
  obtain rfl : x0 = 0 := Subsingleton.elim _ _
  obtain rfl : x1 = 0 := Subsingleton.elim _ _
  obtain rfl : x2 = 0 := Subsingleton.elim _ _
  refine (hp _ x3 x4).trans ?_
  rw [View.readCov_eq_canon']
  have hidx : (⟨![q, r, 0], ![1, 32, 128], ![1, 16, 1], ib⟩ : LoadRect S24x512x128).idx (ix3 0 x3 x4)
      = (Rect.unit (s := S24x512x128) ![q, 0, 0] ![1, 512, 128] iq).emb (ix3 0 (⟨r + 16 * x3.val, by omega⟩ : Fin 512) x4) := by
    refine funext fun i => Fin.ext ?_
    match i with
    | ⟨0, _⟩ => rfl
    | ⟨1, _⟩ => show r + 16 * x3.val = 0 + 1 * (r + 16 * x3.val); omega
    | ⟨2, _⟩ => rfl
  refine (congrArg (View.canon _) hidx).trans ?_
  refine (View.canon_cons_emb (Rect.unit (s := S24x512x128) ![q, 0, 0] ![1, 512, 128] iq) w L _).trans ?_
  refine (hw _ _).trans ?_
  unfold tile_16
  refine congr (congrArg H (Fin.ext ?_)) (Fin.ext ?_)
  · show o + (r + 16 * x3.val) = 16 * (a + 1 * x3.val) + (r + 1 * 0); omega
  · show b + x4.val = b + 1 * x4.val; omega

end Cert.Inproj
-- ==== Proof.InValPoint.lean ====
/- One grid point of the input projection: what the values of the query, key and value blocks hold after it. -/
module

public import proofs.«01_k».proof.Proof.Gen.InprojIdeal.Frame
public import proofs.«01_k».proof.Proof.InVal
public import Idealize.ShloMosaic.Lib.Pipeline.ValueKit
public import Idealize.ShloMosaic.Lib.Claim

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

variable (m : (ℓ : Loc nD τ sig) → Buf (Elt Ideal) ℓ) (c : Dev nD)

set_option maxHeartbeats 2000000 in
/-- The values of dilation 1: the block after a grid point holds the values of the block's tokens. -/
theorem at12 (t : Fin cfg0.N) (y : S1x3x1x1024x256.Idx) (hy : (y 1).val = 2) : (outsAt0 m c t).1 y = (fun y : S1x3x1x1024x256.Idx => valRow (iblk m c 0 t : Vec Ideal S1024x1024 .f32) (iblk m c 4 t : Vec Ideal S1x1024 .f32) (iblk m c 5 t : Vec Ideal S1024x5376 .bf16) 1536 (by omega) (y 3) (y 4)) y := by
  unfold outsAt0; frame_out
  refine canon_on (S := S1x3x1x1024x256) (e := .bf16) (fun y => (y 1).val = 2) ((fun y : S1x3x1x1024x256.Idx => valRow (iblk m c 0 t : Vec Ideal S1024x1024 .f32) (iblk m c 4 t : Vec Ideal S1x1024 .f32) (iblk m c 5 t : Vec Ideal S1024x5376 .bf16) 1536 (by omega) (y 3) (y 4))) _ ?_ y hy ?_
  · refine agree_cons (fun x _ => piece_1 (iblk m c 0 t) (iblk m c 4 t) (iblk m c 5 t) 512 _ _ inb_S1x3x1x1024x256_S1x1x1x512x256_0_2_0_512_0 x) ?_
    refine agree_cons (fun x h => (which_1 1 0 512 0 inb_S1x3x1x1024x256_S1x1x1x512x256_0_1_0_512_0 (by decide) x h).elim) ?_
    refine agree_cons (fun x h => (which_1 0 0 512 0 inb_S1x3x1x1024x256_S1x1x1x512x256_0_0_0_512_0 (by decide) x h).elim) ?_
    refine agree_cons (fun x _ => piece_1 (iblk m c 0 t) (iblk m c 4 t) (iblk m c 5 t) 0 _ _ inb_S1x3x1x1024x256_S1x1x1x512x256_0_2_0_0_0 x) ?_
    refine agree_cons (fun x h => (which_1 1 0 0 0 inb_S1x3x1x1024x256_S1x1x1x512x256_0_1_0_0_0 (by decide) x h).elim) ?_
    refine agree_cons (fun x h => (which_1 0 0 0 0 inb_S1x3x1x1024x256_S1x1x1x512x256_0_0_0_0_0 (by decide) x h).elim) ?_
    exact trivial
  · exact View.cover_of_tiledL _ ![1, 1, 1, 512, 256] (by sl_kernel_rfl) y

end Cert.Inproj
-- ==== Proof.InValRun.lean ====
/- The run of the input projection: the values of the group of dilation 1. -/
module

public import proofs.«01_k».proof.Proof.InRun
public import proofs.«01_k».proof.Proof.InValSpec
public import proofs.«01_k».proof.Proof.InValPoint

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

variable (m : (ℓ : Loc nD τ sig) → Buf (Elt Ideal) ℓ) (c : Dev nD)

theorem fin12 (i : S16x3x1x4096x256.Idx) : (i 1).val = 2 → (dats m 0 c).arrAt 12 cfg0.N i = outV1 (m ((c : Thread nD τ).loc main_arg0)) (m ((c : Thread nD τ).loc main_arg2)) (m ((c : Thread nD τ).loc main_arg3)) i := by
  refine (dats m 0 c).arrAt_forall_of_covers 12 (fun (i : S16x3x1x4096x256.Idx) (v : EReal) => (i 1).val = 2 → v = outV1 (m ((c : Thread nD τ).loc main_arg0)) (m ((c : Thread nD τ).loc main_arg2)) (m ((c : Thread nD τ).loc main_arg3)) i) (by decide +kernel) (fun t hf y => ?_) i
  blk_simp
  rw [after0_12]
  have ht := t_lt t
  idx_vars y
  generalize hE : ((View.whole main_v35_0).slice (win0_12.rect t)).emb (ix5 y0 y1 y2 y3 y4) = E
  have e0 : (E 0).val = t.val / 4 + y0.val := by rw [← hE]; blk_simp [idxs t]
  have e2 : (E 2).val = y2.val := by rw [← hE]; blk_simp [idxs t]
  have e3 : (E 3).val = t.val % 4 * 1024 + y3.val := by rw [← hE]; blk_simp [idxs t]
  have e4 : (E 4).val = y4.val := by rw [← hE]; blk_simp [idxs t]
  intro h
  have i1 : win0_12.index t 1 = 0 := by simp [idxs t]
  rw [i1] at h
  have h1 : y1.val = 2 := by omega
  refine (at12 m c t (ix5 y0 y1 y2 y3 y4) h1).trans ?_
  have hR : ∀ R : Fin 1024, valRow (iblk m c 0 t : Vec Ideal S1024x1024 .f32) (iblk m c 4 t : Vec Ideal S1x1024 .f32) (iblk m c 5 t : Vec Ideal S1024x5376 .bf16) 1536 (by omega) R
      = valAt (m ((c : Thread nD τ).loc main_arg0)) (m ((c : Thread nD τ).loc main_arg2)) (m ((c : Thread nD τ).loc main_arg3)) 1536 (by omega) (tok t R) := fun R => by
    unfold valRow valAt
    rw [block_z, block_w]
  have hy : y0.val = 0 := by omega
  refine (congrFun (hR _) _).trans ?_
  unfold outV1
  refine congr (congrArg (valAt _ _ _ 1536 _) (Fin.ext ?_)) (Fin.ext e4.symm)
  show t.val * 1024 + y3.val = (E 0).val * 4096 + (E 3).val * 1 + (E 2).val
  omega

end Cert.Inproj
-- ==== Proof.InValPointA.lean ====
/- One grid point of the input projection: what the values of the query, key and value blocks hold after it. -/
module

public import proofs.«01_k».proof.Proof.Gen.InprojIdeal.Frame
public import proofs.«01_k».proof.Proof.InVal
public import Idealize.ShloMosaic.Lib.Pipeline.ValueKit
public import Idealize.ShloMosaic.Lib.Claim

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

variable (m : (ℓ : Loc nD τ sig) → Buf (Elt Ideal) ℓ) (c : Dev nD)

set_option maxHeartbeats 2000000 in
/-- The values of dilation 4: the block after a grid point holds the values of the block's tokens. -/
theorem at13 (t : Fin cfg0.N) (y : S1x3x4x256x256.Idx) (hy : (y 1).val = 2) : (outsAt0 m c t).2.1 y = tile_4 (valRow (iblk m c 0 t : Vec Ideal S1024x1024 .f32) (iblk m c 4 t : Vec Ideal S1x1024 .f32) (iblk m c 5 t : Vec Ideal S1024x5376 .bf16) 1792 (by omega)) y := by
  unfold outsAt0; frame_out
  refine canon_on (S := S1x3x4x256x256) (e := .bf16) (fun y => (y 1).val = 2) (tile_4 (valRow (iblk m c 0 t : Vec Ideal S1024x1024 .f32) (iblk m c 4 t : Vec Ideal S1x1024 .f32) (iblk m c 5 t : Vec Ideal S1024x5376 .bf16) 1792 (by omega))) _ ?_ y hy ?_
  · refine agree_cons (fun x _ => ?_) ?_
    · refine piece_4 k0_pay259 (fun v k l => read_4 v k l) _ (valRow (iblk m c 0 t) (iblk m c 4 t) (iblk m c 5 t) 1792 (by omega)) 512 17 3 128 128 (by decide) (by decide) (by decide) (by decide) _ _ ?_ inb_S24x512x128_S1x512x128_17_0_0 inb_S24x512x128_S1x128x128_17_3_0_s_1_4_1 inb_S1x3x4x256x256_S1x1x1x128x128_0_2_3_128_128 x
      exact slab_hi (iblk m c 0 t) (iblk m c 4 t) (iblk m c 5 t) 512 1792 (by decide) (by decide) inb_S1024x1024_S512x1024_512_0 inb_S1024x5376_S1024x256_0_1792
    refine agree_cons (fun x _ => ?_) ?_
    · refine piece_4 k0_pay258 (fun v k l => read_4 v k l) _ (valRow (iblk m c 0 t) (iblk m c 4 t) (iblk m c 5 t) 1792 (by omega)) 512 17 2 128 128 (by decide) (by decide) (by decide) (by decide) _ _ ?_ inb_S24x512x128_S1x512x128_17_0_0 inb_S24x512x128_S1x128x128_17_2_0_s_1_4_1 inb_S1x3x4x256x256_S1x1x1x128x128_0_2_2_128_128 x
      exact slab_hi (iblk m c 0 t) (iblk m c 4 t) (iblk m c 5 t) 512 1792 (by decide) (by decide) inb_S1024x1024_S512x1024_512_0 inb_S1024x5376_S1024x256_0_1792
    refine agree_cons (fun x _ => ?_) ?_
    · refine piece_4 k0_pay257 (fun v k l => read_4 v k l) _ (valRow (iblk m c 0 t) (iblk m c 4 t) (iblk m c 5 t) 1792 (by omega)) 512 17 1 128 128 (by decide) (by decide) (by decide) (by decide) _ _ ?_ inb_S24x512x128_S1x512x128_17_0_0 inb_S24x512x128_S1x128x128_17_1_0_s_1_4_1 inb_S1x3x4x256x256_S1x1x1x128x128_0_2_1_128_128 x
      exact slab_hi (iblk m c 0 t) (iblk m c 4 t) (iblk m c 5 t) 512 1792 (by decide) (by decide) inb_S1024x1024_S512x1024_512_0 inb_S1024x5376_S1024x256_0_1792
    refine agree_cons (fun x _ => ?_) ?_
    · refine piece_4 k0_pay256 (fun v k l => read_4 v k l) _ (valRow (iblk m c 0 t) (iblk m c 4 t) (iblk m c 5 t) 1792 (by omega)) 512 17 0 128 128 (by decide) (by decide) (by decide) (by decide) _ _ ?_ inb_S24x512x128_S1x512x128_17_0_0 inb_S24x512x128_S1x128x128_17_0_0_s_1_4_1 inb_S1x3x4x256x256_S1x1x1x128x128_0_2_0_128_128 x
      exact slab_hi (iblk m c 0 t) (iblk m c 4 t) (iblk m c 5 t) 512 1792 (by decide) (by decide) inb_S1024x1024_S512x1024_512_0 inb_S1024x5376_S1024x256_0_1792
    refine agree_cons (fun x _ => ?_) ?_
    · refine piece_4 k0_pay254 (fun v k l => read_4 v k l) _ (valRow (iblk m c 0 t) (iblk m c 4 t) (iblk m c 5 t) 1792 (by omega)) 512 16 3 128 0 (by decide) (by decide) (by decide) (by decide) _ _ ?_ inb_S24x512x128_S1x512x128_16_0_0 inb_S24x512x128_S1x128x128_16_3_0_s_1_4_1 inb_S1x3x4x256x256_S1x1x1x128x128_0_2_3_128_0 x
      exact slab_lo (iblk m c 0 t) (iblk m c 4 t) (iblk m c 5 t) 512 1792 (by decide) (by decide) inb_S1024x1024_S512x1024_512_0 inb_S1024x5376_S1024x256_0_1792
    refine agree_cons (fun x _ => ?_) ?_
    · refine piece_4 k0_pay253 (fun v k l => read_4 v k l) _ (valRow (iblk m c 0 t) (iblk m c 4 t) (iblk m c 5 t) 1792 (by omega)) 512 16 2 128 0 (by decide) (by decide) (by decide) (by decide) _ _ ?_ inb_S24x512x128_S1x512x128_16_0_0 inb_S24x512x128_S1x128x128_16_2_0_s_1_4_1 inb_S1x3x4x256x256_S1x1x1x128x128_0_2_2_128_0 x
      exact slab_lo (iblk m c 0 t) (iblk m c 4 t) (iblk m c 5 t) 512 1792 (by decide) (by decide) inb_S1024x1024_S512x1024_512_0 inb_S1024x5376_S1024x256_0_1792
    refine agree_cons (fun x _ => ?_) ?_
    · refine piece_4 (fun v => k0_pay252 (k0_pay251 v)) (fun v k l => read_4 v k l) _ (valRow (iblk m c 0 t) (iblk m c 4 t) (iblk m c 5 t) 1792 (by omega)) 512 16 1 128 0 (by decide) (by decide) (by decide) (by decide) _ _ ?_ inb_S24x512x128_S1x512x128_16_0_0 inb_S24x512x128_S1x128x128_16_1_0_s_1_4_1 inb_S1x3x4x256x256_S1x1x1x128x128_0_2_1_128_0 x
      exact slab_lo (iblk m c 0 t) (iblk m c 4 t) (iblk m c 5 t) 512 1792 (by decide) (by decide) inb_S1024x1024_S512x1024_512_0 inb_S1024x5376_S1024x256_0_1792
    refine agree_cons (fun x _ => ?_) ?_
    · refine piece_4 k0_pay250 (fun v k l => read_4 v k l) _ (valRow (iblk m c 0 t) (iblk m c 4 t) (iblk m c 5 t) 1792 (by omega)) 512 16 0 128 0 (by decide) (by decide) (by decide) (by decide) _ _ ?_ inb_S24x512x128_S1x512x128_16_0_0 inb_S24x512x128_S1x128x128_16_0_0_s_1_4_1 inb_S1x3x4x256x256_S1x1x1x128x128_0_2_0_128_0 x
      exact slab_lo (iblk m c 0 t) (iblk m c 4 t) (iblk m c 5 t) 512 1792 (by decide) (by decide) inb_S1024x1024_S512x1024_512_0 inb_S1024x5376_S1024x256_0_1792
    refine agree_cons (fun x h => (which_4 1 3 128 128 inb_S1x3x4x256x256_S1x1x1x128x128_0_1_3_128_128 (by decide) x h).elim) ?_
    refine agree_cons (fun x h => (which_4 1 2 128 128 inb_S1x3x4x256x256_S1x1x1x128x128_0_1_2_128_128 (by decide) x h).elim) ?_
    refine agree_cons (fun x h => (which_4 1 1 128 128 inb_S1x3x4x256x256_S1x1x1x128x128_0_1_1_128_128 (by decide) x h).elim) ?_
    refine agree_cons (fun x h => (which_4 1 0 128 128 inb_S1x3x4x256x256_S1x1x1x128x128_0_1_0_128_128 (by decide) x h).elim) ?_
    refine agree_cons (fun x h => (which_4 1 3 128 0 inb_S1x3x4x256x256_S1x1x1x128x128_0_1_3_128_0 (by decide) x h).elim) ?_
    refine agree_cons (fun x h => (which_4 1 2 128 0 inb_S1x3x4x256x256_S1x1x1x128x128_0_1_2_128_0 (by decide) x h).elim) ?_
    refine agree_cons (fun x h => (which_4 1 1 128 0 inb_S1x3x4x256x256_S1x1x1x128x128_0_1_1_128_0 (by decide) x h).elim) ?_
    refine agree_cons (fun x h => (which_4 1 0 128 0 inb_S1x3x4x256x256_S1x1x1x128x128_0_1_0_128_0 (by decide) x h).elim) ?_
    refine agree_cons (fun x h => (which_4 0 3 128 128 inb_S1x3x4x256x256_S1x1x1x128x128_0_0_3_128_128 (by decide) x h).elim) ?_
    refine agree_cons (fun x h => (which_4 0 2 128 128 inb_S1x3x4x256x256_S1x1x1x128x128_0_0_2_128_128 (by decide) x h).elim) ?_
    refine agree_cons (fun x h => (which_4 0 1 128 128 inb_S1x3x4x256x256_S1x1x1x128x128_0_0_1_128_128 (by decide) x h).elim) ?_
    refine agree_cons (fun x h => (which_4 0 0 128 128 inb_S1x3x4x256x256_S1x1x1x128x128_0_0_0_128_128 (by decide) x h).elim) ?_
    refine agree_cons (fun x h => (which_4 0 3 128 0 inb_S1x3x4x256x256_S1x1x1x128x128_0_0_3_128_0 (by decide) x h).elim) ?_
    refine agree_cons (fun x h => (which_4 0 2 128 0 inb_S1x3x4x256x256_S1x1x1x128x128_0_0_2_128_0 (by decide) x h).elim) ?_
    refine agree_cons (fun x h => (which_4 0 1 128 0 inb_S1x3x4x256x256_S1x1x1x128x128_0_0_1_128_0 (by decide) x h).elim) ?_
    refine agree_cons (fun x h => (which_4 0 0 128 0 inb_S1x3x4x256x256_S1x1x1x128x128_0_0_0_128_0 (by decide) x h).elim) ?_
    refine agree_cons (fun x _ => ?_) ?_
    · refine piece_4 k0_pay56 (fun v k l => read_4 v k l) _ (valRow (iblk m c 0 t) (iblk m c 4 t) (iblk m c 5 t) 1792 (by omega)) 0 5 3 0 128 (by decide) (by decide) (by decide) (by decide) _ _ ?_ inb_S24x512x128_S1x512x128_5_0_0 inb_S24x512x128_S1x128x128_5_3_0_s_1_4_1 inb_S1x3x4x256x256_S1x1x1x128x128_0_2_3_0_128 x
      exact slab_hi (iblk m c 0 t) (iblk m c 4 t) (iblk m c 5 t) 0 1792 (by decide) (by decide) inb_S1024x1024_S512x1024_0_0 inb_S1024x5376_S1024x256_0_1792
    refine agree_cons (fun x _ => ?_) ?_
    · refine piece_4 k0_pay55 (fun v k l => read_4 v k l) _ (valRow (iblk m c 0 t) (iblk m c 4 t) (iblk m c 5 t) 1792 (by omega)) 0 5 2 0 128 (by decide) (by decide) (by decide) (by decide) _ _ ?_ inb_S24x512x128_S1x512x128_5_0_0 inb_S24x512x128_S1x128x128_5_2_0_s_1_4_1 inb_S1x3x4x256x256_S1x1x1x128x128_0_2_2_0_128 x
      exact slab_hi (iblk m c 0 t) (iblk m c 4 t) (iblk m c 5 t) 0 1792 (by decide) (by decide) inb_S1024x1024_S512x1024_0_0 inb_S1024x5376_S1024x256_0_1792
    refine agree_cons (fun x _ => ?_) ?_
    · refine piece_4 k0_pay54 (fun v k l => read_4 v k l) _ (valRow (iblk m c 0 t) (iblk m c 4 t) (iblk m c 5 t) 1792 (by omega)) 0 5 1 0 128 (by decide) (by decide) (by decide) (by decide) _ _ ?_ inb_S24x512x128_S1x512x128_5_0_0 inb_S24x512x128_S1x128x128_5_1_0_s_1_4_1 inb_S1x3x4x256x256_S1x1x1x128x128_0_2_1_0_128 x
      exact slab_hi (iblk m c 0 t) (iblk m c 4 t) (iblk m c 5 t) 0 1792 (by decide) (by decide) inb_S1024x1024_S512x1024_0_0 inb_S1024x5376_S1024x256_0_1792
    refine agree_cons (fun x _ => ?_) ?_
    · refine piece_4 k0_pay53 (fun v k l => read_4 v k l) _ (valRow (iblk m c 0 t) (iblk m c 4 t) (iblk m c 5 t) 1792 (by omega)) 0 5 0 0 128 (by decide) (by decide) (by decide) (by decide) _ _ ?_ inb_S24x512x128_S1x512x128_5_0_0 inb_S24x512x128_S1x128x128_5_0_0_s_1_4_1 inb_S1x3x4x256x256_S1x1x1x128x128_0_2_0_0_128 x
      exact slab_hi (iblk m c 0 t) (iblk m c 4 t) (iblk m c 5 t) 0 1792 (by decide) (by decide) inb_S1024x1024_S512x1024_0_0 inb_S1024x5376_S1024x256_0_1792
    refine agree_cons (fun x _ => ?_) ?_
    · refine piece_4 k0_pay51 (fun v k l => read_4 v k l) _ (valRow (iblk m c 0 t) (iblk m c 4 t) (iblk m c 5 t) 1792 (by omega)) 0 4 3 0 0 (by decide) (by decide) (by decide) (by decide) _ _ ?_ inb_S24x512x128_S1x512x128_4_0_0 inb_S24x512x128_S1x128x128_4_3_0_s_1_4_1 inb_S1x3x4x256x256_S1x1x1x128x128_0_2_3_0_0 x
      exact slab_lo (iblk m c 0 t) (iblk m c 4 t) (iblk m c 5 t) 0 1792 (by decide) (by decide) inb_S1024x1024_S512x1024_0_0 inb_S1024x5376_S1024x256_0_1792
    refine agree_cons (fun x _ => ?_) ?_
    · refine piece_4 (fun v => k0_pay50 (k0_pay49 v)) (fun v k l => read_4 v k l) _ (valRow (iblk m c 0 t) (iblk m c 4 t) (iblk m c 5 t) 1792 (by omega)) 0 4 2 0 0 (by decide) (by decide) (by decide) (by decide) _ _ ?_ inb_S24x512x128_S1x512x128_4_0_0 inb_S24x512x128_S1x128x128_4_2_0_s_1_4_1 inb_S1x3x4x256x256_S1x1x1x128x128_0_2_2_0_0 x
      exact slab_lo (iblk m c 0 t) (iblk m c 4 t) (iblk m c 5 t) 0 1792 (by decide) (by decide) inb_S1024x1024_S512x1024_0_0 inb_S1024x5376_S1024x256_0_1792
    refine agree_cons (fun x _ => ?_) ?_
    · refine piece_4 k0_pay48 (fun v k l => read_4 v k l) _ (valRow (iblk m c 0 t) (iblk m c 4 t) (iblk m c 5 t) 1792 (by omega)) 0 4 1 0 0 (by decide) (by decide) (by decide) (by decide) _ _ ?_ inb_S24x512x128_S1x512x128_4_0_0 inb_S24x512x128_S1x128x128_4_1_0_s_1_4_1 inb_S1x3x4x256x256_S1x1x1x128x128_0_2_1_0_0 x
      exact slab_lo (iblk m c 0 t) (iblk m c 4 t) (iblk m c 5 t) 0 1792 (by decide) (by decide) inb_S1024x1024_S512x1024_0_0 inb_S1024x5376_S1024x256_0_1792
    refine agree_cons (fun x _ => ?_) ?_
    · refine piece_4 k0_pay47 (fun v k l => read_4 v k l) _ (valRow (iblk m c 0 t) (iblk m c 4 t) (iblk m c 5 t) 1792 (by omega)) 0 4 0 0 0 (by decide) (by decide) (by decide) (by decide) _ _ ?_ inb_S24x512x128_S1x512x128_4_0_0 inb_S24x512x128_S1x128x128_4_0_0_s_1_4_1 inb_S1x3x4x256x256_S1x1x1x128x128_0_2_0_0_0 x
      exact slab_lo (iblk m c 0 t) (iblk m c 4 t) (iblk m c 5 t) 0 1792 (by decide) (by decide) inb_S1024x1024_S512x1024_0_0 inb_S1024x5376_S1024x256_0_1792
    refine agree_cons (fun x h => (which_4 1 3 0 128 inb_S1x3x4x256x256_S1x1x1x128x128_0_1_3_0_128 (by decide) x h).elim) ?_
    refine agree_cons (fun x h => (which_4 1 2 0 128 inb_S1x3x4x256x256_S1x1x1x128x128_0_1_2_0_128 (by decide) x h).elim) ?_
    refine agree_cons (fun x h => (which_4 1 1 0 128 inb_S1x3x4x256x256_S1x1x1x128x128_0_1_1_0_128 (by decide) x h).elim) ?_
    refine agree_cons (fun x h => (which_4 1 0 0 128 inb_S1x3x4x256x256_S1x1x1x128x128_0_1_0_0_128 (by decide) x h).elim) ?_
    refine agree_cons (fun x h => (which_4 1 3 0 0 inb_S1x3x4x256x256_S1x1x1x128x128_0_1_3_0_0 (by decide) x h).elim) ?_
    refine agree_cons (fun x h => (which_4 1 2 0 0 inb_S1x3x4x256x256_S1x1x1x128x128_0_1_2_0_0 (by decide) x h).elim) ?_
    refine agree_cons (fun x h => (which_4 1 1 0 0 inb_S1x3x4x256x256_S1x1x1x128x128_0_1_1_0_0 (by decide) x h).elim) ?_
    refine agree_cons (fun x h => (which_4 1 0 0 0 inb_S1x3x4x256x256_S1x1x1x128x128_0_1_0_0_0 (by decide) x h).elim) ?_
    refine agree_cons (fun x h => (which_4 0 3 0 128 inb_S1x3x4x256x256_S1x1x1x128x128_0_0_3_0_128 (by decide) x h).elim) ?_
    refine agree_cons (fun x h => (which_4 0 2 0 128 inb_S1x3x4x256x256_S1x1x1x128x128_0_0_2_0_128 (by decide) x h).elim) ?_
    refine agree_cons (fun x h => (which_4 0 1 0 128 inb_S1x3x4x256x256_S1x1x1x128x128_0_0_1_0_128 (by decide) x h).elim) ?_
    refine agree_cons (fun x h => (which_4 0 0 0 128 inb_S1x3x4x256x256_S1x1x1x128x128_0_0_0_0_128 (by decide) x h).elim) ?_
    refine agree_cons (fun x h => (which_4 0 3 0 0 inb_S1x3x4x256x256_S1x1x1x128x128_0_0_3_0_0 (by decide) x h).elim) ?_
    refine agree_cons (fun x h => (which_4 0 2 0 0 inb_S1x3x4x256x256_S1x1x1x128x128_0_0_2_0_0 (by decide) x h).elim) ?_
    refine agree_cons (fun x h => (which_4 0 1 0 0 inb_S1x3x4x256x256_S1x1x1x128x128_0_0_1_0_0 (by decide) x h).elim) ?_
    refine agree_cons (fun x h => (which_4 0 0 0 0 inb_S1x3x4x256x256_S1x1x1x128x128_0_0_0_0_0 (by decide) x h).elim) ?_
    exact trivial
  · exact View.cover_of_tiledL _ ![1, 1, 1, 128, 128] (by sl_kernel_rfl) y

end Cert.Inproj
-- ==== Proof.InValRunA.lean ====
/- The run of the input projection: the values of the group of dilation 4. -/
module

public import proofs.«01_k».proof.Proof.InRun
public import proofs.«01_k».proof.Proof.InValSpec
public import proofs.«01_k».proof.Proof.InValPointA

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

variable (m : (ℓ : Loc nD τ sig) → Buf (Elt Ideal) ℓ) (c : Dev nD)

theorem fin13 (i : S16x3x4x1024x256.Idx) : (i 1).val = 2 → (dats m 0 c).arrAt 13 cfg0.N i = outV4 (m ((c : Thread nD τ).loc main_arg0)) (m ((c : Thread nD τ).loc main_arg2)) (m ((c : Thread nD τ).loc main_arg3)) i := by
  refine (dats m 0 c).arrAt_forall_of_covers 13 (fun (i : S16x3x4x1024x256.Idx) (v : EReal) => (i 1).val = 2 → v = outV4 (m ((c : Thread nD τ).loc main_arg0)) (m ((c : Thread nD τ).loc main_arg2)) (m ((c : Thread nD τ).loc main_arg3)) i) (by decide +kernel) (fun t hf y => ?_) i
  blk_simp
  rw [after0_13]
  have ht := t_lt t
  idx_vars y
  generalize hE : ((View.whole main_v35_1).slice (win0_13.rect t)).emb (ix5 y0 y1 y2 y3 y4) = E
  have e0 : (E 0).val = t.val / 4 + y0.val := by rw [← hE]; blk_simp [idxs t]
  have e2 : (E 2).val = y2.val := by rw [← hE]; blk_simp [idxs t]
  have e3 : (E 3).val = t.val % 4 * 256 + y3.val := by rw [← hE]; blk_simp [idxs t]
  have e4 : (E 4).val = y4.val := by rw [← hE]; blk_simp [idxs t]
  intro h
  have i1 : win0_13.index t 1 = 0 := by simp [idxs t]
  rw [i1] at h
  have h1 : y1.val = 2 := by omega
  refine (at13 m c t (ix5 y0 y1 y2 y3 y4) h1).trans ?_
  have hR : ∀ R : Fin 1024, valRow (iblk m c 0 t : Vec Ideal S1024x1024 .f32) (iblk m c 4 t : Vec Ideal S1x1024 .f32) (iblk m c 5 t : Vec Ideal S1024x5376 .bf16) 1792 (by omega) R
      = valAt (m ((c : Thread nD τ).loc main_arg0)) (m ((c : Thread nD τ).loc main_arg2)) (m ((c : Thread nD τ).loc main_arg3)) 1792 (by omega) (tok t R) := fun R => by
    unfold valRow valAt
    rw [block_z, block_w]
  have hy : y0.val = 0 := by omega
  refine (congrFun (hR _) _).trans ?_
  unfold outV4
  refine congr (congrArg (valAt _ _ _ 1792 _) (Fin.ext ?_)) (Fin.ext e4.symm)
  show t.val * 1024 + (4 * y3.val + y2.val) = (E 0).val * 4096 + (E 3).val * 4 + (E 2).val
  omega

end Cert.Inproj
-- ==== Proof.InValPointB.lean ====
/- One grid point of the input projection: what the values of the query, key and value blocks hold after it. -/
module

public import proofs.«01_k».proof.Proof.Gen.InprojIdeal.Frame
public import proofs.«01_k».proof.Proof.InVal
public import Idealize.ShloMosaic.Lib.Pipeline.ValueKit
public import Idealize.ShloMosaic.Lib.Claim

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

variable (m : (ℓ : Loc nD τ sig) → Buf (Elt Ideal) ℓ) (c : Dev nD)

set_option maxHeartbeats 2000000 in
/-- The values of dilation 16: the block after a grid point holds the values of the block's tokens. -/
theorem at14 (t : Fin cfg0.N) (y : S1x3x16x64x256.Idx) (hy : (y 1).val = 2) : (outsAt0 m c t).2.2.1 y = tile_16 (valRow (iblk m c 0 t : Vec Ideal S1024x1024 .f32) (iblk m c 4 t : Vec Ideal S1x1024 .f32) (iblk m c 5 t : Vec Ideal S1024x5376 .bf16) 2048 (by omega)) y := by
  unfold outsAt0; frame_out
  refine canon_on (S := S1x3x16x64x256) (e := .bf16) (fun y => (y 1).val = 2) (tile_16 (valRow (iblk m c 0 t : Vec Ideal S1024x1024 .f32) (iblk m c 4 t : Vec Ideal S1x1024 .f32) (iblk m c 5 t : Vec Ideal S1024x5376 .bf16) 2048 (by omega))) _ ?_ y hy ?_
  · refine agree_cons (fun x _ => ?_) ?_
    · refine piece_16 k0_pay387 (fun v k l => read_16 v k l) _ (valRow (iblk m c 0 t) (iblk m c 4 t) (iblk m c 5 t) 2048 (by omega)) 512 23 15 32 128 (by decide) (by decide) (by decide) (by decide) _ _ ?_ inb_S24x512x128_S1x512x128_23_0_0 inb_S24x512x128_S1x32x128_23_15_0_s_1_16_1 inb_S1x3x16x64x256_S1x1x1x32x128_0_2_15_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay386 (fun v k l => read_16 v k l) _ (valRow (iblk m c 0 t) (iblk m c 4 t) (iblk m c 5 t) 2048 (by omega)) 512 23 14 32 128 (by decide) (by decide) (by decide) (by decide) _ _ ?_ inb_S24x512x128_S1x512x128_23_0_0 inb_S24x512x128_S1x32x128_23_14_0_s_1_16_1 inb_S1x3x16x64x256_S1x1x1x32x128_0_2_14_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 (fun v => k0_pay385 (k0_pay384 v)) (fun v k l => read_16 v k l) _ (valRow (iblk m c 0 t) (iblk m c 4 t) (iblk m c 5 t) 2048 (by omega)) 512 23 13 32 128 (by decide) (by decide) (by decide) (by decide) _ _ ?_ inb_S24x512x128_S1x512x128_23_0_0 inb_S24x512x128_S1x32x128_23_13_0_s_1_16_1 inb_S1x3x16x64x256_S1x1x1x32x128_0_2_13_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay383 (fun v k l => read_16 v k l) _ (valRow (iblk m c 0 t) (iblk m c 4 t) (iblk m c 5 t) 2048 (by omega)) 512 23 12 32 128 (by decide) (by decide) (by decide) (by decide) _ _ ?_ inb_S24x512x128_S1x512x128_23_0_0 inb_S24x512x128_S1x32x128_23_12_0_s_1_16_1 inb_S1x3x16x64x256_S1x1x1x32x128_0_2_12_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay382 (fun v k l => read_16 v k l) _ (valRow (iblk m c 0 t) (iblk m c 4 t) (iblk m c 5 t) 2048 (by omega)) 512 23 11 32 128 (by decide) (by decide) (by decide) (by decide) _ _ ?_ inb_S24x512x128_S1x512x128_23_0_0 inb_S24x512x128_S1x32x128_23_11_0_s_1_16_1 inb_S1x3x16x64x256_S1x1x1x32x128_0_2_11_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay381 (fun v k l => read_16 v k l) _ (valRow (iblk m c 0 t) (iblk m c 4 t) (iblk m c 5 t) 2048 (by omega)) 512 23 10 32 128 (by decide) (by decide) (by decide) (by decide) _ _ ?_ inb_S24x512x128_S1x512x128_23_0_0 inb_S24x512x128_S1x32x128_23_10_0_s_1_16_1 inb_S1x3x16x64x256_S1x1x1x32x128_0_2_10_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 (fun v => k0_pay380 (k0_pay379 v)) (fun v k l => read_16 v k l) _ (valRow (iblk m c 0 t) (iblk m c 4 t) (iblk m c 5 t) 2048 (by omega)) 512 23 9 32 128 (by decide) (by decide) (by decide) (by decide) _ _ ?_ inb_S24x512x128_S1x512x128_23_0_0 inb_S24x512x128_S1x32x128_23_9_0_s_1_16_1 inb_S1x3x16x64x256_S1x1x1x32x128_0_2_9_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay378 (fun v k l => read_16 v k l) _ (valRow (iblk m c 0 t) (iblk m c 4 t) (iblk m c 5 t) 2048 (by omega)) 512 23 8 32 128 (by decide) (by decide) (by decide) (by decide) _ _ ?_ inb_S24x512x128_S1x512x128_23_0_0 inb_S24x512x128_S1x32x128_23_8_0_s_1_16_1 inb_S1x3x16x64x256_S1x1x1x32x128_0_2_8_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay377 (fun v k l => read_16 v k l) _ (valRow (iblk m c 0 t) (iblk m c 4 t) (iblk m c 5 t) 2048 (by omega)) 512 23 7 32 128 (by decide) (by decide) (by decide) (by decide) _ _ ?_ inb_S24x512x128_S1x512x128_23_0_0 inb_S24x512x128_S1x32x128_23_7_0_s_1_16_1 inb_S1x3x16x64x256_S1x1x1x32x128_0_2_7_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay376 (fun v k l => read_16 v k l) _ (valRow (iblk m c 0 t) (iblk m c 4 t) (iblk m c 5 t) 2048 (by omega)) 512 23 6 32 128 (by decide) (by decide) (by decide) (by decide) _ _ ?_ inb_S24x512x128_S1x512x128_23_0_0 inb_S24x512x128_S1x32x128_23_6_0_s_1_16_1 inb_S1x3x16x64x256_S1x1x1x32x128_0_2_6_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 (fun v => k0_pay375 (k0_pay374 v)) (fun v k l => read_16 v k l) _ (valRow (iblk m c 0 t) (iblk m c 4 t) (iblk m c 5 t) 2048 (by omega)) 512 23 5 32 128 (by decide) (by decide) (by decide) (by decide) _ _ ?_ inb_S24x512x128_S1x512x128_23_0_0 inb_S24x512x128_S1x32x128_23_5_0_s_1_16_1 inb_S1x3x16x64x256_S1x1x1x32x128_0_2_5_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay373 (fun v k l => read_16 v k l) _ (valRow (iblk m c 0 t) (iblk m c 4 t) (iblk m c 5 t) 2048 (by omega)) 512 23 4 32 128 (by decide) (by decide) (by decide) (by decide) _ _ ?_ inb_S24x512x128_S1x512x128_23_0_0 inb_S24x512x128_S1x32x128_23_4_0_s_1_16_1 inb_S1x3x16x64x256_S1x1x1x32x128_0_2_4_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay372 (fun v k l => read_16 v k l) _ (valRow (iblk m c 0 t) (iblk m c 4 t) (iblk m c 5 t) 2048 (by omega)) 512 23 3 32 128 (by decide) (by decide) (by decide) (by decide) _ _ ?_ inb_S24x512x128_S1x512x128_23_0_0 inb_S24x512x128_S1x32x128_23_3_0_s_1_16_1 inb_S1x3x16x64x256_S1x1x1x32x128_0_2_3_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay371 (fun v k l => read_16 v k l) _ (valRow (iblk m c 0 t) (iblk m c 4 t) (iblk m c 5 t) 2048 (by omega)) 512 23 2 32 128 (by decide) (by decide) (by decide) (by decide) _ _ ?_ inb_S24x512x128_S1x512x128_23_0_0 inb_S24x512x128_S1x32x128_23_2_0_s_1_16_1 inb_S1x3x16x64x256_S1x1x1x32x128_0_2_2_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 (fun v => k0_pay370 (k0_pay369 v)) (fun v k l => read_16 v k l) _ (valRow (iblk m c 0 t) (iblk m c 4 t) (iblk m c 5 t) 2048 (by omega)) 512 23 1 32 128 (by decide) (by decide) (by decide) (by decide) _ _ ?_ inb_S24x512x128_S1x512x128_23_0_0 inb_S24x512x128_S1x32x128_23_1_0_s_1_16_1 inb_S1x3x16x64x256_S1x1x1x32x128_0_2_1_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay368 (fun v k l => read_16 v k l) _ (valRow (iblk m c 0 t) (iblk m c 4 t) (iblk m c 5 t) 2048 (by omega)) 512 23 0 32 128 (by decide) (by decide) (by decide) (by decide) _ _ ?_ inb_S24x512x128_S1x512x128_23_0_0 inb_S24x512x128_S1x32x128_23_0_0_s_1_16_1 inb_S1x3x16x64x256_S1x1x1x32x128_0_2_0_32_128 x
      exact slab_hi (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay366 (fun v k l => read_16 v k l) _ (valRow (iblk m c 0 t) (iblk m c 4 t) (iblk m c 5 t) 2048 (by omega)) 512 22 15 32 0 (by decide) (by decide) (by decide) (by decide) _ _ ?_ inb_S24x512x128_S1x512x128_22_0_0 inb_S24x512x128_S1x32x128_22_15_0_s_1_16_1 inb_S1x3x16x64x256_S1x1x1x32x128_0_2_15_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 (fun v => k0_pay365 (k0_pay364 v)) (fun v k l => read_16 v k l) _ (valRow (iblk m c 0 t) (iblk m c 4 t) (iblk m c 5 t) 2048 (by omega)) 512 22 14 32 0 (by decide) (by decide) (by decide) (by decide) _ _ ?_ inb_S24x512x128_S1x512x128_22_0_0 inb_S24x512x128_S1x32x128_22_14_0_s_1_16_1 inb_S1x3x16x64x256_S1x1x1x32x128_0_2_14_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay363 (fun v k l => read_16 v k l) _ (valRow (iblk m c 0 t) (iblk m c 4 t) (iblk m c 5 t) 2048 (by omega)) 512 22 13 32 0 (by decide) (by decide) (by decide) (by decide) _ _ ?_ inb_S24x512x128_S1x512x128_22_0_0 inb_S24x512x128_S1x32x128_22_13_0_s_1_16_1 inb_S1x3x16x64x256_S1x1x1x32x128_0_2_13_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay362 (fun v k l => read_16 v k l) _ (valRow (iblk m c 0 t) (iblk m c 4 t) (iblk m c 5 t) 2048 (by omega)) 512 22 12 32 0 (by decide) (by decide) (by decide) (by decide) _ _ ?_ inb_S24x512x128_S1x512x128_22_0_0 inb_S24x512x128_S1x32x128_22_12_0_s_1_16_1 inb_S1x3x16x64x256_S1x1x1x32x128_0_2_12_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay361 (fun v k l => read_16 v k l) _ (valRow (iblk m c 0 t) (iblk m c 4 t) (iblk m c 5 t) 2048 (by omega)) 512 22 11 32 0 (by decide) (by decide) (by decide) (by decide) _ _ ?_ inb_S24x512x128_S1x512x128_22_0_0 inb_S24x512x128_S1x32x128_22_11_0_s_1_16_1 inb_S1x3x16x64x256_S1x1x1x32x128_0_2_11_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 (fun v => k0_pay360 (k0_pay359 v)) (fun v k l => read_16 v k l) _ (valRow (iblk m c 0 t) (iblk m c 4 t) (iblk m c 5 t) 2048 (by omega)) 512 22 10 32 0 (by decide) (by decide) (by decide) (by decide) _ _ ?_ inb_S24x512x128_S1x512x128_22_0_0 inb_S24x512x128_S1x32x128_22_10_0_s_1_16_1 inb_S1x3x16x64x256_S1x1x1x32x128_0_2_10_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay358 (fun v k l => read_16 v k l) _ (valRow (iblk m c 0 t) (iblk m c 4 t) (iblk m c 5 t) 2048 (by omega)) 512 22 9 32 0 (by decide) (by decide) (by decide) (by decide) _ _ ?_ inb_S24x512x128_S1x512x128_22_0_0 inb_S24x512x128_S1x32x128_22_9_0_s_1_16_1 inb_S1x3x16x64x256_S1x1x1x32x128_0_2_9_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay357 (fun v k l => read_16 v k l) _ (valRow (iblk m c 0 t) (iblk m c 4 t) (iblk m c 5 t) 2048 (by omega)) 512 22 8 32 0 (by decide) (by decide) (by decide) (by decide) _ _ ?_ inb_S24x512x128_S1x512x128_22_0_0 inb_S24x512x128_S1x32x128_22_8_0_s_1_16_1 inb_S1x3x16x64x256_S1x1x1x32x128_0_2_8_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay356 (fun v k l => read_16 v k l) _ (valRow (iblk m c 0 t) (iblk m c 4 t) (iblk m c 5 t) 2048 (by omega)) 512 22 7 32 0 (by decide) (by decide) (by decide) (by decide) _ _ ?_ inb_S24x512x128_S1x512x128_22_0_0 inb_S24x512x128_S1x32x128_22_7_0_s_1_16_1 inb_S1x3x16x64x256_S1x1x1x32x128_0_2_7_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 (fun v => k0_pay355 (k0_pay354 v)) (fun v k l => read_16 v k l) _ (valRow (iblk m c 0 t) (iblk m c 4 t) (iblk m c 5 t) 2048 (by omega)) 512 22 6 32 0 (by decide) (by decide) (by decide) (by decide) _ _ ?_ inb_S24x512x128_S1x512x128_22_0_0 inb_S24x512x128_S1x32x128_22_6_0_s_1_16_1 inb_S1x3x16x64x256_S1x1x1x32x128_0_2_6_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay353 (fun v k l => read_16 v k l) _ (valRow (iblk m c 0 t) (iblk m c 4 t) (iblk m c 5 t) 2048 (by omega)) 512 22 5 32 0 (by decide) (by decide) (by decide) (by decide) _ _ ?_ inb_S24x512x128_S1x512x128_22_0_0 inb_S24x512x128_S1x32x128_22_5_0_s_1_16_1 inb_S1x3x16x64x256_S1x1x1x32x128_0_2_5_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay352 (fun v k l => read_16 v k l) _ (valRow (iblk m c 0 t) (iblk m c 4 t) (iblk m c 5 t) 2048 (by omega)) 512 22 4 32 0 (by decide) (by decide) (by decide) (by decide) _ _ ?_ inb_S24x512x128_S1x512x128_22_0_0 inb_S24x512x128_S1x32x128_22_4_0_s_1_16_1 inb_S1x3x16x64x256_S1x1x1x32x128_0_2_4_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay351 (fun v k l => read_16 v k l) _ (valRow (iblk m c 0 t) (iblk m c 4 t) (iblk m c 5 t) 2048 (by omega)) 512 22 3 32 0 (by decide) (by decide) (by decide) (by decide) _ _ ?_ inb_S24x512x128_S1x512x128_22_0_0 inb_S24x512x128_S1x32x128_22_3_0_s_1_16_1 inb_S1x3x16x64x256_S1x1x1x32x128_0_2_3_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 (fun v => k0_pay350 (k0_pay349 v)) (fun v k l => read_16 v k l) _ (valRow (iblk m c 0 t) (iblk m c 4 t) (iblk m c 5 t) 2048 (by omega)) 512 22 2 32 0 (by decide) (by decide) (by decide) (by decide) _ _ ?_ inb_S24x512x128_S1x512x128_22_0_0 inb_S24x512x128_S1x32x128_22_2_0_s_1_16_1 inb_S1x3x16x64x256_S1x1x1x32x128_0_2_2_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay348 (fun v k l => read_16 v k l) _ (valRow (iblk m c 0 t) (iblk m c 4 t) (iblk m c 5 t) 2048 (by omega)) 512 22 1 32 0 (by decide) (by decide) (by decide) (by decide) _ _ ?_ inb_S24x512x128_S1x512x128_22_0_0 inb_S24x512x128_S1x32x128_22_1_0_s_1_16_1 inb_S1x3x16x64x256_S1x1x1x32x128_0_2_1_32_0 x
      exact slab_lo (iblk m c 0 t) (iblk m c 4 t) (iblk m c 5 t) 512 2048 (by decide) (by decide) inb_S1024x1024_S512x1024_512_0 inb_S1024x5376_S1024x256_0_2048
    refine agree_cons (fun x _ => ?_) ?_
    · refine piece_16 k0_pay347 (fun v k l => read_16 v k l) _ (valRow (iblk m c 0 t) (iblk m c 4 t) (iblk m c 5 t) 2048 (by omega)) 512 22 0 32 0 (by decide) (by decide) (by decide) (by decide) _ _ ?_ inb_S24x512x128_S1x512x128_22_0_0 inb_S24x512x128_S1x32x128_22_0_0_s_1_16_1 inb_S1x3x16x64x256_S1x1x1x32x128_0_2_0_32_0 x
      exact slab_lo (iblk m c 0 t) (iblk m c 4 t) (iblk m c 5 t) 512 2048 (by decide) (by decide) inb_S1024x1024_S512x1024_512_0 inb_S1024x5376_S1024x256_0_2048
    refine agree_cons (fun x h => (which_16 1 15 32 128 inb_S1x3x16x64x256_S1x1x1x32x128_0_1_15_32_128 (by decide) x h).elim) ?_
    refine agree_cons (fun x h => (which_16 1 14 32 128 inb_S1x3x16x64x256_S1x1x1x32x128_0_1_14_32_128 (by decide) x h).elim) ?_
    refine agree_cons (fun x h => (which_16 1 13 32 128 inb_S1x3x16x64x256_S1x1x1x32x128_0_1_13_32_128 (by decide) x h).elim) ?_
    refine agree_cons (fun x h => (which_16 1 12 32 128 inb_S1x3x16x64x256_S1x1x1x32x128_0_1_12_32_128 (by decide) x h).elim) ?_
    refine agree_cons (fun x h => (which_16 1 11 32 128 inb_S1x3x16x64x256_S1x1x1x32x128_0_1_11_32_128 (by decide) x h).elim) ?_
    refine agree_cons (fun x h => (which_16 1 10 32 128 inb_S1x3x16x64x256_S1x1x1x32x128_0_1_10_32_128 (by decide) x h).elim) ?_
    refine agree_cons (fun x h => (which_16 1 9 32 128 inb_S1x3x16x64x256_S1x1x1x32x128_0_1_9_32_128 (by decide) x h).elim) ?_
    refine agree_cons (fun x h => (which_16 1 8 32 128 inb_S1x3x16x64x256_S1x1x1x32x128_0_1_8_32_128 (by decide) x h).elim) ?_
    refine agree_cons (fun x h => (which_16 1 7 32 128 inb_S1x3x16x64x256_S1x1x1x32x128_0_1_7_32_128 (by decide) x h).elim) ?_
    refine agree_cons (fun x h => (which_16 1 6 32 128 inb_S1x3x16x64x256_S1x1x1x32x128_0_1_6_32_128 (by decide) x h).elim) ?_
    refine agree_cons (fun x h => (which_16 1 5 32 128 inb_S1x3x16x64x256_S1x1x1x32x128_0_1_5_32_128 (by decide) x h).elim) ?_
    refine agree_cons (fun x h => (which_16 1 4 32 128 inb_S1x3x16x64x256_S1x1x1x32x128_0_1_4_32_128 (by decide) x h).elim) ?_
    refine agree_cons (fun x h => (which_16 1 3 32 128 inb_S1x3x16x64x256_S1x1x1x32x128_0_1_3_32_128 (by decide) x h).elim) ?_
    refine agree_cons (fun x h => (which_16 1 2 32 128 inb_S1x3x16x64x256_S1x1x1x32x128_0_1_2_32_128 (by decide) x h).elim) ?_
    refine agree_cons (fun x h => (which_16 1 1 32 128 inb_S1x3x16x64x256_S1x1x1x32x128_0_1_1_32_128 (by decide) x h).elim) ?_
    refine agree_cons (fun x h => (which_16 1 0 32 128 inb_S1x3x16x64x256_S1x1x1x32x128_0_1_0_32_128 (by decide) x h).elim) ?_
    refine agree_cons (fun x h => (which_16 1 15 32 0 inb_S1x3x16x64x256_S1x1x1x32x128_0_1_15_32_0 (by decide) x h).elim) ?_
    refine agree_cons (fun x h => (which_16 1 14 32 0 inb_S1x3x16x64x256_S1x1x1x32x128_0_1_14_32_0 (by decide) x h).elim) ?_
    refine agree_cons (fun x h => (which_16 1 13 32 0 inb_S1x3x16x64x256_S1x1x1x32x128_0_1_13_32_0 (by decide) x h).elim) ?_
    refine agree_cons (fun x h => (which_16 1 12 32 0 inb_S1x3x16x64x256_S1x1x1x32x128_0_1_12_32_0 (by decide) x h).elim) ?_
    refine agree_cons (fun x h => (which_16 1 11 32 0 inb_S1x3x16x64x256_S1x1x1x32x128_0_1_11_32_0 (by decide) x h).elim) ?_
    refine agree_cons (fun x h => (which_16 1 10 32 0 inb_S1x3x16x64x256_S1x1x1x32x128_0_1_10_32_0 (by decide) x h).elim) ?_
    refine agree_cons (fun x h => (which_16 1 9 32 0 inb_S1x3x16x64x256_S1x1x1x32x128_0_1_9_32_0 (by decide) x h).elim) ?_
    refine agree_cons (fun x h => (which_16 1 8 32 0 inb_S1x3x16x64x256_S1x1x1x32x128_0_1_8_32_0 (by decide) x h).elim) ?_
    refine agree_cons (fun x h => (which_16 1 7 32 0 inb_S1x3x16x64x256_S1x1x1x32x128_0_1_7_32_0 (by decide) x h).elim) ?_
    refine agree_cons (fun x h => (which_16 1 6 32 0 inb_S1x3x16x64x256_S1x1x1x32x128_0_1_6_32_0 (by decide) x h).elim) ?_
    refine agree_cons (fun x h => (which_16 1 5 32 0 inb_S1x3x16x64x256_S1x1x1x32x128_0_1_5_32_0 (by decide) x h).elim) ?_
    refine agree_cons (fun x h => (which_16 1 4 32 0 inb_S1x3x16x64x256_S1x1x1x32x128_0_1_4_32_0 (by decide) x h).elim) ?_
    refine agree_cons (fun x h => (which_16 1 3 32 0 inb_S1x3x16x64x256_S1x1x1x32x128_0_1_3_32_0 (by decide) x h).elim) ?_
    refine agree_cons (fun x h => (which_16 1 2 32 0 inb_S1x3x16x64x256_S1x1x1x32x128_0_1_2_32_0 (by decide) x h).elim) ?_
    refine agree_cons (fun x h => (which_16 1 1 32 0 inb_S1x3x16x64x256_S1x1x1x32x128_0_1_1_32_0 (by decide) x h).elim) ?_
    refine agree_cons (fun x h => (which_16 1 0 32 0 inb_S1x3x16x64x256_S1x1x1x32x128_0_1_0_32_0 (by decide) x h).elim) ?_
    refine agree_cons (fun x h => (which_16 0 15 32 128 inb_S1x3x16x64x256_S1x1x1x32x128_0_0_15_32_128 (by decide) x h).elim) ?_
    refine agree_cons (fun x h => (which_16 0 14 32 128 inb_S1x3x16x64x256_S1x1x1x32x128_0_0_14_32_128 (by decide) x h).elim) ?_
    refine agree_cons (fun x h => (which_16 0 13 32 128 inb_S1x3x16x64x256_S1x1x1x32x128_0_0_13_32_128 (by decide) x h).elim) ?_
    refine agree_cons (fun x h => (which_16 0 12 32 128 inb_S1x3x16x64x256_S1x1x1x32x128_0_0_12_32_128 (by decide) x h).elim) ?_
    refine agree_cons (fun x h => (which_16 0 11 32 128 inb_S1x3x16x64x256_S1x1x1x32x128_0_0_11_32_128 (by decide) x h).elim) ?_
    refine agree_cons (fun x h => (which_16 0 10 32 128 inb_S1x3x16x64x256_S1x1x1x32x128_0_0_10_32_128 (by decide) x h).elim) ?_
    refine agree_cons (fun x h => (which_16 0 9 32 128 inb_S1x3x16x64x256_S1x1x1x32x128_0_0_9_32_128 (by decide) x h).elim) ?_
    refine agree_cons (fun x h => (which_16 0 8 32 128 inb_S1x3x16x64x256_S1x1x1x32x128_0_0_8_32_128 (by decide) x h).elim) ?_
    refine agree_cons (fun x h => (which_16 0 7 32 128 inb_S1x3x16x64x256_S1x1x1x32x128_0_0_7_32_128 (by decide) x h).elim) ?_
    refine agree_cons (fun x h => (which_16 0 6 32 128 inb_S1x3x16x64x256_S1x1x1x32x128_0_0_6_32_128 (by decide) x h).elim) ?_
    refine agree_cons (fun x h => (which_16 0 5 32 128 inb_S1x3x16x64x256_S1x1x1x32x128_0_0_5_32_128 (by decide) x h).elim) ?_
    refine agree_cons (fun x h => (which_16 0 4 32 128 inb_S1x3x16x64x256_S1x1x1x32x128_0_0_4_32_128 (by decide) x h).elim) ?_
    refine agree_cons (fun x h => (which_16 0 3 32 128 inb_S1x3x16x64x256_S1x1x1x32x128_0_0_3_32_128 (by decide) x h).elim) ?_
    refine agree_cons (fun x h => (which_16 0 2 32 128 inb_S1x3x16x64x256_S1x1x1x32x128_0_0_2_32_128 (by decide) x h).elim) ?_
    refine agree_cons (fun x h => (which_16 0 1 32 128 inb_S1x3x16x64x256_S1x1x1x32x128_0_0_1_32_128 (by decide) x h).elim) ?_
    refine agree_cons (fun x h => (which_16 0 0 32 128 inb_S1x3x16x64x256_S1x1x1x32x128_0_0_0_32_128 (by decide) x h).elim) ?_
    refine agree_cons (fun x h => (which_16 0 15 32 0 inb_S1x3x16x64x256_S1x1x1x32x128_0_0_15_32_0 (by decide) x h).elim) ?_
    refine agree_cons (fun x h => (which_16 0 14 32 0 inb_S1x3x16x64x256_S1x1x1x32x128_0_0_14_32_0 (by decide) x h).elim) ?_
    refine agree_cons (fun x h => (which_16 0 13 32 0 inb_S1x3x16x64x256_S1x1x1x32x128_0_0_13_32_0 (by decide) x h).elim) ?_
    refine agree_cons (fun x h => (which_16 0 12 32 0 inb_S1x3x16x64x256_S1x1x1x32x128_0_0_12_32_0 (by decide) x h).elim) ?_
    refine agree_cons (fun x h => (which_16 0 11 32 0 inb_S1x3x16x64x256_S1x1x1x32x128_0_0_11_32_0 (by decide) x h).elim) ?_
    refine agree_cons (fun x h => (which_16 0 10 32 0 inb_S1x3x16x64x256_S1x1x1x32x128_0_0_10_32_0 (by decide) x h).elim) ?_
    refine agree_cons (fun x h => (which_16 0 9 32 0 inb_S1x3x16x64x256_S1x1x1x32x128_0_0_9_32_0 (by decide) x h).elim) ?_
    refine agree_cons (fun x h => (which_16 0 8 32 0 inb_S1x3x16x64x256_S1x1x1x32x128_0_0_8_32_0 (by decide) x h).elim) ?_
    refine agree_cons (fun x h => (which_16 0 7 32 0 inb_S1x3x16x64x256_S1x1x1x32x128_0_0_7_32_0 (by decide) x h).elim) ?_
    refine agree_cons (fun x h => (which_16 0 6 32 0 inb_S1x3x16x64x256_S1x1x1x32x128_0_0_6_32_0 (by decide) x h).elim) ?_
    refine agree_cons (fun x h => (which_16 0 5 32 0 inb_S1x3x16x64x256_S1x1x1x32x128_0_0_5_32_0 (by decide) x h).elim) ?_
    refine agree_cons (fun x h => (which_16 0 4 32 0 inb_S1x3x16x64x256_S1x1x1x32x128_0_0_4_32_0 (by decide) x h).elim) ?_
    refine agree_cons (fun x h => (which_16 0 3 32 0 inb_S1x3x16x64x256_S1x1x1x32x128_0_0_3_32_0 (by decide) x h).elim) ?_
    refine agree_cons (fun x h => (which_16 0 2 32 0 inb_S1x3x16x64x256_S1x1x1x32x128_0_0_2_32_0 (by decide) x h).elim) ?_
    refine agree_cons (fun x h => (which_16 0 1 32 0 inb_S1x3x16x64x256_S1x1x1x32x128_0_0_1_32_0 (by decide) x h).elim) ?_
    refine agree_cons (fun x h => (which_16 0 0 32 0 inb_S1x3x16x64x256_S1x1x1x32x128_0_0_0_32_0 (by decide) x h).elim) ?_
    refine agree_cons (fun x _ => ?_) ?_
    · refine piece_16 k0_pay175 (fun v k l => read_16 v k l) _ (valRow (iblk m c 0 t) (iblk m c 4 t) (iblk m c 5 t) 2048 (by omega)) 0 11 15 0 128 (by decide) (by decide) (by decide) (by decide) _ _ ?_ inb_S24x512x128_S1x512x128_11_0_0 inb_S24x512x128_S1x32x128_11_15_0_s_1_16_1 inb_S1x3x16x64x256_S1x1x1x32x128_0_2_15_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay174 (fun v k l => read_16 v k l) _ (valRow (iblk m c 0 t) (iblk m c 4 t) (iblk m c 5 t) 2048 (by omega)) 0 11 14 0 128 (by decide) (by decide) (by decide) (by decide) _ _ ?_ inb_S24x512x128_S1x512x128_11_0_0 inb_S24x512x128_S1x32x128_11_14_0_s_1_16_1 inb_S1x3x16x64x256_S1x1x1x32x128_0_2_14_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay173 (fun v k l => read_16 v k l) _ (valRow (iblk m c 0 t) (iblk m c 4 t) (iblk m c 5 t) 2048 (by omega)) 0 11 13 0 128 (by decide) (by decide) (by decide) (by decide) _ _ ?_ inb_S24x512x128_S1x512x128_11_0_0 inb_S24x512x128_S1x32x128_11_13_0_s_1_16_1 inb_S1x3x16x64x256_S1x1x1x32x128_0_2_13_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay172 (fun v k l => read_16 v k l) _ (valRow (iblk m c 0 t) (iblk m c 4 t) (iblk m c 5 t) 2048 (by omega)) 0 11 12 0 128 (by decide) (by decide) (by decide) (by decide) _ _ ?_ inb_S24x512x128_S1x512x128_11_0_0 inb_S24x512x128_S1x32x128_11_12_0_s_1_16_1 inb_S1x3x16x64x256_S1x1x1x32x128_0_2_12_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay171 (fun v k l => read_16 v k l) _ (valRow (iblk m c 0 t) (iblk m c 4 t) (iblk m c 5 t) 2048 (by omega)) 0 11 11 0 128 (by decide) (by decide) (by decide) (by decide) _ _ ?_ inb_S24x512x128_S1x512x128_11_0_0 inb_S24x512x128_S1x32x128_11_11_0_s_1_16_1 inb_S1x3x16x64x256_S1x1x1x32x128_0_2_11_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay170 (fun v k l => read_16 v k l) _ (valRow (iblk m c 0 t) (iblk m c 4 t) (iblk m c 5 t) 2048 (by omega)) 0 11 10 0 128 (by decide) (by decide) (by decide) (by decide) _ _ ?_ inb_S24x512x128_S1x512x128_11_0_0 inb_S24x512x128_S1x32x128_11_10_0_s_1_16_1 inb_S1x3x16x64x256_S1x1x1x32x128_0_2_10_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay169 (fun v k l => read_16 v k l) _ (valRow (iblk m c 0 t) (iblk m c 4 t) (iblk m c 5 t) 2048 (by omega)) 0 11 9 0 128 (by decide) (by decide) (by decide) (by decide) _ _ ?_ inb_S24x512x128_S1x512x128_11_0_0 inb_S24x512x128_S1x32x128_11_9_0_s_1_16_1 inb_S1x3x16x64x256_S1x1x1x32x128_0_2_9_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay168 (fun v k l => read_16 v k l) _ (valRow (iblk m c 0 t) (iblk m c 4 t) (iblk m c 5 t) 2048 (by omega)) 0 11 8 0 128 (by decide) (by decide) (by decide) (by decide) _ _ ?_ inb_S24x512x128_S1x512x128_11_0_0 inb_S24x512x128_S1x32x128_11_8_0_s_1_16_1 inb_S1x3x16x64x256_S1x1x1x32x128_0_2_8_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay167 (fun v k l => read_16 v k l) _ (valRow (iblk m c 0 t) (iblk m c 4 t) (iblk m c 5 t) 2048 (by omega)) 0 11 7 0 128 (by decide) (by decide) (by decide) (by decide) _ _ ?_ inb_S24x512x128_S1x512x128_11_0_0 inb_S24x512x128_S1x32x128_11_7_0_s_1_16_1 inb_S1x3x16x64x256_S1x1x1x32x128_0_2_7_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay166 (fun v k l => read_16 v k l) _ (valRow (iblk m c 0 t) (iblk m c 4 t) (iblk m c 5 t) 2048 (by omega)) 0 11 6 0 128 (by decide) (by decide) (by decide) (by decide) _ _ ?_ inb_S24x512x128_S1x512x128_11_0_0 inb_S24x512x128_S1x32x128_11_6_0_s_1_16_1 inb_S1x3x16x64x256_S1x1x1x32x128_0_2_6_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay165 (fun v k l => read_16 v k l) _ (valRow (iblk m c 0 t) (iblk m c 4 t) (iblk m c 5 t) 2048 (by omega)) 0 11 5 0 128 (by decide) (by decide) (by decide) (by decide) _ _ ?_ inb_S24x512x128_S1x512x128_11_0_0 inb_S24x512x128_S1x32x128_11_5_0_s_1_16_1 inb_S1x3x16x64x256_S1x1x1x32x128_0_2_5_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay164 (fun v k l => read_16 v k l) _ (valRow (iblk m c 0 t) (iblk m c 4 t) (iblk m c 5 t) 2048 (by omega)) 0 11 4 0 128 (by decide) (by decide) (by decide) (by decide) _ _ ?_ inb_S24x512x128_S1x512x128_11_0_0 inb_S24x512x128_S1x32x128_11_4_0_s_1_16_1 inb_S1x3x16x64x256_S1x1x1x32x128_0_2_4_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay163 (fun v k l => read_16 v k l) _ (valRow (iblk m c 0 t) (iblk m c 4 t) (iblk m c 5 t) 2048 (by omega)) 0 11 3 0 128 (by decide) (by decide) (by decide) (by decide) _ _ ?_ inb_S24x512x128_S1x512x128_11_0_0 inb_S24x512x128_S1x32x128_11_3_0_s_1_16_1 inb_S1x3x16x64x256_S1x1x1x32x128_0_2_3_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay162 (fun v k l => read_16 v k l) _ (valRow (iblk m c 0 t) (iblk m c 4 t) (iblk m c 5 t) 2048 (by omega)) 0 11 2 0 128 (by decide) (by decide) (by decide) (by decide) _ _ ?_ inb_S24x512x128_S1x512x128_11_0_0 inb_S24x512x128_S1x32x128_11_2_0_s_1_16_1 inb_S1x3x16x64x256_S1x1x1x32x128_0_2_2_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay161 (fun v k l => read_16 v k l) _ (valRow (iblk m c 0 t) (iblk m c 4 t) (iblk m c 5 t) 2048 (by omega)) 0 11 1 0 128 (by decide) (by decide) (by decide) (by decide) _ _ ?_ inb_S24x512x128_S1x512x128_11_0_0 inb_S24x512x128_S1x32x128_11_1_0_s_1_16_1 inb_S1x3x16x64x256_S1x1x1x32x128_0_2_1_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay160 (fun v k l => read_16 v k l) _ (valRow (iblk m c 0 t) (iblk m c 4 t) (iblk m c 5 t) 2048 (by omega)) 0 11 0 0 128 (by decide) (by decide) (by decide) (by decide) _ _ ?_ inb_S24x512x128_S1x512x128_11_0_0 inb_S24x512x128_S1x32x128_11_0_0_s_1_16_1 inb_S1x3x16x64x256_S1x1x1x32x128_0_2_0_0_128 x
      exact slab_hi (iblk m c 0 t) (iblk m c 4 t) (iblk m c 5 t) 0 2048 (by decide) (by decide) inb_S1024x1024_S512x1024_0_0 inb_S1024x5376_S1024x256_0_2048
    refine agree_cons (fun x _ => ?_) ?_
    · refine piece_16 (fun v => k0_pay158 (k0_pay157 v)) (fun v k l => read_16 v k l) _ (valRow (iblk m c 0 t) (iblk m c 4 t) (iblk m c 5 t) 2048 (by omega)) 0 10 15 0 0 (by decide) (by decide) (by decide) (by decide) _ _ ?_ inb_S24x512x128_S1x512x128_10_0_0 inb_S24x512x128_S1x32x128_10_15_0_s_1_16_1 inb_S1x3x16x64x256_S1x1x1x32x128_0_2_15_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay156 (fun v k l => read_16 v k l) _ (valRow (iblk m c 0 t) (iblk m c 4 t) (iblk m c 5 t) 2048 (by omega)) 0 10 14 0 0 (by decide) (by decide) (by decide) (by decide) _ _ ?_ inb_S24x512x128_S1x512x128_10_0_0 inb_S24x512x128_S1x32x128_10_14_0_s_1_16_1 inb_S1x3x16x64x256_S1x1x1x32x128_0_2_14_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay155 (fun v k l => read_16 v k l) _ (valRow (iblk m c 0 t) (iblk m c 4 t) (iblk m c 5 t) 2048 (by omega)) 0 10 13 0 0 (by decide) (by decide) (by decide) (by decide) _ _ ?_ inb_S24x512x128_S1x512x128_10_0_0 inb_S24x512x128_S1x32x128_10_13_0_s_1_16_1 inb_S1x3x16x64x256_S1x1x1x32x128_0_2_13_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay154 (fun v k l => read_16 v k l) _ (valRow (iblk m c 0 t) (iblk m c 4 t) (iblk m c 5 t) 2048 (by omega)) 0 10 12 0 0 (by decide) (by decide) (by decide) (by decide) _ _ ?_ inb_S24x512x128_S1x512x128_10_0_0 inb_S24x512x128_S1x32x128_10_12_0_s_1_16_1 inb_S1x3x16x64x256_S1x1x1x32x128_0_2_12_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 (fun v => k0_pay153 (k0_pay152 v)) (fun v k l => read_16 v k l) _ (valRow (iblk m c 0 t) (iblk m c 4 t) (iblk m c 5 t) 2048 (by omega)) 0 10 11 0 0 (by decide) (by decide) (by decide) (by decide) _ _ ?_ inb_S24x512x128_S1x512x128_10_0_0 inb_S24x512x128_S1x32x128_10_11_0_s_1_16_1 inb_S1x3x16x64x256_S1x1x1x32x128_0_2_11_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay151 (fun v k l => read_16 v k l) _ (valRow (iblk m c 0 t) (iblk m c 4 t) (iblk m c 5 t) 2048 (by omega)) 0 10 10 0 0 (by decide) (by decide) (by decide) (by decide) _ _ ?_ inb_S24x512x128_S1x512x128_10_0_0 inb_S24x512x128_S1x32x128_10_10_0_s_1_16_1 inb_S1x3x16x64x256_S1x1x1x32x128_0_2_10_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay150 (fun v k l => read_16 v k l) _ (valRow (iblk m c 0 t) (iblk m c 4 t) (iblk m c 5 t) 2048 (by omega)) 0 10 9 0 0 (by decide) (by decide) (by decide) (by decide) _ _ ?_ inb_S24x512x128_S1x512x128_10_0_0 inb_S24x512x128_S1x32x128_10_9_0_s_1_16_1 inb_S1x3x16x64x256_S1x1x1x32x128_0_2_9_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay149 (fun v k l => read_16 v k l) _ (valRow (iblk m c 0 t) (iblk m c 4 t) (iblk m c 5 t) 2048 (by omega)) 0 10 8 0 0 (by decide) (by decide) (by decide) (by decide) _ _ ?_ inb_S24x512x128_S1x512x128_10_0_0 inb_S24x512x128_S1x32x128_10_8_0_s_1_16_1 inb_S1x3x16x64x256_S1x1x1x32x128_0_2_8_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 (fun v => k0_pay148 (k0_pay147 v)) (fun v k l => read_16 v k l) _ (valRow (iblk m c 0 t) (iblk m c 4 t) (iblk m c 5 t) 2048 (by omega)) 0 10 7 0 0 (by decide) (by decide) (by decide) (by decide) _ _ ?_ inb_S24x512x128_S1x512x128_10_0_0 inb_S24x512x128_S1x32x128_10_7_0_s_1_16_1 inb_S1x3x16x64x256_S1x1x1x32x128_0_2_7_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay146 (fun v k l => read_16 v k l) _ (valRow (iblk m c 0 t) (iblk m c 4 t) (iblk m c 5 t) 2048 (by omega)) 0 10 6 0 0 (by decide) (by decide) (by decide) (by decide) _ _ ?_ inb_S24x512x128_S1x512x128_10_0_0 inb_S24x512x128_S1x32x128_10_6_0_s_1_16_1 inb_S1x3x16x64x256_S1x1x1x32x128_0_2_6_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay145 (fun v k l => read_16 v k l) _ (valRow (iblk m c 0 t) (iblk m c 4 t) (iblk m c 5 t) 2048 (by omega)) 0 10 5 0 0 (by decide) (by decide) (by decide) (by decide) _ _ ?_ inb_S24x512x128_S1x512x128_10_0_0 inb_S24x512x128_S1x32x128_10_5_0_s_1_16_1 inb_S1x3x16x64x256_S1x1x1x32x128_0_2_5_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay144 (fun v k l => read_16 v k l) _ (valRow (iblk m c 0 t) (iblk m c 4 t) (iblk m c 5 t) 2048 (by omega)) 0 10 4 0 0 (by decide) (by decide) (by decide) (by decide) _ _ ?_ inb_S24x512x128_S1x512x128_10_0_0 inb_S24x512x128_S1x32x128_10_4_0_s_1_16_1 inb_S1x3x16x64x256_S1x1x1x32x128_0_2_4_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 (fun v => k0_pay143 (k0_pay142 v)) (fun v k l => read_16 v k l) _ (valRow (iblk m c 0 t) (iblk m c 4 t) (iblk m c 5 t) 2048 (by omega)) 0 10 3 0 0 (by decide) (by decide) (by decide) (by decide) _ _ ?_ inb_S24x512x128_S1x512x128_10_0_0 inb_S24x512x128_S1x32x128_10_3_0_s_1_16_1 inb_S1x3x16x64x256_S1x1x1x32x128_0_2_3_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay141 (fun v k l => read_16 v k l) _ (valRow (iblk m c 0 t) (iblk m c 4 t) (iblk m c 5 t) 2048 (by omega)) 0 10 2 0 0 (by decide) (by decide) (by decide) (by decide) _ _ ?_ inb_S24x512x128_S1x512x128_10_0_0 inb_S24x512x128_S1x32x128_10_2_0_s_1_16_1 inb_S1x3x16x64x256_S1x1x1x32x128_0_2_2_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay140 (fun v k l => read_16 v k l) _ (valRow (iblk m c 0 t) (iblk m c 4 t) (iblk m c 5 t) 2048 (by omega)) 0 10 1 0 0 (by decide) (by decide) (by decide) (by decide) _ _ ?_ inb_S24x512x128_S1x512x128_10_0_0 inb_S24x512x128_S1x32x128_10_1_0_s_1_16_1 inb_S1x3x16x64x256_S1x1x1x32x128_0_2_1_0_0 x
      exact slab_lo (iblk m c 0 t) (iblk m c 4 t) (iblk m c 5 t) 0 2048 (by decide) (by decide) inb_S1024x1024_S512x1024_0_0 inb_S1024x5376_S1024x256_0_2048
    refine agree_cons (fun x _ => ?_) ?_
    · refine piece_16 k0_pay139 (fun v k l => read_16 v k l) _ (valRow (iblk m c 0 t) (iblk m c 4 t) (iblk m c 5 t) 2048 (by omega)) 0 10 0 0 0 (by decide) (by decide) (by decide) (by decide) _ _ ?_ inb_S24x512x128_S1x512x128_10_0_0 inb_S24x512x128_S1x32x128_10_0_0_s_1_16_1 inb_S1x3x16x64x256_S1x1x1x32x128_0_2_0_0_0 x
      exact slab_lo (iblk m c 0 t) (iblk m c 4 t) (iblk m c 5 t) 0 2048 (by decide) (by decide) inb_S1024x1024_S512x1024_0_0 inb_S1024x5376_S1024x256_0_2048
    refine agree_cons (fun x h => (which_16 1 15 0 128 inb_S1x3x16x64x256_S1x1x1x32x128_0_1_15_0_128 (by decide) x h).elim) ?_
    refine agree_cons (fun x h => (which_16 1 14 0 128 inb_S1x3x16x64x256_S1x1x1x32x128_0_1_14_0_128 (by decide) x h).elim) ?_
    refine agree_cons (fun x h => (which_16 1 13 0 128 inb_S1x3x16x64x256_S1x1x1x32x128_0_1_13_0_128 (by decide) x h).elim) ?_
    refine agree_cons (fun x h => (which_16 1 12 0 128 inb_S1x3x16x64x256_S1x1x1x32x128_0_1_12_0_128 (by decide) x h).elim) ?_
    refine agree_cons (fun x h => (which_16 1 11 0 128 inb_S1x3x16x64x256_S1x1x1x32x128_0_1_11_0_128 (by decide) x h).elim) ?_
    refine agree_cons (fun x h => (which_16 1 10 0 128 inb_S1x3x16x64x256_S1x1x1x32x128_0_1_10_0_128 (by decide) x h).elim) ?_
    refine agree_cons (fun x h => (which_16 1 9 0 128 inb_S1x3x16x64x256_S1x1x1x32x128_0_1_9_0_128 (by decide) x h).elim) ?_
    refine agree_cons (fun x h => (which_16 1 8 0 128 inb_S1x3x16x64x256_S1x1x1x32x128_0_1_8_0_128 (by decide) x h).elim) ?_
    refine agree_cons (fun x h => (which_16 1 7 0 128 inb_S1x3x16x64x256_S1x1x1x32x128_0_1_7_0_128 (by decide) x h).elim) ?_
    refine agree_cons (fun x h => (which_16 1 6 0 128 inb_S1x3x16x64x256_S1x1x1x32x128_0_1_6_0_128 (by decide) x h).elim) ?_
    refine agree_cons (fun x h => (which_16 1 5 0 128 inb_S1x3x16x64x256_S1x1x1x32x128_0_1_5_0_128 (by decide) x h).elim) ?_
    refine agree_cons (fun x h => (which_16 1 4 0 128 inb_S1x3x16x64x256_S1x1x1x32x128_0_1_4_0_128 (by decide) x h).elim) ?_
    refine agree_cons (fun x h => (which_16 1 3 0 128 inb_S1x3x16x64x256_S1x1x1x32x128_0_1_3_0_128 (by decide) x h).elim) ?_
    refine agree_cons (fun x h => (which_16 1 2 0 128 inb_S1x3x16x64x256_S1x1x1x32x128_0_1_2_0_128 (by decide) x h).elim) ?_
    refine agree_cons (fun x h => (which_16 1 1 0 128 inb_S1x3x16x64x256_S1x1x1x32x128_0_1_1_0_128 (by decide) x h).elim) ?_
    refine agree_cons (fun x h => (which_16 1 0 0 128 inb_S1x3x16x64x256_S1x1x1x32x128_0_1_0_0_128 (by decide) x h).elim) ?_
    refine agree_cons (fun x h => (which_16 1 15 0 0 inb_S1x3x16x64x256_S1x1x1x32x128_0_1_15_0_0 (by decide) x h).elim) ?_
    refine agree_cons (fun x h => (which_16 1 14 0 0 inb_S1x3x16x64x256_S1x1x1x32x128_0_1_14_0_0 (by decide) x h).elim) ?_
    refine agree_cons (fun x h => (which_16 1 13 0 0 inb_S1x3x16x64x256_S1x1x1x32x128_0_1_13_0_0 (by decide) x h).elim) ?_
    refine agree_cons (fun x h => (which_16 1 12 0 0 inb_S1x3x16x64x256_S1x1x1x32x128_0_1_12_0_0 (by decide) x h).elim) ?_
    refine agree_cons (fun x h => (which_16 1 11 0 0 inb_S1x3x16x64x256_S1x1x1x32x128_0_1_11_0_0 (by decide) x h).elim) ?_
    refine agree_cons (fun x h => (which_16 1 10 0 0 inb_S1x3x16x64x256_S1x1x1x32x128_0_1_10_0_0 (by decide) x h).elim) ?_
    refine agree_cons (fun x h => (which_16 1 9 0 0 inb_S1x3x16x64x256_S1x1x1x32x128_0_1_9_0_0 (by decide) x h).elim) ?_
    refine agree_cons (fun x h => (which_16 1 8 0 0 inb_S1x3x16x64x256_S1x1x1x32x128_0_1_8_0_0 (by decide) x h).elim) ?_
    refine agree_cons (fun x h => (which_16 1 7 0 0 inb_S1x3x16x64x256_S1x1x1x32x128_0_1_7_0_0 (by decide) x h).elim) ?_
    refine agree_cons (fun x h => (which_16 1 6 0 0 inb_S1x3x16x64x256_S1x1x1x32x128_0_1_6_0_0 (by decide) x h).elim) ?_
    refine agree_cons (fun x h => (which_16 1 5 0 0 inb_S1x3x16x64x256_S1x1x1x32x128_0_1_5_0_0 (by decide) x h).elim) ?_
    refine agree_cons (fun x h => (which_16 1 4 0 0 inb_S1x3x16x64x256_S1x1x1x32x128_0_1_4_0_0 (by decide) x h).elim) ?_
    refine agree_cons (fun x h => (which_16 1 3 0 0 inb_S1x3x16x64x256_S1x1x1x32x128_0_1_3_0_0 (by decide) x h).elim) ?_
    refine agree_cons (fun x h => (which_16 1 2 0 0 inb_S1x3x16x64x256_S1x1x1x32x128_0_1_2_0_0 (by decide) x h).elim) ?_
    refine agree_cons (fun x h => (which_16 1 1 0 0 inb_S1x3x16x64x256_S1x1x1x32x128_0_1_1_0_0 (by decide) x h).elim) ?_
    refine agree_cons (fun x h => (which_16 1 0 0 0 inb_S1x3x16x64x256_S1x1x1x32x128_0_1_0_0_0 (by decide) x h).elim) ?_
    refine agree_cons (fun x h => (which_16 0 15 0 128 inb_S1x3x16x64x256_S1x1x1x32x128_0_0_15_0_128 (by decide) x h).elim) ?_
    refine agree_cons (fun x h => (which_16 0 14 0 128 inb_S1x3x16x64x256_S1x1x1x32x128_0_0_14_0_128 (by decide) x h).elim) ?_
    refine agree_cons (fun x h => (which_16 0 13 0 128 inb_S1x3x16x64x256_S1x1x1x32x128_0_0_13_0_128 (by decide) x h).elim) ?_
    refine agree_cons (fun x h => (which_16 0 12 0 128 inb_S1x3x16x64x256_S1x1x1x32x128_0_0_12_0_128 (by decide) x h).elim) ?_
    refine agree_cons (fun x h => (which_16 0 11 0 128 inb_S1x3x16x64x256_S1x1x1x32x128_0_0_11_0_128 (by decide) x h).elim) ?_
    refine agree_cons (fun x h => (which_16 0 10 0 128 inb_S1x3x16x64x256_S1x1x1x32x128_0_0_10_0_128 (by decide) x h).elim) ?_
    refine agree_cons (fun x h => (which_16 0 9 0 128 inb_S1x3x16x64x256_S1x1x1x32x128_0_0_9_0_128 (by decide) x h).elim) ?_
    refine agree_cons (fun x h => (which_16 0 8 0 128 inb_S1x3x16x64x256_S1x1x1x32x128_0_0_8_0_128 (by decide) x h).elim) ?_
    refine agree_cons (fun x h => (which_16 0 7 0 128 inb_S1x3x16x64x256_S1x1x1x32x128_0_0_7_0_128 (by decide) x h).elim) ?_
    refine agree_cons (fun x h => (which_16 0 6 0 128 inb_S1x3x16x64x256_S1x1x1x32x128_0_0_6_0_128 (by decide) x h).elim) ?_
    refine agree_cons (fun x h => (which_16 0 5 0 128 inb_S1x3x16x64x256_S1x1x1x32x128_0_0_5_0_128 (by decide) x h).elim) ?_
    refine agree_cons (fun x h => (which_16 0 4 0 128 inb_S1x3x16x64x256_S1x1x1x32x128_0_0_4_0_128 (by decide) x h).elim) ?_
    refine agree_cons (fun x h => (which_16 0 3 0 128 inb_S1x3x16x64x256_S1x1x1x32x128_0_0_3_0_128 (by decide) x h).elim) ?_
    refine agree_cons (fun x h => (which_16 0 2 0 128 inb_S1x3x16x64x256_S1x1x1x32x128_0_0_2_0_128 (by decide) x h).elim) ?_
    refine agree_cons (fun x h => (which_16 0 1 0 128 inb_S1x3x16x64x256_S1x1x1x32x128_0_0_1_0_128 (by decide) x h).elim) ?_
    refine agree_cons (fun x h => (which_16 0 0 0 128 inb_S1x3x16x64x256_S1x1x1x32x128_0_0_0_0_128 (by decide) x h).elim) ?_
    refine agree_cons (fun x h => (which_16 0 15 0 0 inb_S1x3x16x64x256_S1x1x1x32x128_0_0_15_0_0 (by decide) x h).elim) ?_
    refine agree_cons (fun x h => (which_16 0 14 0 0 inb_S1x3x16x64x256_S1x1x1x32x128_0_0_14_0_0 (by decide) x h).elim) ?_
    refine agree_cons (fun x h => (which_16 0 13 0 0 inb_S1x3x16x64x256_S1x1x1x32x128_0_0_13_0_0 (by decide) x h).elim) ?_
    refine agree_cons (fun x h => (which_16 0 12 0 0 inb_S1x3x16x64x256_S1x1x1x32x128_0_0_12_0_0 (by decide) x h).elim) ?_
    refine agree_cons (fun x h => (which_16 0 11 0 0 inb_S1x3x16x64x256_S1x1x1x32x128_0_0_11_0_0 (by decide) x h).elim) ?_
    refine agree_cons (fun x h => (which_16 0 10 0 0 inb_S1x3x16x64x256_S1x1x1x32x128_0_0_10_0_0 (by decide) x h).elim) ?_
    refine agree_cons (fun x h => (which_16 0 9 0 0 inb_S1x3x16x64x256_S1x1x1x32x128_0_0_9_0_0 (by decide) x h).elim) ?_
    refine agree_cons (fun x h => (which_16 0 8 0 0 inb_S1x3x16x64x256_S1x1x1x32x128_0_0_8_0_0 (by decide) x h).elim) ?_
    refine agree_cons (fun x h => (which_16 0 7 0 0 inb_S1x3x16x64x256_S1x1x1x32x128_0_0_7_0_0 (by decide) x h).elim) ?_
    refine agree_cons (fun x h => (which_16 0 6 0 0 inb_S1x3x16x64x256_S1x1x1x32x128_0_0_6_0_0 (by decide) x h).elim) ?_
    refine agree_cons (fun x h => (which_16 0 5 0 0 inb_S1x3x16x64x256_S1x1x1x32x128_0_0_5_0_0 (by decide) x h).elim) ?_
    refine agree_cons (fun x h => (which_16 0 4 0 0 inb_S1x3x16x64x256_S1x1x1x32x128_0_0_4_0_0 (by decide) x h).elim) ?_
    refine agree_cons (fun x h => (which_16 0 3 0 0 inb_S1x3x16x64x256_S1x1x1x32x128_0_0_3_0_0 (by decide) x h).elim) ?_
    refine agree_cons (fun x h => (which_16 0 2 0 0 inb_S1x3x16x64x256_S1x1x1x32x128_0_0_2_0_0 (by decide) x h).elim) ?_
    refine agree_cons (fun x h => (which_16 0 1 0 0 inb_S1x3x16x64x256_S1x1x1x32x128_0_0_1_0_0 (by decide) x h).elim) ?_
    refine agree_cons (fun x h => (which_16 0 0 0 0 inb_S1x3x16x64x256_S1x1x1x32x128_0_0_0_0_0 (by decide) x h).elim) ?_
    exact trivial
  · exact View.cover_of_tiledL _ ![1, 1, 1, 32, 128] (by sl_kernel_rfl) y

end Cert.Inproj
-- ==== Proof.InValRunB.lean ====
/- The run of the input projection: the values of the group of dilation 16. -/
module

public import proofs.«01_k».proof.Proof.InRun
public import proofs.«01_k».proof.Proof.InValSpec
public import proofs.«01_k».proof.Proof.InValPointB

@[expose] public section

set_option backward.proofsInPublic true
set_option maxRecDepth 16384

noncomputable section

namespace Cert.Inproj

open Idealize.ShloMosaic Idealize.ShloMosaic.TcCoe Idealize.ShloMosaic.Tactic
open Idealize.SL.Sem
open Idealize.ShloMosaic.Pipeline (Dat)
open Cert.Post (Row Tab rms lin)
open Cert.InprojIdeal Cert.InprojIdeal.Gen

variable (m : (ℓ : Loc nD τ sig) → Buf (Elt Ideal) ℓ) (c : Dev nD)

theorem fin14 (i : S16x3x16x256x256.Idx) : (i 1).val = 2 → (dats m 0 c).arrAt 14 cfg0.N i = outV16 (m ((c : Thread nD τ).loc main_arg0)) (m ((c : Thread nD τ).loc main_arg2)) (m ((c : Thread nD τ).loc main_arg3)) i := by
  refine (dats m 0 c).arrAt_forall_of_covers 14 (fun (i : S16x3x16x256x256.Idx) (v : EReal) => (i 1).val = 2 → v = outV16 (m ((c : Thread nD τ).loc main_arg0)) (m ((c : Thread nD τ).loc main_arg2)) (m ((c : Thread nD τ).loc main_arg3)) i) (by decide +kernel) (fun t hf y => ?_) i
  blk_simp
  rw [after0_14]
  have ht := t_lt t
  idx_vars y
  generalize hE : ((View.whole main_v35_2).slice (win0_14.rect t)).emb (ix5 y0 y1 y2 y3 y4) = E
  have e0 : (E 0).val = t.val / 4 + y0.val := by rw [← hE]; blk_simp [idxs t]
  have e2 : (E 2).val = y2.val := by rw [← hE]; blk_simp [idxs t]
  have e3 : (E 3).val = t.val % 4 * 64 + y3.val := by rw [← hE]; blk_simp [idxs t]
  have e4 : (E 4).val = y4.val := by rw [← hE]; blk_simp [idxs t]
  intro h
  have i1 : win0_14.index t 1 = 0 := by simp [idxs t]
  rw [i1] at h
  have h1 : y1.val = 2 := by omega
  refine (at14 m c t (ix5 y0 y1 y2 y3 y4) h1).trans ?_
  have hR : ∀ R : Fin 1024, valRow (iblk m c 0 t : Vec Ideal S1024x1024 .f32) (iblk m c 4 t : Vec Ideal S1x1024 .f32) (iblk m c 5 t : Vec Ideal S1024x5376 .bf16) 2048 (by omega) R
      = valAt (m ((c : Thread nD τ).loc main_arg0)) (m ((c : Thread nD τ).loc main_arg2)) (m ((c : Thread nD τ).loc main_arg3)) 2048 (by omega) (tok t R) := fun R => by
    unfold valRow valAt
    rw [block_z, block_w]
  have hy : y0.val = 0 := by omega
  refine (congrFun (hR _) _).trans ?_
  unfold outV16
  refine congr (congrArg (valAt _ _ _ 2048 _) (Fin.ext ?_)) (Fin.ext e4.symm)
  show t.val * 1024 + (16 * y3.val + y2.val) = (E 0).val * 4096 + (E 3).val * 16 + (E 2).val
  omega

end Cert.Inproj
-- ==== Proof.InValRef.lean ====
/- The reference of the input projection: its values, token by token. -/
module

public import proofs.«01_k».proof.Proof.InRef
public import proofs.«01_k».proof.Proof.InValSpec

@[expose] public section

set_option backward.proofsInPublic true
set_option maxRecDepth 16384

noncomputable section

namespace Cert.Inproj

open Idealize.ShloMosaic Idealize.ShloMosaic.TcCoe Idealize.ShloMosaic.Tactic
open Idealize.SL.Sem
open Cert.Post (Row Tab rms lin)
open Cert.InprojReferenceIdeal Cert.InprojReferenceIdeal.Gen Cert.InprojReferenceIdeal.Read

variable (x0 : (⟨S16x4096x1024, .f32⟩ : BufTy).Contents (Elt Ideal)) (x1 : (⟨S16x4096, .i32⟩ : BufTy).Contents (Elt Ideal)) (x2 : (⟨S1x1024, .f32⟩ : BufTy).Contents (Elt Ideal))
  (x3 : (⟨S1x1024x5376, .f32⟩ : BufTy).Contents (Elt Ideal)) (x4 : (⟨S1x2048, .f32⟩ : BufTy).Contents (Elt Ideal))
  (x5 : (⟨S1x4x128x128, .f32⟩ : BufTy).Contents (Elt Ideal)) (x6 : (⟨S1x4x128, .f32⟩ : BufTy).Contents (Elt Ideal))
  (x7 x8 : (⟨S1x512, .f32⟩ : BufTy).Contents (Elt Ideal)) (x9 : (⟨S1x512x1024, .f32⟩ : BufTy).Contents (Elt Ideal))

theorem v80 (b : Fin 16) (r : Fin 1) (k : Fin 4096) (e : Fin 256) : val_main_v80 (F := Ideal) x0 x2 x3 (ix5 b 0 r k e)
    = val_main_v16 (F := Ideal) x0 x2 x3 (ix2 ⟨b.val * 4096 + k.val * 1 + r.val, by omega⟩ ⟨1536 + e.val, by omega⟩) := by
  pointwise [val_main_v66, val_main_v75, val_main_v76, val_main_v77, val_main_v80]

theorem res_v1 (i : S16x3x1x4096x256.Idx) (hi : (i 1).val = 2) : val_main_v82 (F := Ideal) x0 x1 x2 x3 i = outV1 x0 x2 x3 i := by
  idx_vars i
  refine Eq.trans (b := val_main_v81 (F := Ideal) x0 x1 x2 x3 (ix5 i0 i1 i2 i3 i4)) rfl ?_
  unfold val_main_v81
  refine Eq.trans (concatenate_apply_piece (t := S16x3x1x4096x256) (1 : Fin 5) _ _ _ 2 ?_ S16x1x1x4096x256 (val_main_v80 (F := Ideal) x0 x2 x3) ?_ rfl 2 ?_ (ix5 i0 0 i2 i3 i4) ?_ ?_) ?_
  · exact (by decide : 2 < 3)
  · rfl
  · rfl
  · intro b hb
    match b with
    | ⟨0, _⟩ => rfl
    | ⟨1, _⟩ => exact absurd rfl hb
    | ⟨2, _⟩ => rfl
    | ⟨3, _⟩ => rfl
    | ⟨4, _⟩ => rfl
  · show 2 + 0 = i1.val
    exact hi.symm
  · rw [v80, r16]
    rfl

theorem v96 (b : Fin 16) (r : Fin 4) (k : Fin 1024) (e : Fin 256) : val_main_v96 (F := Ideal) x0 x2 x3 (ix5 b 0 r k e)
    = val_main_v16 (F := Ideal) x0 x2 x3 (ix2 ⟨b.val * 4096 + k.val * 4 + r.val, by omega⟩ ⟨1792 + e.val, by omega⟩) := by
  pointwise [val_main_v66, val_main_v91, val_main_v92, val_main_v93, val_main_v96]
  exact congrArg (fun k => val_main_v16 (F := Ideal) x0 x2 x3 (ix2 _ k)) (Fin.ext (by show 1536 + (256 + e.val) = 1792 + e.val; omega))

theorem res_v4 (i : S16x3x4x1024x256.Idx) (hi : (i 1).val = 2) : val_main_v98 (F := Ideal) x0 x1 x2 x3 i = outV4 x0 x2 x3 i := by
  idx_vars i
  refine Eq.trans (b := val_main_v97 (F := Ideal) x0 x1 x2 x3 (ix5 i0 i1 i2 i3 i4)) rfl ?_
  unfold val_main_v97
  refine Eq.trans (concatenate_apply_piece (t := S16x3x4x1024x256) (1 : Fin 5) _ _ _ 2 ?_ S16x1x4x1024x256 (val_main_v96 (F := Ideal) x0 x2 x3) ?_ rfl 2 ?_ (ix5 i0 0 i2 i3 i4) ?_ ?_) ?_
  · exact (by decide : 2 < 3)
  · rfl
  · rfl
  · intro b hb
    match b with
    | ⟨0, _⟩ => rfl
    | ⟨1, _⟩ => exact absurd rfl hb
    | ⟨2, _⟩ => rfl
    | ⟨3, _⟩ => rfl
    | ⟨4, _⟩ => rfl
  · show 2 + 0 = i1.val
    exact hi.symm
  · rw [v96, r16]
    rfl

theorem v112 (b : Fin 16) (r : Fin 16) (k : Fin 256) (e : Fin 256) : val_main_v112 (F := Ideal) x0 x2 x3 (ix5 b 0 r k e)
    = val_main_v16 (F := Ideal) x0 x2 x3 (ix2 ⟨b.val * 4096 + k.val * 16 + r.val, by omega⟩ ⟨2048 + e.val, by omega⟩) := by
  pointwise [val_main_v66, val_main_v107, val_main_v108, val_main_v109, val_main_v112]
  exact congrArg (fun k => val_main_v16 (F := Ideal) x0 x2 x3 (ix2 _ k)) (Fin.ext (by show 1536 + (512 + e.val) = 2048 + e.val; omega))

theorem res_v16 (i : S16x3x16x256x256.Idx) (hi : (i 1).val = 2) : val_main_v114 (F := Ideal) x0 x1 x2 x3 i = outV16 x0 x2 x3 i := by
  idx_vars i
  refine Eq.trans (b := val_main_v113 (F := Ideal) x0 x1 x2 x3 (ix5 i0 i1 i2 i3 i4)) rfl ?_
  unfold val_main_v113
  refine Eq.trans (concatenate_apply_piece (t := S16x3x16x256x256) (1 : Fin 5) _ _ _ 2 ?_ S16x1x16x256x256 (val_main_v112 (F := Ideal) x0 x2 x3) ?_ rfl 2 ?_ (ix5 i0 0 i2 i3 i4) ?_ ?_) ?_
  · exact (by decide : 2 < 3)
  · rfl
  · rfl
  · intro b hb
    match b with
    | ⟨0, _⟩ => rfl
    | ⟨1, _⟩ => exact absurd rfl hb
    | ⟨2, _⟩ => rfl
    | ⟨3, _⟩ => rfl
    | ⟨4, _⟩ => rfl
  · show 2 + 0 = i1.val
    exact hi.symm
  · rw [v112, r16]
    rfl

end Cert.Inproj
-- ==== Proof.InClaims.lean ====
/- The claims about the input projection. -/
module

public import proofs.«01_k».proof.Defs
public import proofs.«01_k».proof.Proof.InRun
public import proofs.«01_k».proof.Proof.InRef
public import proofs.«01_k».proof.Proof.InValRun
public import proofs.«01_k».proof.Proof.InValRunA
public import proofs.«01_k».proof.Proof.InValRunB
public import proofs.«01_k».proof.Proof.InValRef
public import proofs.«01_k».proof.Proof.Gen.Inproj.Frame
public import proofs.«01_k».proof.Proof.Gen.InprojReferenceIdeal.Run
public import proofs.«01_k».proof.Proof.Gen.On_inproj_claimed
public import Idealize.ShloMosaic.Lib.Quiescent

@[expose] public section

set_option backward.proofsInPublic true
set_option maxRecDepth 16384

noncomputable section

namespace Cert.Inproj

open Idealize.ShloMosaic Idealize.ShloMosaic.TcCoe Idealize.SL.Sem

section
open Cert.InprojReferenceIdeal Cert.InprojReferenceIdeal.Gen Cert.InprojReferenceIdeal.Read
variable {x0 : (⟨S16x4096x1024, .f32⟩ : BufTy).Contents (Elt Ideal)} {x1 : (⟨S16x4096, .i32⟩ : BufTy).Contents (Elt Ideal)} {x2 : (⟨S1x1024, .f32⟩ : BufTy).Contents (Elt Ideal)} {x3 : (⟨S1x1024x5376, .f32⟩ : BufTy).Contents (Elt Ideal)} {x4 : (⟨S1x2048, .f32⟩ : BufTy).Contents (Elt Ideal)} {x5 : (⟨S1x4x128x128, .f32⟩ : BufTy).Contents (Elt Ideal)} {x6 : (⟨S1x4x128, .f32⟩ : BufTy).Contents (Elt Ideal)} {x7 : (⟨S1x512, .f32⟩ : BufTy).Contents (Elt Ideal)} {x8 : (⟨S1x512, .f32⟩ : BufTy).Contents (Elt Ideal)} {x9 : (⟨S1x512x1024, .f32⟩ : BufTy).Contents (Elt Ideal)}
variable {y0 : (⟨S16x4096x1024, .f32⟩ : BufTy).Contents (Elt Ideal)} {y1 : (⟨S16x4096, .i32⟩ : BufTy).Contents (Elt Ideal)} {y2 : (⟨S1x1024, .f32⟩ : BufTy).Contents (Elt Ideal)} {y3 : (⟨S1x1024x5376, .f32⟩ : BufTy).Contents (Elt Ideal)} {y4 : (⟨S1x2048, .f32⟩ : BufTy).Contents (Elt Ideal)} {y5 : (⟨S1x4x128x128, .f32⟩ : BufTy).Contents (Elt Ideal)} {y6 : (⟨S1x4x128, .f32⟩ : BufTy).Contents (Elt Ideal)} {y7 : (⟨S1x512, .f32⟩ : BufTy).Contents (Elt Ideal)} {y8 : (⟨S1x512, .f32⟩ : BufTy).Contents (Elt Ideal)} {y9 : (⟨S1x512x1024, .f32⟩ : BufTy).Contents (Elt Ideal)}

theorem same_ga (h0 : y0 = x0) (h2 : y2 = x2) (h3 : y3 = x3) (h4 : y4 = x4) : val_main_v201 (F := Ideal) y0 y2 y3 y4 = outGa x0 x2 x3 x4 := by
  subst h0 h2 h3 h4; exact res_ga _ _ _ _

theorem same_mb (h0 : y0 = x0) (h2 : y2 = x2) (h3 : y3 = x3) (h4 : y4 = x4) (h5 : y5 = x5) (h6 : y6 = x6) (h7 : y7 = x7) (h8 : y8 = x8) (h9 : y9 = x9) : val_main_v205 (F := Ideal) y0 y2 y3 y4 y5 y6 y7 y8 y9 = outMb x0 x2 x3 x4 x5 x6 x7 x8 x9 := by
  subst h0 h2 h3 h4 h5 h6 h7 h8 h9; exact res_mb _ _ _ _ _ _ _ _ _

theorem same_v1 (h0 : y0 = x0) (h2 : y2 = x2) (h3 : y3 = x3) (i : S16x3x1x4096x256.Idx) (hi : (i 1).val = 2) : val_main_v82 (F := Ideal) y0 y1 y2 y3 i = outV1 x0 x2 x3 i := by
  subst h0 h2 h3; exact res_v1 _ _ _ _ i hi

theorem same_v4 (h0 : y0 = x0) (h2 : y2 = x2) (h3 : y3 = x3) (i : S16x3x4x1024x256.Idx) (hi : (i 1).val = 2) : val_main_v98 (F := Ideal) y0 y1 y2 y3 i = outV4 x0 x2 x3 i := by
  subst h0 h2 h3; exact res_v4 _ _ _ _ i hi

theorem same_v16 (h0 : y0 = x0) (h2 : y2 = x2) (h3 : y3 = x3) (i : S16x3x16x256x256.Idx) (hi : (i 1).val = 2) : val_main_v114 (F := Ideal) y0 y1 y2 y3 i = outV16 x0 x2 x3 i := by
  subst h0 h2 h3; exact res_v16 _ _ _ _ i hi

/-- Of the queries, keys and values, the mask selects the values. -/
theorem is_value : ∀ n : Fin 3, IntOp.cmpi .eq (BitVec.ofNat 32 n.val) 2#32 = 1#1 → n.val = 2 := by decide
end

theorem frame_kernel : Cert.quiescent_Inproj := fun m ρ _ => Cert.Inproj.Gen.frame m ρ
theorem frame_ideal : Cert.quiescent_InprojIdeal := fun m ρ _ => Cert.InprojIdeal.Gen.frame m ρ
theorem frame_reference : Cert.quiescent_InprojReferenceIdeal := fun m ρ _ =>
  (θ_run Cert.InprojReferenceIdeal.defs _ _).mono (fun r h => ⟨fun c => (h c).2.2.2.2.2, Idealize.ShloMosaic.sem_eq_zero_of_no_sems (by decide) r.2⟩)
    (Cert.InprojReferenceIdeal.Value.run (F := Ideal) m ρ)

theorem preserves : Cert.preserves_Inproj_InprojIdeal := trivial

/-- The input projection computes the reference's two gate results, and its values at every entry of the query, key and value arrays that holds one. -/
theorem algebraic : Cert.algebraic_InprojIdeal_InprojReferenceIdeal_on_inproj_claimed := by
  intro m ρ m' ρ' _ hagree
  refine ⟨fun c => outV1 (m ((c.tc : Thread Cert.InprojIdeal.nD Cert.InprojIdeal.τ).loc Cert.InprojIdeal.main_arg0)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)),
    fun c => outV4 (m ((c.tc : Thread Cert.InprojIdeal.nD Cert.InprojIdeal.τ).loc Cert.InprojIdeal.main_arg0)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)),
    fun c => outV16 (m ((c.tc : Thread Cert.InprojIdeal.nD Cert.InprojIdeal.τ).loc Cert.InprojIdeal.main_arg0)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)),
    fun c => outGa (m ((c.tc : Thread Cert.InprojIdeal.nD Cert.InprojIdeal.τ).loc Cert.InprojIdeal.main_arg0)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)),
    fun c => outMb (m ((c.tc : Thread Cert.InprojIdeal.nD Cert.InprojIdeal.τ).loc Cert.InprojIdeal.main_arg0)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)), ?_, ?_⟩
  · refine (θ_run Cert.InprojIdeal.defs _ _).mono (fun _ h c => ?_) (Cert.InprojIdeal.Value.run_blocks (F := Ideal) m ρ)
    obtain ⟨k0, k1, k2, k3, k4, k⟩ := h c
    exact ⟨fun i hi => (congrFun k0 i).trans (fin12 m c i (is_value (i 1) hi)), fun i hi => (congrFun k1 i).trans (fin13 m c i (is_value (i 1) hi)),
      fun i hi => (congrFun k2 i).trans (fin14 m c i (is_value (i 1) hi)),
      fun i _ => congrFun (k3.trans (fin15 m c)) i, fun i _ => congrFun (k4.trans (fin16 m c)) i, k⟩
  · refine (θ_run Cert.InprojReferenceIdeal.defs _ _).mono (fun _ h c => ?_) (Cert.InprojReferenceIdeal.Value.run (F := Ideal) m' ρ')
    obtain ⟨k0, k1, k2, k3, k4, k⟩ := h c
    obtain ⟨h0, h1, h2, h3, h4, h5, h6, h7, h8, h9⟩ := hagree c
    exact ⟨fun i hi => (congrFun (k0.trans (Cert.InprojReferenceIdeal.Read.val_main_v82_eq _)) i).trans (same_v1 h0 h2 h3 i (is_value (i 1) hi)),
      fun i hi => (congrFun (k1.trans (Cert.InprojReferenceIdeal.Read.val_main_v98_eq _)) i).trans (same_v4 h0 h2 h3 i (is_value (i 1) hi)),
      fun i hi => (congrFun (k2.trans (Cert.InprojReferenceIdeal.Read.val_main_v114_eq _)) i).trans (same_v16 h0 h2 h3 i (is_value (i 1) hi)),
      fun i _ => congrFun ((k3.trans (Cert.InprojReferenceIdeal.Read.val_main_v201_eq _)).trans (same_ga h0 h2 h3 h4)) i,
      fun i _ => congrFun ((k4.trans (Cert.InprojReferenceIdeal.Read.val_main_v205_eq _)).trans (same_mb h0 h2 h3 h4 h5 h6 h7 h8 h9)) i, k⟩

end Cert.Inproj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostReferenceIdeal
public import proofs.«01_k».proof.Proof.Gen.PostReferenceIdeal.Read
public import proofs.«01_k».proof.Proof.Gen.PostReferenceIdeal.Run
public import proofs.«01_k».proof.Proof.Gen.PostIdeal.Value
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.InprojReferenceIdeal.Read
public import proofs.«01_k».proof.Proof.Gen.InprojReferenceIdeal.Run
public import proofs.«01_k».proof.Proof.Gen.InprojIdeal.Value
public import proofs.«01_k».proof.Proof.Gen.On_inproj_claimed
public import proofs.«01_k».proof.Proof.CombineClaims
public import proofs.«01_k».proof.Proof.PostClaims
public import proofs.«01_k».proof.Proof.InClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Post.Gen.facts, Cert.PostIdeal.Gen.facts, Cert.PostReferenceIdeal.Gen.facts,
  Cert.Inproj.Gen.facts, Cert.InprojIdeal.Gen.facts, Cert.InprojReferenceIdeal.Gen.facts, Cert.On_inproj_claimed.Gen.facts,
  Cert.Combine.frame_kernel, Cert.Combine.frame_ideal, Cert.Combine.frame_reference,
  Cert.Post.frame_kernel, Cert.Post.frame_ideal, Cert.Post.frame_reference,
  Cert.Inproj.frame_kernel, Cert.Inproj.frame_ideal, Cert.Inproj.frame_reference,
  Cert.Combine.preserves, Cert.Combine.algebraic, Cert.Post.preserves, Cert.Post.algebraic,
  Cert.Inproj.preserves, Cert.Inproj.algebraic⟩

end Cert.Proof

end
